-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def Pre_Kernel2 [hPre_routed : Cert.Pre_routed.Facts] (m : (ℓ : Loc Cert.Kernel2.nD Cert.Kernel2.τ Cert.Kernel2.sig) → Buf (Elt Bits) ℓ) : Prop :=
  ∀ c : Dev Cert.Kernel2.nD,
    (Cert.Pre_routed.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5)) (m ((c.tc : Thread Cert.Kernel2.nD Cert.Kernel2.τ).loc Cert.Kernel2.main_arg6))) = (fun _ => 1#1)

def Pre_Kernel2Ideal [hPre_routed : Cert.Pre_routed.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_routed.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_routed [hPre_routed : Cert.Pre_routed.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_routed.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] [hPre_routed : Cert.Pre_routed.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] [hPre_routed : Cert.Pre_routed.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Reference2Ideal_pre_routed [hReference2Ideal : Cert.Reference2Ideal.Facts] [hPre_routed : Cert.Pre_routed.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_routed m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10)
      ∧ r.2.mem ((c.tc : Thread Cert.Kernel3.nD Cert.Kernel3.τ).loc Cert.Kernel3.main_arg11) = m ((c.tc : Thread Cert.Kernel3.nD Cert.Kernel3.τ).loc Cert.Kernel3.main_arg11))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v74) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal [hKernel2Ideal : Cert.Kernel2Ideal.Facts] [hReference2Ideal : Cert.Reference2Ideal.Facts] [hPre_routed : Cert.Pre_routed.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v58) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)
      ∧ m' ((c.tc : Thread Cert.Reference3Ideal.nD Cert.Reference3Ideal.τ).loc Cert.Reference3Ideal.main_arg11) = m ((c.tc : Thread Cert.Kernel3Ideal.nD Cert.Kernel3Ideal.τ).loc Cert.Kernel3Ideal.main_arg11)) →
    ∃ (v0 : (c : Dev Cert.Kernel3Ideal.nD) → Buf (Elt Ideal) ((c.tc : Thread Cert.Kernel3Ideal.nD Cert.Kernel3Ideal.τ).loc Cert.Kernel3Ideal.main_v0_5)) (v1 : (c : Dev Cert.Kernel3Ideal.nD) → Buf (Elt Ideal) ((c.tc : Thread Cert.Kernel3Ideal.nD Cert.Kernel3Ideal.τ).loc Cert.Kernel3Ideal.main_v0_6)) (v2 : (c : Dev Cert.Kernel3Ideal.nD) → Buf (Elt Ideal) ((c.tc : Thread Cert.Kernel3Ideal.nD Cert.Kernel3Ideal.τ).loc Cert.Kernel3Ideal.main_v0_7)) (v3 : (c : Dev Cert.Kernel3Ideal.nD) → Buf (Elt Ideal) ((c.tc : Thread Cert.Kernel3Ideal.nD Cert.Kernel3Ideal.τ).loc Cert.Kernel3Ideal.main_v0_8)) (v4 : (c : Dev Cert.Kernel3Ideal.nD) → Buf (Elt Ideal) ((c.tc : Thread Cert.Kernel3Ideal.nD Cert.Kernel3Ideal.τ).loc Cert.Kernel3Ideal.main_v0_9)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0_5) = v0 c
          ∧ r.2.mem ((c.tc : Thread Cert.Kernel3Ideal.nD Cert.Kernel3Ideal.τ).loc Cert.Kernel3Ideal.main_v0_6) = v1 c
          ∧ r.2.mem ((c.tc : Thread Cert.Kernel3Ideal.nD Cert.Kernel3Ideal.τ).loc Cert.Kernel3Ideal.main_v0_7) = v2 c
          ∧ r.2.mem ((c.tc : Thread Cert.Kernel3Ideal.nD Cert.Kernel3Ideal.τ).loc Cert.Kernel3Ideal.main_v0_8) = v3 c
          ∧ r.2.mem ((c.tc : Thread Cert.Kernel3Ideal.nD Cert.Kernel3Ideal.τ).loc Cert.Kernel3Ideal.main_v0_9) = v4 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
          ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v18) = v0 c
          ∧ r.2.mem ((c.tc : Thread Cert.Reference3Ideal.nD Cert.Reference3Ideal.τ).loc Cert.Reference3Ideal.main_v20) = v1 c
          ∧ r.2.mem ((c.tc : Thread Cert.Reference3Ideal.nD Cert.Reference3Ideal.τ).loc Cert.Reference3Ideal.main_v19) = v2 c
          ∧ r.2.mem ((c.tc : Thread Cert.Reference3Ideal.nD Cert.Reference3Ideal.τ).loc Cert.Reference3Ideal.main_v23) = v3 c
          ∧ r.2.mem ((c.tc : Thread Cert.Reference3Ideal.nD Cert.Reference3Ideal.τ).loc Cert.Reference3Ideal.main_v29) = v4 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10)
          ∧ r.2.mem ((c.tc : Thread Cert.Reference3Ideal.nD Cert.Reference3Ideal.τ).loc Cert.Reference3Ideal.main_arg11) = m' ((c.tc : Thread Cert.Reference3Ideal.nD Cert.Reference3Ideal.τ).loc Cert.Reference3Ideal.main_arg11))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_finite : Cert.Pre_finite.Facts) (hPre_routed : Cert.Pre_routed.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2) (hPre_routed := hPre_routed)
    ∧ quiescent_Kernel2Ideal (hKernel2Ideal := hKernel2Ideal) (hPre_routed := hPre_routed)
    ∧ quiescent_Reference2Ideal (hReference2Ideal := hReference2Ideal)
    ∧ quiescent_Reference2Ideal_pre_routed (hReference2Ideal := hReference2Ideal) (hPre_routed := hPre_routed)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal) (hPre_routed := hPre_routed)
    ∧ preserves_Kernel3_Kernel3Ideal
    ∧ algebraic_Kernel3Ideal_Reference3Ideal (hKernel3Ideal := hKernel3Ideal) (hReference3Ideal := hReference3Ideal)
-- ==== Pre_finite.lean ====
abbrev S1 : Shape := ⟨1, ![1]⟩
abbrev S2x8192x1024 : Shape := ⟨3, ![2, 8192, 1024]⟩
abbrev S32x1024x512 : Shape := ⟨3, ![32, 1024, 512]⟩
abbrev S1x128 : Shape := ⟨2, ![1, 128]⟩
abbrev S_ : Shape := ⟨0, ![]⟩

class Facts : Prop where
  bcast_S_S1 : S_.BroadcastsInDim S1 (![] : Fin 0 → Fin S1.rank)
  reducesTo_S1_S_d0 : S1.ReducesTo [0] S_
  h_S_ : 0 < S_.numel
  bitsLt_bf16_f32 : FTy.bits .bf16 < FTy.bits .f32
  bcast_S_S2x8192x1024 : S_.BroadcastsInDim S2x8192x1024 (![] : Fin 0 → Fin S2x8192x1024.rank)
  reducesTo_S2x8192x1024_S_d0_1_2 : S2x8192x1024.ReducesTo [0, 1, 2] S_
  bcast_S_S32x1024x512 : S_.BroadcastsInDim S32x1024x512 (![] : Fin 0 → Fin S32x1024x512.rank)
  reducesTo_S32x1024x512_S_d0_1_2 : S32x1024x512.ReducesTo [0, 1, 2] S_

variable [Facts]

def fn_part1 {F : FTy → Type} [FloatOps F] (main_arg4 : FVec F S2x8192x1024 .bf16) (main_arg5 : FVec F S32x1024x512 .bf16) (main_v15 : IVec S_ 1) (main_v17 : FVec F S2x8192x1024 .f32) : IVec S_ 1 :=
  let main_cst_4 : FVec F S_ .f32 := constant S_ .f32 0x7F800000#32
  let main_v18 : FVec F S2x8192x1024 .f32 := broadcastInDim S2x8192x1024 ![] bcast_S_S2x8192x1024 main_cst_4
  let main_v19 : IVec S2x8192x1024 1 := cmpf .olt main_v17 main_v18
  let main_c_5 : IVec S_ 1 := constantI S_ 1 1#1
  let main_v20 : IVec S_ 1 := (fun x v => Host.reduce IntOp.andi x v reducesTo_S2x8192x1024_S_d0_1_2 h_S_) main_v19 main_c_5
  let main_v21 : IVec S_ 1 := andi main_v15 main_v20
  let main_v22 : FVec F S2x8192x1024 .f32 := (extf .f32 · bitsLt_bf16_f32) main_arg4
  let main_v23 : FVec F S2x8192x1024 .f32 := Host.absf main_v22
  let main_cst_6 : FVec F S_ .f32 := constant S_ .f32 0x7F800000#32
  let main_v24 : FVec F S2x8192x1024 .f32 := broadcastInDim S2x8192x1024 ![] bcast_S_S2x8192x1024 main_cst_6
  let main_v25 : IVec S2x8192x1024 1 := cmpf .olt main_v23 main_v24
  let main_c_7 : IVec S_ 1 := constantI S_ 1 1#1
  let main_v26 : IVec S_ 1 := (fun x v => Host.reduce IntOp.andi x v reducesTo_S2x8192x1024_S_d0_1_2 h_S_) main_v25 main_c_7
  let main_v27 : IVec S_ 1 := andi main_v21 main_v26
  let main_v28 : FVec F S32x1024x512 .f32 := (extf .f32 · bitsLt_bf16_f32) main_arg5
  let main_v29 : FVec F S32x1024x512 .f32 := Host.absf main_v28
  let main_cst_8 : FVec F S_ .f32 := constant S_ .f32 0x7F800000#32
  let main_v30 : FVec F S32x1024x512 .f32 := broadcastInDim S32x1024x512 ![] bcast_S_S32x1024x512 main_cst_8
  let main_v31 : IVec S32x1024x512 1 := cmpf .olt main_v29 main_v30
  let main_c_9 : IVec S_ 1 := constantI S_ 1 1#1
  let main_v32 : IVec S_ 1 := (fun x v => Host.reduce IntOp.andi x v reducesTo_S32x1024x512_S_d0_1_2 h_S_) main_v31 main_c_9
  let main_v33 : IVec S_ 1 := andi main_v27 main_v32
  main_v33

def fn {F : FTy → Type} [FloatOps F] (main_arg0 : FVec F S1 .f32) (main_arg1 : FVec F S2x8192x1024 .bf16) (main_arg2 : FVec F S2x8192x1024 .bf16) (main_arg3 : FVec F S2x8192x1024 .bf16) (main_arg4 : FVec F S2x8192x1024 .bf16) (main_arg5 : FVec F S32x1024x512 .bf16) (main_arg6 : FVec F S1x128 .f32) : IVec S_ 1 :=
  let main_v0 : FVec F S1 .f32 := Host.absf main_arg0
  let main_cst : FVec F S_ .f32 := constant S_ .f32 0x7F800000#32
  let main_v1 : FVec F S1 .f32 := broadcastInDim S1 ![] bcast_S_S1 main_cst
  let main_v2 : IVec S1 1 := cmpf .olt main_v0 main_v1
  let main_c : IVec S_ 1 := constantI S_ 1 1#1
  let main_v3 : IVec S_ 1 := (fun x v => Host.reduce IntOp.andi x v reducesTo_S1_S_d0 h_S_) main_v2 main_c
  let main_v4 : FVec F S2x8192x1024 .f32 := (extf .f32 · bitsLt_bf16_f32) main_arg1
  let main_v5 : FVec F S2x8192x1024 .f32 := Host.absf main_v4
  let main_cst_0 : FVec F S_ .f32 := constant S_ .f32 0x7F800000#32
  let main_v6 : FVec F S2x8192x1024 .f32 := broadcastInDim S2x8192x1024 ![] bcast_S_S2x8192x1024 main_cst_0
  let main_v7 : IVec S2x8192x1024 1 := cmpf .olt main_v5 main_v6
  let main_c_1 : IVec S_ 1 := constantI S_ 1 1#1
  let main_v8 : IVec S_ 1 := (fun x v => Host.reduce IntOp.andi x v reducesTo_S2x8192x1024_S_d0_1_2 h_S_) main_v7 main_c_1
  let main_v9 : IVec S_ 1 := andi main_v3 main_v8
  let main_v10 : FVec F S2x8192x1024 .f32 := (extf .f32 · bitsLt_bf16_f32) main_arg2
  let main_v11 : FVec F S2x8192x1024 .f32 := Host.absf main_v10
  let main_cst_2 : FVec F S_ .f32 := constant S_ .f32 0x7F800000#32
  let main_v12 : FVec F S2x8192x1024 .f32 := broadcastInDim S2x8192x1024 ![] bcast_S_S2x8192x1024 main_cst_2
  let main_v13 : IVec S2x8192x1024 1 := cmpf .olt main_v11 main_v12
  let main_c_3 : IVec S_ 1 := constantI S_ 1 1#1
  let main_v14 : IVec S_ 1 := (fun x v => Host.reduce IntOp.andi x v reducesTo_S2x8192x1024_S_d0_1_2 h_S_) main_v13 main_c_3
  let main_v15 : IVec S_ 1 := andi main_v9 main_v14
  let main_v16 : FVec F S2x8192x1024 .f32 := (extf .f32 · bitsLt_bf16_f32) main_arg3
  let main_v17 : FVec F S2x8192x1024 .f32 := Host.absf main_v16
  fn_part1 (F := F) main_arg4 main_arg5 main_v15 main_v17
-- ==== Pre_routed.lean ====
abbrev S290 : Shape := ⟨1, ![290]⟩
abbrev S1 : Shape := ⟨1, ![1]⟩
abbrev S74240x1024 : Shape := ⟨2, ![74240, 1024]⟩
abbrev S32x1024x2048 : Shape := ⟨3, ![32, 1024, 2048]⟩
abbrev S32x1x2048 : Shape := ⟨3, ![32, 1, 2048]⟩
abbrev S32x1024x1024 : Shape := ⟨3, ![32, 1024, 1024]⟩
abbrev S32x1x1024 : Shape := ⟨3, ![32, 1, 1024]⟩
abbrev S_ : Shape := ⟨0, ![]⟩

class Facts : Prop where
  bcast_S_S290 : S_.BroadcastsInDim S290 (![] : Fin 0 → Fin S290.rank)
  reducesTo_S290_S_d0 : S290.ReducesTo [0] S_
  h_S_ : 0 < S_.numel
  bcast_S_S1 : S_.BroadcastsInDim S1 (![] : Fin 0 → Fin S1.rank)
  reducesTo_S1_S_d0 : S1.ReducesTo [0] S_

variable [Facts]

def fn {F : FTy → Type} [FloatOps F] (main_arg0 : IVec S290 32) (main_arg1 : IVec S1 32) (main_arg2 : FVec F S74240x1024 .f32) (main_arg3 : FVec F S32x1024x2048 .f32) (main_arg4 : FVec F S32x1x2048 .f32) (main_arg5 : FVec F S32x1024x1024 .f32) (main_arg6 : FVec F S32x1x1024 .f32) : IVec S_ 1 :=
  let main_c : IVec S_ 32 := constantI S_ 32 0#32
  let main_v0 : IVec S290 32 := broadcastInDim S290 ![] bcast_S_S290 main_c
  let main_v1 : IVec S290 1 := cmpi .sge main_arg0 main_v0
  let main_c_0 : IVec S_ 32 := constantI S_ 32 32#32
  let main_v2 : IVec S290 32 := broadcastInDim S290 ![] bcast_S_S290 main_c_0
  let main_v3 : IVec S290 1 := cmpi .slt main_arg0 main_v2
  let main_v4 : IVec S290 1 := andi main_v1 main_v3
  let main_c_1 : IVec S_ 1 := constantI S_ 1 1#1
  let main_v5 : IVec S_ 1 := (fun x v => Host.reduce IntOp.andi x v reducesTo_S290_S_d0 h_S_) main_v4 main_c_1
  let main_c_2 : IVec S_ 32 := constantI S_ 32 1#32
  let main_v6 : IVec S1 32 := broadcastInDim S1 ![] bcast_S_S1 main_c_2
  let main_v7 : IVec S1 1 := cmpi .sge main_arg1 main_v6
  let main_c_3 : IVec S_ 1 := constantI S_ 1 1#1
  let main_v8 : IVec S_ 1 := (fun x v => Host.reduce IntOp.andi x v reducesTo_S1_S_d0 h_S_) main_v7 main_c_3
  let main_v9 : IVec S_ 1 := andi main_v5 main_v8
  main_v9
-- ==== Kernel.lean ====
abbrev S1 : Shape := ⟨1, ![1]⟩
abbrev S2x8192x1024 : Shape := ⟨3, ![2, 8192, 1024]⟩
abbrev S32x1024x512 : Shape := ⟨3, ![32, 1024, 512]⟩
abbrev S1x128 : Shape := ⟨2, ![1, 128]⟩
abbrev S1x512x128 : Shape := ⟨3, ![1, 512, 128]⟩
abbrev S1x8192x128 : Shape := ⟨3, ![1, 8192, 128]⟩
abbrev S16x128x512 : Shape := ⟨3, ![16, 128, 512]⟩
abbrev S144x1024 : Shape := ⟨2, ![144, 1024]⟩
abbrev S1x1024 : Shape := ⟨2, ![1, 1024]⟩
abbrev S512x1024 : Shape := ⟨2, ![512, 1024]⟩
abbrev S512x128 : Shape := ⟨2, ![512, 128]⟩
abbrev S512x256 : Shape := ⟨2, ![512, 256]⟩
abbrev S1024x256 : Shape := ⟨2, ![1024, 256]⟩
abbrev S16x512 : Shape := ⟨2, ![16, 512]⟩
abbrev S1x128x512 : Shape := ⟨3, ![1, 128, 512]⟩
abbrev S128x512 : Shape := ⟨2, ![128, 512]⟩
abbrev S144x512 : Shape := ⟨2, ![144, 512]⟩
abbrev S1024 : Shape := ⟨1, ![1024]⟩
abbrev S1x512 : Shape := ⟨2, ![1, 512]⟩
abbrev S512 : Shape := ⟨1, ![512]⟩
abbrev S512x1 : Shape := ⟨2, ![512, 1]⟩

abbrev nBuf : Space → Nat
  | .hbm => 8
  | .vmem => 17
  | .smem => 1
  | _ => 0

abbrev bufTy : (tb : Table) → Fin (tcTables nBuf tb) → BufTy
  | .hbm, ⟨0, _⟩ => ⟨S1, .f32⟩
  | .hbm, ⟨1, _⟩ => ⟨S2x8192x1024, .bf16⟩
  | .hbm, ⟨2, _⟩ => ⟨S2x8192x1024, .bf16⟩
  | .hbm, ⟨3, _⟩ => ⟨S2x8192x1024, .bf16⟩
  | .hbm, ⟨4, _⟩ => ⟨S2x8192x1024, .bf16⟩
  | .hbm, ⟨5, _⟩ => ⟨S32x1024x512, .bf16⟩
  | .hbm, ⟨6, _⟩ => ⟨S1x128, .f32⟩
  | .hbm, ⟨7, _⟩ => ⟨S2x8192x1024, .bf16⟩
  | .local _ .vmem, ⟨0, _⟩ => ⟨S1x512x128, .bf16⟩
  | .local _ .vmem, ⟨1, _⟩ => ⟨S1x512x128, .bf16⟩
  | .local _ .vmem, ⟨2, _⟩ => ⟨S1x512x128, .bf16⟩
  | .local _ .vmem, ⟨3, _⟩ => ⟨S1x512x128, .bf16⟩
  | .local _ .vmem, ⟨4, _⟩ => ⟨S1x8192x128, .bf16⟩
  | .local _ .vmem, ⟨5, _⟩ => ⟨S1x8192x128, .bf16⟩
  | .local _ .vmem, ⟨6, _⟩ => ⟨S1x8192x128, .bf16⟩
  | .local _ .vmem, ⟨7, _⟩ => ⟨S1x8192x128, .bf16⟩
  | .local _ .vmem, ⟨8, _⟩ => ⟨S16x128x512, .bf16⟩
  | .local _ .vmem, ⟨9, _⟩ => ⟨S16x128x512, .bf16⟩
  | .local _ .vmem, ⟨10, _⟩ => ⟨S1x128, .f32⟩
  | .local _ .vmem, ⟨11, _⟩ => ⟨S1x512x128, .bf16⟩
  | .local _ .vmem, ⟨12, _⟩ => ⟨S1x512x128, .bf16⟩
  | .local _ .vmem, ⟨13, _⟩ => ⟨S144x1024, .f32⟩
  | .local _ .vmem, ⟨14, _⟩ => ⟨S1x1024, .f32⟩
  | .local _ .vmem, ⟨15, _⟩ => ⟨S512x1024, .f32⟩
  | .local _ .vmem, ⟨16, _⟩ => ⟨S512x1024, .f32⟩
  | .local _ .smem, ⟨0, _⟩ => ⟨S1, .f32⟩
  | _, _ => ⟨S1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .smem, ⟨0, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_scratch3 : Ref sig .tc := ⟨.vmem, 16, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨3, ![2, 8, 16], ![false, false, false]⟩

def k0_mult1 : BitVec 32 :=
  let c0_i32 : BitVec 32 := 0#32
  c0_i32
@[reducible] def k0_t1_loop (i : grid0.Coords) : Scf.Loop 32 :=
  let c0_i32_25 : BitVec 32 := 0#32
  let arg2 : BitVec 32 := BitVec.ofNat 32 (i 2).val
  let c0_i32_19 : BitVec 32 := 0#32
  let v36 : BitVec 1 := Scalar.cmpi .sgt arg2 c0_i32_19
  let v37 : BitVec 32 := Scalar.extui v36
  let c0_i32_20 : BitVec 32 := 0#32
  let v38 : BitVec 1 := Scalar.cmpi .slt arg2 c0_i32_20
  let v39 : BitVec 32 := Scalar.extui v38
  let v40 : BitVec 32 := Scalar.subi v37 v39
  let c2_i32 : BitVec 32 := 2#32
  let c0_i32_21 : BitVec 32 := 0#32
  let v41 : BitVec 1 := Scalar.cmpi .sgt c2_i32 c0_i32_21
  let v42 : BitVec 32 := Scalar.extui v41
  let c0_i32_22 : BitVec 32 := 0#32
  let v43 : BitVec 1 := Scalar.cmpi .slt c2_i32 c0_i32_22
  let v44 : BitVec 32 := Scalar.extui v43
  let v45 : BitVec 32 := Scalar.subi v42 v44
  let v46 : BitVec 1 := Scalar.cmpi .ne v40 v45
  let v47 : BitVec 32 := Scalar.remsi arg2 c2_i32
  let c0_i32_23 : BitVec 32 := 0#32
  let v48 : BitVec 1 := Scalar.cmpi .ne v47 c0_i32_23
  let v49 : BitVec 1 := Scalar.andi v46 v48
  let v35 : BitVec 32 := Scalar.divsi arg2 c2_i32
  let c1_i32 : BitVec 32 := 1#32
  let v50 : BitVec 32 := Scalar.subi v35 c1_i32
  let v51 : BitVec 32 := Scalar.select v49 v50 v35
  let v52 : BitVec 32 := Scalar.subi v51 c0_i32_25
  let c1_i32_26 : BitVec 32 := 1#32
  let v54 : BitVec 32 := Scalar.divsi v52 c1_i32_26
  let v55 : BitVec 32 := Scalar.muli v54 c1_i32_26
  let v56 : BitVec 32 := Scalar.addi c0_i32_25 v55
  let c1_i32_27 : BitVec 32 := 1#32
  ⟨c0_i32_25, v56, c1_i32_27⟩
def k0_mult2 (i : grid0.Coords) (k0_t1 : Fin (k0_t1_loop i).trips) : BitVec 32 :=
  let c2_i32_50 : BitVec 32 := 2#32
  let c0_i32_25 : BitVec 32 := 0#32
  let c1_i32_27 : BitVec 32 := 1#32
  let arg15 : BitVec 32 := Scf.iv c0_i32_25 c1_i32_27 k0_t1
  let v98 : BitVec 32 := Scalar.muli c2_i32_50 arg15
  let c1_i32_51 : BitVec 32 := 1#32
  let v99 : BitVec 32 := Scalar.addi v98 c1_i32_51
  let c512_i32 : BitVec 32 := 512#32
  let v100 : BitVec 32 := Scalar.muli v99 c512_i32
  v100
def k0_off1 (i : grid0.Coords) (k0_t1 : Fin (k0_t1_loop i).trips) (c1_i32_51 : BitVec 32) : Fin 3 → Nat :=
  let c0_52 : Index := 0#32
  let c2_i32_50 : BitVec 32 := 2#32
  let c0_i32_25 : BitVec 32 := 0#32
  let c1_i32_27 : BitVec 32 := 1#32
  let arg15 : BitVec 32 := Scf.iv c0_i32_25 c1_i32_27 k0_t1
  let v98 : BitVec 32 := Scalar.muli c2_i32_50 arg15
  let v99 : BitVec 32 := Scalar.addi v98 c1_i32_51
  let c512_i32 : BitVec 32 := 512#32
  let v100 : BitVec 32 := Scalar.muli v99 c512_i32
  let v101 : BitVec 32 := v100
  let v102 : Index := Scalar.indexCast v101
  let c0_53 : Index := 0#32
  ![0, v102.toNat, 0]
def k0_off2 (i : grid0.Coords) (k0_t1 : Fin (k0_t1_loop i).trips) : Fin 3 → Nat :=
  let c2_i32_59 : BitVec 32 := 2#32
  let c0_i32_25 : BitVec 32 := 0#32
  let c1_i32_27 : BitVec 32 := 1#32
  let arg15 : BitVec 32 := Scf.iv c0_i32_25 c1_i32_27 k0_t1
  let v113 : BitVec 32 := Scalar.muli c2_i32_59 arg15
  let v114 : Index := Scalar.indexCast v113
  let c0_60 : Index := 0#32
  let c0_61 : Index := 0#32
  ![v114.toNat, 0, 0]
def k0_mult3 (i : grid0.Coords) (k0_t1 : Fin (k0_t1_loop i).trips) : BitVec 32 :=
  let c2_i32_74 : BitVec 32 := 2#32
  let c0_i32_25 : BitVec 32 := 0#32
  let c1_i32_27 : BitVec 32 := 1#32
  let arg15 : BitVec 32 := Scf.iv c0_i32_25 c1_i32_27 k0_t1
  let v140 : BitVec 32 := Scalar.muli c2_i32_74 arg15
  let c2_i32_75 : BitVec 32 := 2#32
  let v141 : BitVec 32 := Scalar.addi v140 c2_i32_75
  let c512_i32_76 : BitVec 32 := 512#32
  let v142 : BitVec 32 := Scalar.muli v141 c512_i32_76
  v142
def k0_off3 (i : grid0.Coords) (k0_t1 : Fin (k0_t1_loop i).trips) : Fin 3 → Nat :=
  let c2_i32_84 : BitVec 32 := 2#32
  let c0_i32_25 : BitVec 32 := 0#32
  let c1_i32_27 : BitVec 32 := 1#32
  let arg15 : BitVec 32 := Scf.iv c0_i32_25 c1_i32_27 k0_t1
  let v155 : BitVec 32 := Scalar.muli c2_i32_84 arg15
  let c1_i32_85 : BitVec 32 := 1#32
  let v156 : BitVec 32 := Scalar.addi v155 c1_i32_85
  let v157 : Index := Scalar.indexCast v156
  let c0_86 : Index := 0#32
  let c0_87 : Index := 0#32
  ![v157.toNat, 0, 0]
@[reducible] def k0_t2_loop (i : grid0.Coords) : Scf.Loop 32 :=
  let c0_i32_25 : BitVec 32 := 0#32
  let arg2 : BitVec 32 := BitVec.ofNat 32 (i 2).val
  let c0_i32_19 : BitVec 32 := 0#32
  let v36 : BitVec 1 := Scalar.cmpi .sgt arg2 c0_i32_19
  let v37 : BitVec 32 := Scalar.extui v36
  let c0_i32_20 : BitVec 32 := 0#32
  let v38 : BitVec 1 := Scalar.cmpi .slt arg2 c0_i32_20
  let v39 : BitVec 32 := Scalar.extui v38
  let v40 : BitVec 32 := Scalar.subi v37 v39
  let c2_i32 : BitVec 32 := 2#32
  let c0_i32_21 : BitVec 32 := 0#32
  let v41 : BitVec 1 := Scalar.cmpi .sgt c2_i32 c0_i32_21
  let v42 : BitVec 32 := Scalar.extui v41
  let c0_i32_22 : BitVec 32 := 0#32
  let v43 : BitVec 1 := Scalar.cmpi .slt c2_i32 c0_i32_22
  let v44 : BitVec 32 := Scalar.extui v43
  let v45 : BitVec 32 := Scalar.subi v42 v44
  let v46 : BitVec 1 := Scalar.cmpi .ne v40 v45
  let v47 : BitVec 32 := Scalar.remsi arg2 c2_i32
  let c0_i32_23 : BitVec 32 := 0#32
  let v48 : BitVec 1 := Scalar.cmpi .ne v47 c0_i32_23
  let v49 : BitVec 1 := Scalar.andi v46 v48
  let v35 : BitVec 32 := Scalar.divsi arg2 c2_i32
  let c1_i32 : BitVec 32 := 1#32
  let v50 : BitVec 32 := Scalar.subi v35 c1_i32
  let v51 : BitVec 32 := Scalar.select v49 v50 v35
  let v52 : BitVec 32 := Scalar.subi v51 c0_i32_25
  let c1_i32_26 : BitVec 32 := 1#32
  let v54 : BitVec 32 := Scalar.divsi v52 c1_i32_26
  let v55 : BitVec 32 := Scalar.muli v54 c1_i32_26
  let v56 : BitVec 32 := Scalar.addi c0_i32_25 v55
  let v53 : BitVec 32 := Scalar.addi c0_i32_25 v52
  let c1_i32_28 : BitVec 32 := 1#32
  ⟨v56, v53, c1_i32_28⟩
def k0_mult4 (i : grid0.Coords) (k0_t2 : Fin (k0_t2_loop i).trips) : BitVec 32 :=
  let c2_i32_50 : BitVec 32 := 2#32
  let c0_i32_25 : BitVec 32 := 0#32
  let arg2 : BitVec 32 := BitVec.ofNat 32 (i 2).val
  let c0_i32_19 : BitVec 32 := 0#32
  let v36 : BitVec 1 := Scalar.cmpi .sgt arg2 c0_i32_19
  let v37 : BitVec 32 := Scalar.extui v36
  let c0_i32_20 : BitVec 32 := 0#32
  let v38 : BitVec 1 := Scalar.cmpi .slt arg2 c0_i32_20
  let v39 : BitVec 32 := Scalar.extui v38
  let v40 : BitVec 32 := Scalar.subi v37 v39
  let c2_i32 : BitVec 32 := 2#32
  let c0_i32_21 : BitVec 32 := 0#32
  let v41 : BitVec 1 := Scalar.cmpi .sgt c2_i32 c0_i32_21
  let v42 : BitVec 32 := Scalar.extui v41
  let c0_i32_22 : BitVec 32 := 0#32
  let v43 : BitVec 1 := Scalar.cmpi .slt c2_i32 c0_i32_22
  let v44 : BitVec 32 := Scalar.extui v43
  let v45 : BitVec 32 := Scalar.subi v42 v44
  let v46 : BitVec 1 := Scalar.cmpi .ne v40 v45
  let v47 : BitVec 32 := Scalar.remsi arg2 c2_i32
  let c0_i32_23 : BitVec 32 := 0#32
  let v48 : BitVec 1 := Scalar.cmpi .ne v47 c0_i32_23
  let v49 : BitVec 1 := Scalar.andi v46 v48
  let v35 : BitVec 32 := Scalar.divsi arg2 c2_i32
  let c1_i32 : BitVec 32 := 1#32
  let v50 : BitVec 32 := Scalar.subi v35 c1_i32
  let v51 : BitVec 32 := Scalar.select v49 v50 v35
  let v52 : BitVec 32 := Scalar.subi v51 c0_i32_25
  let c1_i32_26 : BitVec 32 := 1#32
  let v54 : BitVec 32 := Scalar.divsi v52 c1_i32_26
  let v55 : BitVec 32 := Scalar.muli v54 c1_i32_26
  let v56 : BitVec 32 := Scalar.addi c0_i32_25 v55
  let c1_i32_28 : BitVec 32 := 1#32
  let arg15 : BitVec 32 := Scf.iv v56 c1_i32_28 k0_t2
  let v98 : BitVec 32 := Scalar.muli c2_i32_50 arg15
  let c1_i32_51 : BitVec 32 := 1#32
  let v99 : BitVec 32 := Scalar.addi v98 c1_i32_51
  let c512_i32 : BitVec 32 := 512#32
  let v100 : BitVec 32 := Scalar.muli v99 c512_i32
  v100
def k0_off4 (i : grid0.Coords) (k0_t2 : Fin (k0_t2_loop i).trips) (c1_i32_51 : BitVec 32) : Fin 3 → Nat :=
  let c0_52 : Index := 0#32
  let c2_i32_50 : BitVec 32 := 2#32
  let c0_i32_25 : BitVec 32 := 0#32
  let arg2 : BitVec 32 := BitVec.ofNat 32 (i 2).val
  let c0_i32_19 : BitVec 32 := 0#32
  let v36 : BitVec 1 := Scalar.cmpi .sgt arg2 c0_i32_19
  let v37 : BitVec 32 := Scalar.extui v36
  let c0_i32_20 : BitVec 32 := 0#32
  let v38 : BitVec 1 := Scalar.cmpi .slt arg2 c0_i32_20
  let v39 : BitVec 32 := Scalar.extui v38
  let v40 : BitVec 32 := Scalar.subi v37 v39
  let c2_i32 : BitVec 32 := 2#32
  let c0_i32_21 : BitVec 32 := 0#32
  let v41 : BitVec 1 := Scalar.cmpi .sgt c2_i32 c0_i32_21
  let v42 : BitVec 32 := Scalar.extui v41
  let c0_i32_22 : BitVec 32 := 0#32
  let v43 : BitVec 1 := Scalar.cmpi .slt c2_i32 c0_i32_22
  let v44 : BitVec 32 := Scalar.extui v43
  let v45 : BitVec 32 := Scalar.subi v42 v44
  let v46 : BitVec 1 := Scalar.cmpi .ne v40 v45
  let v47 : BitVec 32 := Scalar.remsi arg2 c2_i32
  let c0_i32_23 : BitVec 32 := 0#32
  let v48 : BitVec 1 := Scalar.cmpi .ne v47 c0_i32_23
  let v49 : BitVec 1 := Scalar.andi v46 v48
  let v35 : BitVec 32 := Scalar.divsi arg2 c2_i32
  let c1_i32 : BitVec 32 := 1#32
  let v50 : BitVec 32 := Scalar.subi v35 c1_i32
  let v51 : BitVec 32 := Scalar.select v49 v50 v35
  let v52 : BitVec 32 := Scalar.subi v51 c0_i32_25
  let c1_i32_26 : BitVec 32 := 1#32
  let v54 : BitVec 32 := Scalar.divsi v52 c1_i32_26
  let v55 : BitVec 32 := Scalar.muli v54 c1_i32_26
  let v56 : BitVec 32 := Scalar.addi c0_i32_25 v55
  let c1_i32_28 : BitVec 32 := 1#32
  let arg15 : BitVec 32 := Scf.iv v56 c1_i32_28 k0_t2
  let v98 : BitVec 32 := Scalar.muli c2_i32_50 arg15
  let v99 : BitVec 32 := Scalar.addi v98 c1_i32_51
  let c512_i32 : BitVec 32 := 512#32
  let v100 : BitVec 32 := Scalar.muli v99 c512_i32
  let v101 : BitVec 32 := v100
  let v102 : Index := Scalar.indexCast v101
  let c0_53 : Index := 0#32
  ![0, v102.toNat, 0]
def k0_off5 (i : grid0.Coords) (k0_t2 : Fin (k0_t2_loop i).trips) : Fin 3 → Nat :=
  let c2_i32_59 : BitVec 32 := 2#32
  let c0_i32_25 : BitVec 32 := 0#32
  let arg2 : BitVec 32 := BitVec.ofNat 32 (i 2).val
  let c0_i32_19 : BitVec 32 := 0#32
  let v36 : BitVec 1 := Scalar.cmpi .sgt arg2 c0_i32_19
  let v37 : BitVec 32 := Scalar.extui v36
  let c0_i32_20 : BitVec 32 := 0#32
  let v38 : BitVec 1 := Scalar.cmpi .slt arg2 c0_i32_20
  let v39 : BitVec 32 := Scalar.extui v38
  let v40 : BitVec 32 := Scalar.subi v37 v39
  let c2_i32 : BitVec 32 := 2#32
  let c0_i32_21 : BitVec 32 := 0#32
  let v41 : BitVec 1 := Scalar.cmpi .sgt c2_i32 c0_i32_21
  let v42 : BitVec 32 := Scalar.extui v41
  let c0_i32_22 : BitVec 32 := 0#32
  let v43 : BitVec 1 := Scalar.cmpi .slt c2_i32 c0_i32_22
  let v44 : BitVec 32 := Scalar.extui v43
  let v45 : BitVec 32 := Scalar.subi v42 v44
  let v46 : BitVec 1 := Scalar.cmpi .ne v40 v45
  let v47 : BitVec 32 := Scalar.remsi arg2 c2_i32
  let c0_i32_23 : BitVec 32 := 0#32
  let v48 : BitVec 1 := Scalar.cmpi .ne v47 c0_i32_23
  let v49 : BitVec 1 := Scalar.andi v46 v48
  let v35 : BitVec 32 := Scalar.divsi arg2 c2_i32
  let c1_i32 : BitVec 32 := 1#32
  let v50 : BitVec 32 := Scalar.subi v35 c1_i32
  let v51 : BitVec 32 := Scalar.select v49 v50 v35
  let v52 : BitVec 32 := Scalar.subi v51 c0_i32_25
  let c1_i32_26 : BitVec 32 := 1#32
  let v54 : BitVec 32 := Scalar.divsi v52 c1_i32_26
  let v55 : BitVec 32 := Scalar.muli v54 c1_i32_26
  let v56 : BitVec 32 := Scalar.addi c0_i32_25 v55
  let c1_i32_28 : BitVec 32 := 1#32
  let arg15 : BitVec 32 := Scf.iv v56 c1_i32_28 k0_t2
  let v113 : BitVec 32 := Scalar.muli c2_i32_59 arg15
  let v114 : Index := Scalar.indexCast v113
  let c0_60 : Index := 0#32
  let c0_61 : Index := 0#32
  ![v114.toNat, 0, 0]
def k0_mult5 (i : grid0.Coords) (k0_t2 : Fin (k0_t2_loop i).trips) : BitVec 32 :=
  let c2_i32_74 : BitVec 32 := 2#32
  let c0_i32_25 : BitVec 32 := 0#32
  let arg2 : BitVec 32 := BitVec.ofNat 32 (i 2).val
  let c0_i32_19 : BitVec 32 := 0#32
  let v36 : BitVec 1 := Scalar.cmpi .sgt arg2 c0_i32_19
  let v37 : BitVec 32 := Scalar.extui v36
  let c0_i32_20 : BitVec 32 := 0#32
  let v38 : BitVec 1 := Scalar.cmpi .slt arg2 c0_i32_20
  let v39 : BitVec 32 := Scalar.extui v38
  let v40 : BitVec 32 := Scalar.subi v37 v39
  let c2_i32 : BitVec 32 := 2#32
  let c0_i32_21 : BitVec 32 := 0#32
  let v41 : BitVec 1 := Scalar.cmpi .sgt c2_i32 c0_i32_21
  let v42 : BitVec 32 := Scalar.extui v41
  let c0_i32_22 : BitVec 32 := 0#32
  let v43 : BitVec 1 := Scalar.cmpi .slt c2_i32 c0_i32_22
  let v44 : BitVec 32 := Scalar.extui v43
  let v45 : BitVec 32 := Scalar.subi v42 v44
  let v46 : BitVec 1 := Scalar.cmpi .ne v40 v45
  let v47 : BitVec 32 := Scalar.remsi arg2 c2_i32
  let c0_i32_23 : BitVec 32 := 0#32
  let v48 : BitVec 1 := Scalar.cmpi .ne v47 c0_i32_23
  let v49 : BitVec 1 := Scalar.andi v46 v48
  let v35 : BitVec 32 := Scalar.divsi arg2 c2_i32
  let c1_i32 : BitVec 32 := 1#32
  let v50 : BitVec 32 := Scalar.subi v35 c1_i32
  let v51 : BitVec 32 := Scalar.select v49 v50 v35
  let v52 : BitVec 32 := Scalar.subi v51 c0_i32_25
  let c1_i32_26 : BitVec 32 := 1#32
  let v54 : BitVec 32 := Scalar.divsi v52 c1_i32_26
  let v55 : BitVec 32 := Scalar.muli v54 c1_i32_26
  let v56 : BitVec 32 := Scalar.addi c0_i32_25 v55
  let c1_i32_28 : BitVec 32 := 1#32
  let arg15 : BitVec 32 := Scf.iv v56 c1_i32_28 k0_t2
  let v140 : BitVec 32 := Scalar.muli c2_i32_74 arg15
  let c2_i32_75 : BitVec 32 := 2#32
  let v141 : BitVec 32 := Scalar.addi v140 c2_i32_75
  let c512_i32_76 : BitVec 32 := 512#32
  let v142 : BitVec 32 := Scalar.muli v141 c512_i32_76
  v142
def k0_off6 (i : grid0.Coords) (k0_t2 : Fin (k0_t2_loop i).trips) : Fin 3 → Nat :=
  let c2_i32_84 : BitVec 32 := 2#32
  let c0_i32_25 : BitVec 32 := 0#32
  let arg2 : BitVec 32 := BitVec.ofNat 32 (i 2).val
  let c0_i32_19 : BitVec 32 := 0#32
  let v36 : BitVec 1 := Scalar.cmpi .sgt arg2 c0_i32_19
  let v37 : BitVec 32 := Scalar.extui v36
  let c0_i32_20 : BitVec 32 := 0#32
  let v38 : BitVec 1 := Scalar.cmpi .slt arg2 c0_i32_20
  let v39 : BitVec 32 := Scalar.extui v38
  let v40 : BitVec 32 := Scalar.subi v37 v39
  let c2_i32 : BitVec 32 := 2#32
  let c0_i32_21 : BitVec 32 := 0#32
  let v41 : BitVec 1 := Scalar.cmpi .sgt c2_i32 c0_i32_21
  let v42 : BitVec 32 := Scalar.extui v41
  let c0_i32_22 : BitVec 32 := 0#32
  let v43 : BitVec 1 := Scalar.cmpi .slt c2_i32 c0_i32_22
  let v44 : BitVec 32 := Scalar.extui v43
  let v45 : BitVec 32 := Scalar.subi v42 v44
  let v46 : BitVec 1 := Scalar.cmpi .ne v40 v45
  let v47 : BitVec 32 := Scalar.remsi arg2 c2_i32
  let c0_i32_23 : BitVec 32 := 0#32
  let v48 : BitVec 1 := Scalar.cmpi .ne v47 c0_i32_23
  let v49 : BitVec 1 := Scalar.andi v46 v48
  let v35 : BitVec 32 := Scalar.divsi arg2 c2_i32
  let c1_i32 : BitVec 32 := 1#32
  let v50 : BitVec 32 := Scalar.subi v35 c1_i32
  let v51 : BitVec 32 := Scalar.select v49 v50 v35
  let v52 : BitVec 32 := Scalar.subi v51 c0_i32_25
  let c1_i32_26 : BitVec 32 := 1#32
  let v54 : BitVec 32 := Scalar.divsi v52 c1_i32_26
  let v55 : BitVec 32 := Scalar.muli v54 c1_i32_26
  let v56 : BitVec 32 := Scalar.addi c0_i32_25 v55
  let c1_i32_28 : BitVec 32 := 1#32
  let arg15 : BitVec 32 := Scf.iv v56 c1_i32_28 k0_t2
  let v155 : BitVec 32 := Scalar.muli c2_i32_84 arg15
  let c1_i32_85 : BitVec 32 := 1#32
  let v156 : BitVec 32 := Scalar.addi v155 c1_i32_85
  let v157 : Index := Scalar.indexCast v156
  let c0_86 : Index := 0#32
  let c0_87 : Index := 0#32
  ![v157.toNat, 0, 0]
def k0_cond1 (i : grid0.Coords) : BitVec 1 :=
  let arg2 : BitVec 32 := BitVec.ofNat 32 (i 2).val
  let c2_i32_29 : BitVec 32 := 2#32
  let c0_i32_30 : BitVec 32 := 0#32
  let v57 : BitVec 1 := Scalar.cmpi .eq c2_i32_29 c0_i32_30
  let c1_i32_31 : BitVec 32 := 1#32
  let v58 : BitVec 32 := Scalar.select v57 c1_i32_31 c2_i32_29
  let v59 : BitVec 32 := Scalar.remsi arg2 v58
  let c0_i32_33 : BitVec 32 := 0#32
  let v61 : BitVec 1 := Scalar.cmpi .slt v59 c0_i32_33
  let c0_i32_34 : BitVec 32 := 0#32
  let v62 : BitVec 1 := Scalar.cmpi .slt v58 c0_i32_34
  let v63 : BitVec 1 := Scalar.xori v61 v62
  let c0_i32_32 : BitVec 32 := 0#32
  let v60 : BitVec 1 := Scalar.cmpi .ne v59 c0_i32_32
  let v64 : BitVec 1 := Scalar.andi v63 v60
  let v65 : BitVec 32 := Scalar.addi v59 v58
  let v66 : BitVec 32 := Scalar.select v64 v65 v59
  let c0_i32_35 : BitVec 32 := 0#32
  let v67 : BitVec 1 := Scalar.cmpi .eq v66 c0_i32_35
  let v68 : BitVec 32 := Scalar.extui v67
  let c0_i32_36 : BitVec 32 := 0#32
  let v69 : BitVec 1 := Scalar.cmpi .ne v68 c0_i32_36
  v69

def k0_off7 (i : grid0.Coords) : Fin 3 → Nat :=
  let arg2 : BitVec 32 := BitVec.ofNat 32 (i 2).val
  let v98 : Index := Scalar.indexCast arg2
  let c0_50 : Index := 0#32
  let c0_51 : Index := 0#32
  ![v98.toNat, 0, 0]
def k0_cond2 (i : grid0.Coords) : BitVec 1 :=
  let arg2 : BitVec 32 := BitVec.ofNat 32 (i 2).val
  let c2_i32_37 : BitVec 32 := 2#32
  let c0_i32_38 : BitVec 32 := 0#32
  let v70 : BitVec 1 := Scalar.cmpi .eq c2_i32_37 c0_i32_38
  let c1_i32_39 : BitVec 32 := 1#32
  let v71 : BitVec 32 := Scalar.select v70 c1_i32_39 c2_i32_37
  let v72 : BitVec 32 := Scalar.remsi arg2 v71
  let c0_i32_41 : BitVec 32 := 0#32
  let v74 : BitVec 1 := Scalar.cmpi .slt v72 c0_i32_41
  let c0_i32_42 : BitVec 32 := 0#32
  let v75 : BitVec 1 := Scalar.cmpi .slt v71 c0_i32_42
  let v76 : BitVec 1 := Scalar.xori v74 v75
  let c0_i32_40 : BitVec 32 := 0#32
  let v73 : BitVec 1 := Scalar.cmpi .ne v72 c0_i32_40
  let v77 : BitVec 1 := Scalar.andi v76 v73
  let v78 : BitVec 32 := Scalar.addi v72 v71
  let v79 : BitVec 32 := Scalar.select v77 v78 v72
  let c1_i32_43 : BitVec 32 := 1#32
  let v80 : BitVec 1 := Scalar.cmpi .eq v79 c1_i32_43
  let v81 : BitVec 32 := Scalar.extui v80
  let c0_i32_44 : BitVec 32 := 0#32
  let v82 : BitVec 1 := Scalar.cmpi .ne v81 c0_i32_44
  v82

def k0_mult6 (i : grid0.Coords) : BitVec 32 :=
  let arg2 : BitVec 32 := BitVec.ofNat 32 (i 2).val
  let c512_i32 : BitVec 32 := 512#32
  let v98 : BitVec 32 := Scalar.muli arg2 c512_i32
  v98
def k0_off8 (i : grid0.Coords) : Fin 3 → Nat :=
  let c0_50 : Index := 0#32
  let arg2 : BitVec 32 := BitVec.ofNat 32 (i 2).val
  let c512_i32 : BitVec 32 := 512#32
  let v98 : BitVec 32 := Scalar.muli arg2 c512_i32
  let v99 : BitVec 32 := v98
  let v100 : Index := Scalar.indexCast v99
  let c0_51 : Index := 0#32
  ![0, v100.toNat, 0]
def k0_off9 (i : grid0.Coords) : Fin 3 → Nat :=
  let arg2 : BitVec 32 := BitVec.ofNat 32 (i 2).val
  let c1_i32_57 : BitVec 32 := 1#32
  let v111 : BitVec 32 := Scalar.subi arg2 c1_i32_57
  let v112 : Index := Scalar.indexCast v111
  let c0_58 : Index := 0#32
  let c0_59 : Index := 0#32
  ![v112.toNat, 0, 0]
def k0_off10 (i : grid0.Coords) : Fin 3 → Nat :=
  let arg2 : BitVec 32 := BitVec.ofNat 32 (i 2).val
  let v138 : Index := Scalar.indexCast arg2
  let c0_72 : Index := 0#32
  let c0_73 : Index := 0#32
  ![v138.toNat, 0, 0]
def k0_cond3 (i : grid0.Coords) : BitVec 1 :=
  let arg1 : BitVec 32 := BitVec.ofNat 32 (i 1).val
  let c4_i32 : BitVec 32 := 4#32
  let v92 : BitVec 1 := Scalar.cmpi .slt arg1 c4_i32
  let v93 : BitVec 32 := Scalar.extui v92
  let c0_i32_47 : BitVec 32 := 0#32
  let v94 : BitVec 1 := Scalar.cmpi .ne v93 c0_i32_47
  v94

def k0_cond4 (i : grid0.Coords) : BitVec 1 :=
  let arg1 : BitVec 32 := BitVec.ofNat 32 (i 1).val
  let c4_i32_48 : BitVec 32 := 4#32
  let v95 : BitVec 1 := Scalar.cmpi .sge arg1 c4_i32_48
  let v96 : BitVec 32 := Scalar.extui v95
  let c0_i32_49 : BitVec 32 := 0#32
  let v97 : BitVec 1 := Scalar.cmpi .ne v96 c0_i32_49
  v97

def cc0_transform_0 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 2 → Memref sig .tc .vmem S1x512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x8192x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x8192x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S16x128x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 2 → Memref sig .tc .vmem S1x512x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]
-- ==== ReferenceIdeal.lean ====
abbrev S1 : Shape := ⟨1, ![1]⟩
abbrev S2x8192x1024 : Shape := ⟨3, ![2, 8192, 1024]⟩
abbrev S32x1024x512 : Shape := ⟨3, ![32, 1024, 512]⟩
abbrev S1x128 : Shape := ⟨2, ![1, 128]⟩
abbrev S2x8192x16x64 : Shape := ⟨4, ![2, 8192, 16, 64]⟩
abbrev S2x16x8192x8192 : Shape := ⟨4, ![2, 16, 8192, 8192]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S_ : Shape := ⟨0, ![]⟩
abbrev S2x16x8192 : Shape := ⟨3, ![2, 16, 8192]⟩
abbrev S2x16x8192x1 : Shape := ⟨4, ![2, 16, 8192, 1]⟩
abbrev S2x16x1024x512 : Shape := ⟨4, ![2, 16, 1024, 512]⟩
abbrev S2x16x512x1024 : Shape := ⟨4, ![2, 16, 512, 1024]⟩
abbrev S2x8192x512 : Shape := ⟨3, ![2, 8192, 512]⟩
abbrev S2x8192x8x64 : Shape := ⟨4, ![2, 8192, 8, 64]⟩
abbrev S2x8192x4x128 : Shape := ⟨4, ![2, 8192, 4, 128]⟩
abbrev S2x8x8192x8192 : Shape := ⟨4, ![2, 8, 8192, 8192]⟩
abbrev S2x8x64x8192 : Shape := ⟨4, ![2, 8, 64, 8192]⟩
abbrev S2x4x2x8192x8192 : Shape := ⟨5, ![2, 4, 2, 8192, 8192]⟩
abbrev S2x4x1x8192x8192 : Shape := ⟨5, ![2, 4, 1, 8192, 8192]⟩
abbrev S2x4x8192x8192 : Shape := ⟨4, ![2, 4, 8192, 8192]⟩
abbrev S2x4x128x8192 : Shape := ⟨4, ![2, 4, 128, 8192]⟩
abbrev S2x8192x4 : Shape := ⟨3, ![2, 8192, 4]⟩
abbrev S2x8192x4x1 : Shape := ⟨4, ![2, 8192, 4, 1]⟩
abbrev S128 : Shape := ⟨1, ![128]⟩
abbrev S1x1x1x128 : Shape := ⟨4, ![1, 1, 1, 128]⟩

abbrev nBuf : Space → Nat
  | .hbm => 94
  | .vmem => 0
  | .smem => 0
  | _ => 0

abbrev bufTy : (tb : Table) → Fin (tcTables nBuf tb) → BufTy
  | .hbm, ⟨0, _⟩ => ⟨S1, .f32⟩
  | .hbm, ⟨1, _⟩ => ⟨S2x8192x1024, .bf16⟩
  | .hbm, ⟨2, _⟩ => ⟨S2x8192x1024, .bf16⟩
  | .hbm, ⟨3, _⟩ => ⟨S2x8192x1024, .bf16⟩
  | .hbm, ⟨4, _⟩ => ⟨S2x8192x1024, .bf16⟩
  | .hbm, ⟨5, _⟩ => ⟨S32x1024x512, .bf16⟩
  | .hbm, ⟨6, _⟩ => ⟨S1x128, .f32⟩
  | .hbm, ⟨7, _⟩ => ⟨S2x8192x1024, .f32⟩
  | .hbm, ⟨8, _⟩ => ⟨S2x8192x16x64, .f32⟩
  | .hbm, ⟨9, _⟩ => ⟨S2x8192x1024, .f32⟩
  | .hbm, ⟨10, _⟩ => ⟨S2x8192x16x64, .f32⟩
  | .hbm, ⟨11, _⟩ => ⟨S2x16x8192x8192, .f32⟩
  | .hbm, ⟨12, _⟩ => ⟨S2x8192x1024, .f32⟩
  | .hbm, ⟨13, _⟩ => ⟨S2x8192x16x64, .f32⟩
  | .hbm, ⟨14, _⟩ => ⟨S2x8192x1024, .f32⟩
  | .hbm, ⟨15, _⟩ => ⟨S2x8192x16x64, .f32⟩
  | .hbm, ⟨16, _⟩ => ⟨S2x16x8192x8192, .f32⟩
  | .hbm, ⟨17, _⟩ => ⟨S2x16x8192x8192, .f32⟩
  | .hbm, ⟨18, _⟩ => ⟨S8192, .i32⟩
  | .hbm, ⟨19, _⟩ => ⟨S1x8192, .i32⟩
  | .hbm, ⟨20, _⟩ => ⟨S8192x1, .i32⟩
  | .hbm, ⟨21, _⟩ => ⟨S8192x8192, .i32⟩
  | .hbm, ⟨22, _⟩ => ⟨S8192x8192, .i32⟩
  | .hbm, ⟨23, _⟩ => ⟨S8192x8192, .i1⟩
  | .hbm, ⟨24, _⟩ => ⟨S_, .f32⟩
  | .hbm, ⟨25, _⟩ => ⟨S_, .f32⟩
  | .hbm, ⟨26, _⟩ => ⟨S2x16x8192x8192, .f32⟩
  | .hbm, ⟨27, _⟩ => ⟨S2x16x8192x8192, .f32⟩
  | .hbm, ⟨28, _⟩ => ⟨S_, .f32⟩
  | .hbm, ⟨29, _⟩ => ⟨S_, .f32⟩
  | .hbm, ⟨30, _⟩ => ⟨S2x16x8192x8192, .i1⟩
  | .hbm, ⟨31, _⟩ => ⟨S2x16x8192x8192, .f32⟩
  | .hbm, ⟨32, _⟩ => ⟨S2x16x8192x8192, .f32⟩
  | .hbm, ⟨33, _⟩ => ⟨S_, .f32⟩
  | .hbm, ⟨34, _⟩ => ⟨S2x16x8192, .f32⟩
  | .hbm, ⟨35, _⟩ => ⟨S_, .f32⟩
  | .hbm, ⟨36, _⟩ => ⟨S2x16x8192, .f32⟩
  | .hbm, ⟨37, _⟩ => ⟨S2x16x8192, .f32⟩
  | .hbm, ⟨38, _⟩ => ⟨S2x16x8192x1, .f32⟩
  | .hbm, ⟨39, _⟩ => ⟨S2x16x8192x8192, .f32⟩
  | .hbm, ⟨40, _⟩ => ⟨S2x16x8192x8192, .f32⟩
  | .hbm, ⟨41, _⟩ => ⟨S2x16x8192x8192, .f32⟩
  | .hbm, ⟨42, _⟩ => ⟨S_, .f32⟩
  | .hbm, ⟨43, _⟩ => ⟨S2x16x8192, .f32⟩
  | .hbm, ⟨44, _⟩ => ⟨S2x16x8192x1, .f32⟩
  | .hbm, ⟨45, _⟩ => ⟨S2x16x8192x8192, .f32⟩
  | .hbm, ⟨46, _⟩ => ⟨S2x16x8192x8192, .f32⟩
  | .hbm, ⟨47, _⟩ => ⟨S32x1024x512, .f32⟩
  | .hbm, ⟨48, _⟩ => ⟨S2x16x1024x512, .f32⟩
  | .hbm, ⟨49, _⟩ => ⟨S2x16x512x1024, .f32⟩
  | .hbm, ⟨50, _⟩ => ⟨S2x8192x1024, .f32⟩
  | .hbm, ⟨51, _⟩ => ⟨S2x8192x512, .f32⟩
  | .hbm, ⟨52, _⟩ => ⟨S2x8192x8x64, .f32⟩
  | .hbm, ⟨53, _⟩ => ⟨S2x8192x512, .f32⟩
  | .hbm, ⟨54, _⟩ => ⟨S2x8192x4x128, .f32⟩
  | .hbm, ⟨55, _⟩ => ⟨S2x8x8192x8192, .f32⟩
  | .hbm, ⟨56, _⟩ => ⟨S2x8x64x8192, .f32⟩
  | .hbm, ⟨57, _⟩ => ⟨S2x8192x8x64, .f32⟩
  | .hbm, ⟨58, _⟩ => ⟨S2x8x8192x8192, .f32⟩
  | .hbm, ⟨59, _⟩ => ⟨S2x4x2x8192x8192, .f32⟩
  | .hbm, ⟨60, _⟩ => ⟨S2x4x1x8192x8192, .f32⟩
  | .hbm, ⟨61, _⟩ => ⟨S2x4x8192x8192, .f32⟩
  | .hbm, ⟨62, _⟩ => ⟨S_, .f32⟩
  | .hbm, ⟨63, _⟩ => ⟨S2x4x1x8192x8192, .f32⟩
  | .hbm, ⟨64, _⟩ => ⟨S2x4x8192x8192, .f32⟩
  | .hbm, ⟨65, _⟩ => ⟨S2x4x8192x8192, .f32⟩
  | .hbm, ⟨66, _⟩ => ⟨S2x4x8192x8192, .f32⟩
  | .hbm, ⟨67, _⟩ => ⟨S2x4x8192x8192, .f32⟩
  | .hbm, ⟨68, _⟩ => ⟨S2x4x128x8192, .f32⟩
  | .hbm, ⟨69, _⟩ => ⟨S2x8192x4x128, .f32⟩
  | .hbm, ⟨70, _⟩ => ⟨S2x8192x4x128, .f32⟩
  | .hbm, ⟨71, _⟩ => ⟨S_, .f32⟩
  | .hbm, ⟨72, _⟩ => ⟨S2x8192x4, .f32⟩
  | .hbm, ⟨73, _⟩ => ⟨S2x8192x4x1, .f32⟩
  | .hbm, ⟨74, _⟩ => ⟨S_, .f32⟩
  | .hbm, ⟨75, _⟩ => ⟨S2x8192x4x1, .f32⟩
  | .hbm, ⟨76, _⟩ => ⟨S2x8192x4x1, .f32⟩
  | .hbm, ⟨77, _⟩ => ⟨S_, .f32⟩
  | .hbm, ⟨78, _⟩ => ⟨S2x8192x4x1, .f32⟩
  | .hbm, ⟨79, _⟩ => ⟨S2x8192x4x1, .f32⟩
  | .hbm, ⟨80, _⟩ => ⟨S2x8192x4x1, .f32⟩
  | .hbm, ⟨81, _⟩ => ⟨S2x8192x4x128, .f32⟩
  | .hbm, ⟨82, _⟩ => ⟨S2x8192x4x128, .f32⟩
  | .hbm, ⟨83, _⟩ => ⟨S128, .f32⟩
  | .hbm, ⟨84, _⟩ => ⟨S1x1x1x128, .f32⟩
  | .hbm, ⟨85, _⟩ => ⟨S2x8192x4x128, .f32⟩
  | .hbm, ⟨86, _⟩ => ⟨S2x8192x4x128, .f32⟩
  | .hbm, ⟨87, _⟩ => ⟨S_, .f32⟩
  | .hbm, ⟨88, _⟩ => ⟨S2x8192x4x128, .f32⟩
  | .hbm, ⟨89, _⟩ => ⟨S2x8192x4x128, .f32⟩
  | .hbm, ⟨90, _⟩ => ⟨S2x8192x512, .f32⟩
  | .hbm, ⟨91, _⟩ => ⟨S2x8192x512, .f32⟩
  | .hbm, ⟨92, _⟩ => ⟨S2x8192x1024, .f32⟩
  | .hbm, ⟨93, _⟩ => ⟨S2x8192x1024, .bf16⟩
  | _, _ => ⟨S1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_0 : Ref sig .tc := ⟨.hbm, 28, rfl⟩
abbrev main_call0_v0 : Ref sig .tc := ⟨.hbm, 29, rfl⟩
abbrev main_call0_v1 : Ref sig .tc := ⟨.hbm, 30, rfl⟩
abbrev main_call0_v2 : Ref sig .tc := ⟨.hbm, 31, rfl⟩
abbrev main_v20 : Ref sig .tc := ⟨.hbm, 32, rfl⟩
abbrev main_cst_1 : Ref sig .tc := ⟨.hbm, 33, rfl⟩
abbrev main_v21 : Ref sig .tc := ⟨.hbm, 34, rfl⟩
abbrev main_cst_2 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_3 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_cst_4 : Ref sig .tc := ⟨.hbm, 71, rfl⟩
abbrev main_v56 : Ref sig .tc := ⟨.hbm, 72, rfl⟩
abbrev main_v57 : Ref sig .tc := ⟨.hbm, 73, rfl⟩
abbrev main_cst_5 : Ref sig .tc := ⟨.hbm, 74, rfl⟩
abbrev main_v58 : Ref sig .tc := ⟨.hbm, 75, rfl⟩
abbrev main_v59 : Ref sig .tc := ⟨.hbm, 76, rfl⟩
abbrev main_cst_6 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_cst_7 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩

abbrev nD : Nat := 1
abbrev τ : Topo := Topo.v7x

variable {F : FTy → Type} [FloatOps F]
-- ==== Kernel2.lean ====
abbrev S290 : Shape := ⟨1, ![290]⟩
abbrev S1 : Shape := ⟨1, ![1]⟩
abbrev S74240x1024 : Shape := ⟨2, ![74240, 1024]⟩
abbrev S32x1024x2048 : Shape := ⟨3, ![32, 1024, 2048]⟩
abbrev S32x1x2048 : Shape := ⟨3, ![32, 1, 2048]⟩
abbrev S32x1024x1024 : Shape := ⟨3, ![32, 1024, 1024]⟩
abbrev S32x1x1024 : Shape := ⟨3, ![32, 1, 1024]⟩
abbrev S256x1024 : Shape := ⟨2, ![256, 1024]⟩
abbrev S1x1024x2048 : Shape := ⟨3, ![1, 1024, 2048]⟩
abbrev S1x1x2048 : Shape := ⟨3, ![1, 1, 2048]⟩
abbrev S1x1024x1024 : Shape := ⟨3, ![1, 1024, 1024]⟩
abbrev S1x1x1024 : Shape := ⟨3, ![1, 1, 1024]⟩
abbrev S1024x2048 : Shape := ⟨2, ![1024, 2048]⟩
abbrev S1024x1024 : Shape := ⟨2, ![1024, 1024]⟩
abbrev S256x2048 : Shape := ⟨2, ![256, 2048]⟩
abbrev S1x2048 : Shape := ⟨2, ![1, 2048]⟩
abbrev S1x1024 : Shape := ⟨2, ![1, 1024]⟩

abbrev nBuf : Space → Nat
  | .hbm => 6
  | .vmem => 14
  | .smem => 2
  | _ => 0

abbrev bufTy : (tb : Table) → Fin (tcTables nBuf tb) → BufTy
  | .hbm, ⟨0, _⟩ => ⟨S74240x1024, .f32⟩
  | .hbm, ⟨1, _⟩ => ⟨S32x1024x2048, .f32⟩
  | .hbm, ⟨2, _⟩ => ⟨S32x1x2048, .f32⟩
  | .hbm, ⟨3, _⟩ => ⟨S32x1024x1024, .f32⟩
  | .hbm, ⟨4, _⟩ => ⟨S32x1x1024, .f32⟩
  | .hbm, ⟨5, _⟩ => ⟨S74240x1024, .f32⟩
  | .local _ .vmem, ⟨0, _⟩ => ⟨S256x1024, .f32⟩
  | .local _ .vmem, ⟨1, _⟩ => ⟨S256x1024, .f32⟩
  | .local _ .vmem, ⟨2, _⟩ => ⟨S1x1024x2048, .f32⟩
  | .local _ .vmem, ⟨3, _⟩ => ⟨S1x1024x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1024x1024, .f32⟩
  | .local _ .vmem, ⟨7, _⟩ => ⟨S1x1024x1024, .f32⟩
  | .local _ .vmem, ⟨8, _⟩ => ⟨S1x1x1024, .f32⟩
  | .local _ .vmem, ⟨9, _⟩ => ⟨S1x1x1024, .f32⟩
  | .local _ .vmem, ⟨10, _⟩ => ⟨S256x1024, .f32⟩
  | .local _ .vmem, ⟨11, _⟩ => ⟨S256x1024, .f32⟩
  | .local _ .vmem, ⟨12, _⟩ => ⟨S1024x2048, .bf16⟩
  | .local _ .vmem, ⟨13, _⟩ => ⟨S1024x1024, .bf16⟩
  | .local _ .smem, ⟨0, _⟩ => ⟨S290, .i32⟩
  | .local _ .smem, ⟨1, _⟩ => ⟨S1, .i32⟩
  | _, _ => ⟨S74240x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_arg6 : Ref sig .tc := ⟨.hbm, 4, rfl⟩
abbrev main_v0 : Ref sig .tc := ⟨.hbm, 5, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![290], ![false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let c1_i32 : BitVec 32 := 1#32
  let v5 : BitVec 32 := Scalar.subi arg0 c1_i32
  let c0_i32_0 : BitVec 32 := 0#32
  let v6 : BitVec 32 := Scalar.maxsi v5 c0_i32_0
  let v7 : Index := Scalar.indexCast v6
  ![v7.toNat]
def k0_cond2 (i : grid0.Coords) (v0 : BitVec 32) : BitVec 1 :=
  let arg0 : BitVec 32 := BitVec.ofNat 32 (i 0).val
  let v1 : BitVec 1 := Scalar.cmpi .slt arg0 v0
  let v14 : BitVec 32 := Scalar.extui v1
  let c0_i32_2 : BitVec 32 := 0#32
  let v15 : BitVec 1 := Scalar.cmpi .ne v14 c0_i32_2
  v15

def k0_cond3 (i : grid0.Coords) (v16 : BitVec 32) : BitVec 1 :=
  let arg0 : BitVec 32 := BitVec.ofNat 32 (i 0).val
  let v17 : BitVec 1 := Scalar.cmpi .sge arg0 v16
  let v18 : BitVec 32 := Scalar.extui v17
  let c0_i32_4 : BitVec 32 := 0#32
  let v19 : BitVec 1 := Scalar.cmpi .ne v18 c0_i32_4
  v19

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S290.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S290) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S290.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S290) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S290.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S290) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (k0_off1_inb : ∀ i : grid0.Coords, ∀ a, (k0_off1 i) a + S1.size a ≤ S290.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S290) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference2Ideal.lean ====
abbrev S290 : Shape := ⟨1, ![290]⟩
abbrev S1 : Shape := ⟨1, ![1]⟩
abbrev S74240x1024 : Shape := ⟨2, ![74240, 1024]⟩
abbrev S32x1024x2048 : Shape := ⟨3, ![32, 1024, 2048]⟩
abbrev S32x1x2048 : Shape := ⟨3, ![32, 1, 2048]⟩
abbrev S32x1024x1024 : Shape := ⟨3, ![32, 1024, 1024]⟩
abbrev S32x1x1024 : Shape := ⟨3, ![32, 1, 1024]⟩
abbrev S290x256x1024 : Shape := ⟨3, ![290, 256, 1024]⟩
abbrev S_ : Shape := ⟨0, ![]⟩
abbrev S290x1 : Shape := ⟨2, ![290, 1]⟩
abbrev S290x1024x2048 : Shape := ⟨3, ![290, 1024, 2048]⟩
abbrev S290x256x2048 : Shape := ⟨3, ![290, 256, 2048]⟩
abbrev S290x1x2048 : Shape := ⟨3, ![290, 1, 2048]⟩
abbrev S290x1024x1024 : Shape := ⟨3, ![290, 1024, 1024]⟩
abbrev S290x1x1024 : Shape := ⟨3, ![290, 1, 1024]⟩
abbrev S290x1x1 : Shape := ⟨3, ![290, 1, 1]⟩

abbrev nBuf : Space → Nat
  | .hbm => 90
  | .vmem => 0
  | .smem => 0
  | _ => 0

abbrev bufTy : (tb : Table) → Fin (tcTables nBuf tb) → BufTy
  | .hbm, ⟨0, _⟩ => ⟨S290, .i32⟩
  | .hbm, ⟨1, _⟩ => ⟨S1, .i32⟩
  | .hbm, ⟨2, _⟩ => ⟨S74240x1024, .f32⟩
  | .hbm, ⟨3, _⟩ => ⟨S32x1024x2048, .f32⟩
  | .hbm, ⟨4, _⟩ => ⟨S32x1x2048, .f32⟩
  | .hbm, ⟨5, _⟩ => ⟨S32x1024x1024, .f32⟩
  | .hbm, ⟨6, _⟩ => ⟨S32x1x1024, .f32⟩
  | .hbm, ⟨7, _⟩ => ⟨S290x256x1024, .f32⟩
  | .hbm, ⟨8, _⟩ => ⟨S_, .i32⟩
  | .hbm, ⟨9, _⟩ => ⟨S290, .i32⟩
  | .hbm, ⟨10, _⟩ => ⟨S290, .i1⟩
  | .hbm, ⟨11, _⟩ => ⟨S_, .i32⟩
  | .hbm, ⟨12, _⟩ => ⟨S290, .i32⟩
  | .hbm, ⟨13, _⟩ => ⟨S290, .i32⟩
  | .hbm, ⟨14, _⟩ => ⟨S290, .i32⟩
  | .hbm, ⟨15, _⟩ => ⟨S290x1, .i32⟩
  | .hbm, ⟨16, _⟩ => ⟨S290x1024x2048, .f32⟩
  | .hbm, ⟨17, _⟩ => ⟨S290x256x2048, .f32⟩
  | .hbm, ⟨18, _⟩ => ⟨S_, .i32⟩
  | .hbm, ⟨19, _⟩ => ⟨S290, .i32⟩
  | .hbm, ⟨20, _⟩ => ⟨S290, .i1⟩
  | .hbm, ⟨21, _⟩ => ⟨S_, .i32⟩
  | .hbm, ⟨22, _⟩ => ⟨S290, .i32⟩
  | .hbm, ⟨23, _⟩ => ⟨S290, .i32⟩
  | .hbm, ⟨24, _⟩ => ⟨S290, .i32⟩
  | .hbm, ⟨25, _⟩ => ⟨S290x1, .i32⟩
  | .hbm, ⟨26, _⟩ => ⟨S290x1x2048, .f32⟩
  | .hbm, ⟨27, _⟩ => ⟨S290x256x2048, .f32⟩
  | .hbm, ⟨28, _⟩ => ⟨S290x256x2048, .f32⟩
  | .hbm, ⟨29, _⟩ => ⟨S290x256x1024, .f32⟩
  | .hbm, ⟨30, _⟩ => ⟨S_, .f32⟩
  | .hbm, ⟨31, _⟩ => ⟨S290x256x1024, .f32⟩
  | .hbm, ⟨32, _⟩ => ⟨S290x256x1024, .f32⟩
  | .hbm, ⟨33, _⟩ => ⟨S290x256x1024, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S290x256x1024, .f32⟩
  | .hbm, ⟨38, _⟩ => ⟨S290x256x1024, .f32⟩
  | .hbm, ⟨39, _⟩ => ⟨S_, .f32⟩
  | .hbm, ⟨40, _⟩ => ⟨S290x256x1024, .f32⟩
  | .hbm, ⟨41, _⟩ => ⟨S290x256x1024, .f32⟩
  | .hbm, ⟨42, _⟩ => ⟨S_, .f32⟩
  | .hbm, ⟨43, _⟩ => ⟨S290x256x1024, .f32⟩
  | .hbm, ⟨44, _⟩ => ⟨S290x256x1024, .f32⟩
  | .hbm, ⟨45, _⟩ => ⟨S290x256x1024, .f32⟩
  | .hbm, ⟨46, _⟩ => ⟨S290x256x1024, .f32⟩
  | .hbm, ⟨47, _⟩ => ⟨S_, .f32⟩
  | .hbm, ⟨48, _⟩ => ⟨S290x256x1024, .f32⟩
  | .hbm, ⟨49, _⟩ => ⟨S290x256x1024, .f32⟩
  | .hbm, ⟨50, _⟩ => ⟨S_, .f32⟩
  | .hbm, ⟨51, _⟩ => ⟨S290x256x1024, .f32⟩
  | .hbm, ⟨52, _⟩ => ⟨S290x256x1024, .f32⟩
  | .hbm, ⟨53, _⟩ => ⟨S290x256x1024, .f32⟩
  | .hbm, ⟨54, _⟩ => ⟨S_, .f32⟩
  | .hbm, ⟨55, _⟩ => ⟨S290x256x1024, .f32⟩
  | .hbm, ⟨56, _⟩ => ⟨S290x256x1024, .f32⟩
  | .hbm, ⟨57, _⟩ => ⟨S290x256x1024, .f32⟩
  | .hbm, ⟨58, _⟩ => ⟨S_, .i32⟩
  | .hbm, ⟨59, _⟩ => ⟨S290, .i32⟩
  | .hbm, ⟨60, _⟩ => ⟨S290, .i1⟩
  | .hbm, ⟨61, _⟩ => ⟨S_, .i32⟩
  | .hbm, ⟨62, _⟩ => ⟨S290, .i32⟩
  | .hbm, ⟨63, _⟩ => ⟨S290, .i32⟩
  | .hbm, ⟨64, _⟩ => ⟨S290, .i32⟩
  | .hbm, ⟨65, _⟩ => ⟨S290x1, .i32⟩
  | .hbm, ⟨66, _⟩ => ⟨S290x1024x1024, .f32⟩
  | .hbm, ⟨67, _⟩ => ⟨S290x256x1024, .f32⟩
  | .hbm, ⟨68, _⟩ => ⟨S_, .i32⟩
  | .hbm, ⟨69, _⟩ => ⟨S290, .i32⟩
  | .hbm, ⟨70, _⟩ => ⟨S290, .i1⟩
  | .hbm, ⟨71, _⟩ => ⟨S_, .i32⟩
  | .hbm, ⟨72, _⟩ => ⟨S290, .i32⟩
  | .hbm, ⟨73, _⟩ => ⟨S290, .i32⟩
  | .hbm, ⟨74, _⟩ => ⟨S290, .i32⟩
  | .hbm, ⟨75, _⟩ => ⟨S290x1, .i32⟩
  | .hbm, ⟨76, _⟩ => ⟨S290x1x1024, .f32⟩
  | .hbm, ⟨77, _⟩ => ⟨S290x256x1024, .f32⟩
  | .hbm, ⟨78, _⟩ => ⟨S290x256x1024, .f32⟩
  | .hbm, ⟨79, _⟩ => ⟨S290, .i32⟩
  | .hbm, ⟨80, _⟩ => ⟨S_, .i32⟩
  | .hbm, ⟨81, _⟩ => ⟨S290, .i32⟩
  | .hbm, ⟨82, _⟩ => ⟨S290, .i1⟩
  | .hbm, ⟨83, _⟩ => ⟨S290x1x1, .i1⟩
  | .hbm, ⟨84, _⟩ => ⟨S_, .f32⟩
  | .hbm, ⟨85, _⟩ => ⟨S_, .f32⟩
  | .hbm, ⟨86, _⟩ => ⟨S290x256x1024, .i1⟩
  | .hbm, ⟨87, _⟩ => ⟨S290x256x1024, .f32⟩
  | .hbm, ⟨88, _⟩ => ⟨S290x256x1024, .f32⟩
  | .hbm, ⟨89, _⟩ => ⟨S74240x1024, .f32⟩
  | _, _ => ⟨S290, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_v1 : Ref sig .tc := ⟨.hbm, 9, rfl⟩
abbrev main_v2 : Ref sig .tc := ⟨.hbm, 10, rfl⟩
abbrev main_c_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_c_1 : Ref sig .tc := ⟨.hbm, 18, rfl⟩
abbrev main_v9 : Ref sig .tc := ⟨.hbm, 19, rfl⟩
abbrev main_v10 : Ref sig .tc := ⟨.hbm, 20, rfl⟩
abbrev main_c_2 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_3 : Ref sig .tc := ⟨.hbm, 34, rfl⟩
abbrev main_cst_4 : Ref sig .tc := ⟨.hbm, 35, rfl⟩
abbrev main_call0_v0 : Ref sig .tc := ⟨.hbm, 36, rfl⟩
abbrev main_call0_v1 : Ref sig .tc := ⟨.hbm, 37, rfl⟩
abbrev main_call0_v2 : Ref sig .tc := ⟨.hbm, 38, rfl⟩
abbrev main_call0_v3 : Ref sig .tc := ⟨.hbm, 39, rfl⟩
abbrev main_call0_v4 : Ref sig .tc := ⟨.hbm, 40, rfl⟩
abbrev main_v22 : Ref sig .tc := ⟨.hbm, 41, rfl⟩
abbrev main_cst_5 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_cst_6 : Ref sig .tc := ⟨.hbm, 47, rfl⟩
abbrev main_v27 : Ref sig .tc := ⟨.hbm, 48, rfl⟩
abbrev main_v28 : Ref sig .tc := ⟨.hbm, 49, rfl⟩
abbrev main_cst_7 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_cst_8 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_c_9 : Ref sig .tc := ⟨.hbm, 58, rfl⟩
abbrev main_v35 : Ref sig .tc := ⟨.hbm, 59, rfl⟩
abbrev main_v36 : Ref sig .tc := ⟨.hbm, 60, rfl⟩
abbrev main_c_10 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_c_11 : Ref sig .tc := ⟨.hbm, 68, rfl⟩
abbrev main_v43 : Ref sig .tc := ⟨.hbm, 69, rfl⟩
abbrev main_v44 : Ref sig .tc := ⟨.hbm, 70, rfl⟩
abbrev main_c_12 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_cst_13 : Ref sig .tc := ⟨.hbm, 84, rfl⟩
abbrev main_call1_v0 : Ref sig .tc := ⟨.hbm, 85, rfl⟩
abbrev main_call1_v1 : Ref sig .tc := ⟨.hbm, 86, rfl⟩
abbrev main_call1_v2 : Ref sig .tc := ⟨.hbm, 87, rfl⟩
abbrev main_v57 : Ref sig .tc := ⟨.hbm, 88, rfl⟩
abbrev main_v58 : Ref sig .tc := ⟨.hbm, 89, rfl⟩

abbrev nD : Nat := 1
abbrev τ : Topo := Topo.v7x

variable {F : FTy → Type} [FloatOps F]
-- ==== Kernel3.lean ====
abbrev S16384x1024 : Shape := ⟨2, ![16384, 1024]⟩
abbrev S1x1024 : Shape := ⟨2, ![1, 1024]⟩
abbrev S1024x4608 : Shape := ⟨2, ![1024, 4608]⟩
abbrev S2048x1024 : Shape := ⟨2, ![2048, 1024]⟩
abbrev S1024x8 : Shape := ⟨2, ![1024, 8]⟩
abbrev S8x1024 : Shape := ⟨2, ![8, 1024]⟩
abbrev S1x8 : Shape := ⟨2, ![1, 8]⟩
abbrev S8x1 : Shape := ⟨2, ![8, 1]⟩
abbrev S1x2048 : Shape := ⟨2, ![1, 2048]⟩
abbrev S64x1024 : Shape := ⟨2, ![64, 1024]⟩
abbrev S32x1024x512 : Shape := ⟨3, ![32, 1024, 512]⟩
abbrev S2x512x8192 : Shape := ⟨3, ![2, 512, 8192]⟩
abbrev S16384x512 : Shape := ⟨2, ![16384, 512]⟩
abbrev S2x8x8192 : Shape := ⟨3, ![2, 8, 8192]⟩
abbrev S16384x2048 : Shape := ⟨2, ![16384, 2048]⟩
abbrev S512x1024 : Shape := ⟨2, ![512, 1024]⟩
abbrev S1x1024x512 : Shape := ⟨3, ![1, 1024, 512]⟩
abbrev S1x512x512 : Shape := ⟨3, ![1, 512, 512]⟩
abbrev S512x512 : Shape := ⟨2, ![512, 512]⟩
abbrev S1x8x512 : Shape := ⟨3, ![1, 8, 512]⟩
abbrev S512x2048 : Shape := ⟨2, ![512, 2048]⟩
abbrev S512 : Shape := ⟨1, ![512]⟩
abbrev S512x1 : Shape := ⟨2, ![512, 1]⟩
abbrev S1024x512 : Shape := ⟨2, ![1024, 512]⟩
abbrev S1x512 : Shape := ⟨2, ![1, 512]⟩
abbrev S8x512 : Shape := ⟨2, ![8, 512]⟩
abbrev S512x8 : Shape := ⟨2, ![512, 8]⟩
abbrev S512x16 : Shape := ⟨2, ![512, 16]⟩
abbrev S512x64 : Shape := ⟨2, ![512, 64]⟩

abbrev nBuf : Space → Nat
  | .hbm => 23
  | .vmem => 36
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1024x4608, .bf16⟩
  | .hbm, ⟨3, _⟩ => ⟨S2048x1024, .bf16⟩
  | .hbm, ⟨4, _⟩ => ⟨S1024x8, .f32⟩
  | .hbm, ⟨5, _⟩ => ⟨S8x1024, .f32⟩
  | .hbm, ⟨6, _⟩ => ⟨S1x8, .f32⟩
  | .hbm, ⟨7, _⟩ => ⟨S8x1, .f32⟩
  | .hbm, ⟨8, _⟩ => ⟨S1x2048, .f32⟩
  | .hbm, ⟨9, _⟩ => ⟨S1x8, .f32⟩
  | .hbm, ⟨10, _⟩ => ⟨S64x1024, .bf16⟩
  | .hbm, ⟨11, _⟩ => ⟨S64x1024, .bf16⟩
  | .hbm, ⟨12, _⟩ => ⟨S16384x1024, .bf16⟩
  | .hbm, ⟨13, _⟩ => ⟨S16384x1024, .bf16⟩
  | .hbm, ⟨14, _⟩ => ⟨S16384x1024, .bf16⟩
  | .hbm, ⟨15, _⟩ => ⟨S16384x1024, .bf16⟩
  | .hbm, ⟨16, _⟩ => ⟨S32x1024x512, .bf16⟩
  | .hbm, ⟨17, _⟩ => ⟨S2x512x8192, .f32⟩
  | .hbm, ⟨18, _⟩ => ⟨S2x512x8192, .f32⟩
  | .hbm, ⟨19, _⟩ => ⟨S2x512x8192, .f32⟩
  | .hbm, ⟨20, _⟩ => ⟨S16384x512, .f32⟩
  | .hbm, ⟨21, _⟩ => ⟨S2x8x8192, .f32⟩
  | .hbm, ⟨22, _⟩ => ⟨S16384x2048, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x4608, .bf16⟩
  | .local _ .vmem, ⟨4, _⟩ => ⟨S2048x1024, .bf16⟩
  | .local _ .vmem, ⟨5, _⟩ => ⟨S1024x8, .f32⟩
  | .local _ .vmem, ⟨6, _⟩ => ⟨S8x1024, .f32⟩
  | .local _ .vmem, ⟨7, _⟩ => ⟨S1x8, .f32⟩
  | .local _ .vmem, ⟨8, _⟩ => ⟨S8x1, .f32⟩
  | .local _ .vmem, ⟨9, _⟩ => ⟨S1x2048, .f32⟩
  | .local _ .vmem, ⟨10, _⟩ => ⟨S1x8, .f32⟩
  | .local _ .vmem, ⟨11, _⟩ => ⟨S64x1024, .bf16⟩
  | .local _ .vmem, ⟨12, _⟩ => ⟨S64x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | .local _ .vmem, ⟨18, _⟩ => ⟨S512x1024, .bf16⟩
  | .local _ .vmem, ⟨19, _⟩ => ⟨S512x1024, .bf16⟩
  | .local _ .vmem, ⟨20, _⟩ => ⟨S512x1024, .bf16⟩
  | .local _ .vmem, ⟨21, _⟩ => ⟨S1x1024x512, .bf16⟩
  | .local _ .vmem, ⟨22, _⟩ => ⟨S1x1024x512, .bf16⟩
  | .local _ .vmem, ⟨23, _⟩ => ⟨S1x512x512, .f32⟩
  | .local _ .vmem, ⟨24, _⟩ => ⟨S1x512x512, .f32⟩
  | .local _ .vmem, ⟨25, _⟩ => ⟨S1x512x512, .f32⟩
  | .local _ .vmem, ⟨26, _⟩ => ⟨S1x512x512, .f32⟩
  | .local _ .vmem, ⟨27, _⟩ => ⟨S1x512x512, .f32⟩
  | .local _ .vmem, ⟨28, _⟩ => ⟨S1x512x512, .f32⟩
  | .local _ .vmem, ⟨29, _⟩ => ⟨S512x512, .f32⟩
  | .local _ .vmem, ⟨30, _⟩ => ⟨S512x512, .f32⟩
  | .local _ .vmem, ⟨31, _⟩ => ⟨S1x8x512, .f32⟩
  | .local _ .vmem, ⟨32, _⟩ => ⟨S1x8x512, .f32⟩
  | .local _ .vmem, ⟨33, _⟩ => ⟨S512x2048, .bf16⟩
  | .local _ .vmem, ⟨34, _⟩ => ⟨S512x2048, .bf16⟩
  | .local _ .vmem, ⟨35, _⟩ => ⟨S1x8, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0_0 : Ref sig .tc := ⟨.hbm, 12, rfl⟩
abbrev main_v0_1 : Ref sig .tc := ⟨.hbm, 13, rfl⟩
abbrev main_v0_2 : Ref sig .tc := ⟨.hbm, 14, rfl⟩
abbrev main_v0_3 : Ref sig .tc := ⟨.hbm, 15, rfl⟩
abbrev main_v0_4 : Ref sig .tc := ⟨.hbm, 16, rfl⟩
abbrev main_v0_5 : Ref sig .tc := ⟨.hbm, 17, rfl⟩
abbrev main_v0_6 : Ref sig .tc := ⟨.hbm, 18, rfl⟩
abbrev main_v0_7 : Ref sig .tc := ⟨.hbm, 19, rfl⟩
abbrev main_v0_8 : Ref sig .tc := ⟨.hbm, 20, rfl⟩
abbrev main_v0_9 : Ref sig .tc := ⟨.hbm, 21, rfl⟩
abbrev main_v0_10 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg12_1 : Ref sig .tc := ⟨.vmem, 14, rfl⟩
abbrev cc0_stg13_0 : Ref sig .tc := ⟨.vmem, 15, rfl⟩
abbrev cc0_stg13_1 : Ref sig .tc := ⟨.vmem, 16, rfl⟩
abbrev cc0_stg14_0 : Ref sig .tc := ⟨.vmem, 17, rfl⟩
abbrev cc0_stg14_1 : Ref sig .tc := ⟨.vmem, 18, rfl⟩
abbrev cc0_stg15_0 : Ref sig .tc := ⟨.vmem, 19, rfl⟩
abbrev cc0_stg15_1 : Ref sig .tc := ⟨.vmem, 20, rfl⟩
abbrev cc0_stg16_0 : Ref sig .tc := ⟨.vmem, 21, rfl⟩
abbrev cc0_stg16_1 : Ref sig .tc := ⟨.vmem, 22, rfl⟩
abbrev cc0_stg17_0 : Ref sig .tc := ⟨.vmem, 23, rfl⟩
abbrev cc0_stg17_1 : Ref sig .tc := ⟨.vmem, 24, rfl⟩
abbrev cc0_stg18_0 : Ref sig .tc := ⟨.vmem, 25, rfl⟩
abbrev cc0_stg18_1 : Ref sig .tc := ⟨.vmem, 26, rfl⟩
abbrev cc0_stg19_0 : Ref sig .tc := ⟨.vmem, 27, rfl⟩
abbrev cc0_stg19_1 : Ref sig .tc := ⟨.vmem, 28, rfl⟩
abbrev cc0_stg20_0 : Ref sig .tc := ⟨.vmem, 29, rfl⟩
abbrev cc0_stg20_1 : Ref sig .tc := ⟨.vmem, 30, rfl⟩
abbrev cc0_stg21_0 : Ref sig .tc := ⟨.vmem, 31, rfl⟩
abbrev cc0_stg21_1 : Ref sig .tc := ⟨.vmem, 32, rfl⟩
abbrev cc0_stg22_0 : Ref sig .tc := ⟨.vmem, 33, rfl⟩
abbrev cc0_stg22_1 : Ref sig .tc := ⟨.vmem, 34, rfl⟩
abbrev cc0_scratch0 : Ref sig .tc := ⟨.vmem, 35, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem12_1 : DmaSem sig := 14
abbrev cc0_sem13_0 : DmaSem sig := 15
abbrev cc0_sem13_1 : DmaSem sig := 16
abbrev cc0_sem14_0 : DmaSem sig := 17
abbrev cc0_sem14_1 : DmaSem sig := 18
abbrev cc0_sem15_0 : DmaSem sig := 19
abbrev cc0_sem15_1 : DmaSem sig := 20
abbrev cc0_sem16_0 : DmaSem sig := 21
abbrev cc0_sem16_1 : DmaSem sig := 22
abbrev cc0_sem17_0 : DmaSem sig := 23
abbrev cc0_sem17_1 : DmaSem sig := 24
abbrev cc0_sem18_0 : DmaSem sig := 25
abbrev cc0_sem18_1 : DmaSem sig := 26
abbrev cc0_sem19_0 : DmaSem sig := 27
abbrev cc0_sem19_1 : DmaSem sig := 28
abbrev cc0_sem20_0 : DmaSem sig := 29
abbrev cc0_sem20_1 : DmaSem sig := 30
abbrev cc0_sem21_0 : DmaSem sig := 31
abbrev cc0_sem21_1 : DmaSem sig := 32
abbrev cc0_sem22_0 : DmaSem sig := 33
abbrev cc0_sem22_1 : DmaSem sig := 34

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_17 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_18 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_19 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_22 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x4608 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x8 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x8 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x8 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S64x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S64x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S1x1024x512 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S1x512x512 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S1x512x512 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S1x512x512 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S512x512 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S1x8x512 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S512x2048 .bf16 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]
-- ==== Reference3Ideal.lean ====
abbrev S16384x1024 : Shape := ⟨2, ![16384, 1024]⟩
abbrev S1x1024 : Shape := ⟨2, ![1, 1024]⟩
abbrev S1024x4608 : Shape := ⟨2, ![1024, 4608]⟩
abbrev S2048x1024 : Shape := ⟨2, ![2048, 1024]⟩
abbrev S1024x8 : Shape := ⟨2, ![1024, 8]⟩
abbrev S8x1024 : Shape := ⟨2, ![8, 1024]⟩
abbrev S1x8 : Shape := ⟨2, ![1, 8]⟩
abbrev S8x1 : Shape := ⟨2, ![8, 1]⟩
abbrev S1x2048 : Shape := ⟨2, ![1, 2048]⟩
abbrev S64x1024 : Shape := ⟨2, ![64, 1024]⟩
abbrev S_ : Shape := ⟨0, ![]⟩
abbrev S16384 : Shape := ⟨1, ![16384]⟩
abbrev S16384x1 : Shape := ⟨2, ![16384, 1]⟩
abbrev S1024 : Shape := ⟨1, ![1024]⟩
abbrev S2x8192x1024 : Shape := ⟨3, ![2, 8192, 1024]⟩
abbrev S2x8192x2048 : Shape := ⟨3, ![2, 8192, 2048]⟩
abbrev S2x2048x8192 : Shape := ⟨3, ![2, 2048, 8192]⟩
abbrev S2x512x8192 : Shape := ⟨3, ![2, 512, 8192]⟩
abbrev S1024x512 : Shape := ⟨2, ![1024, 512]⟩
abbrev S16384x512 : Shape := ⟨2, ![16384, 512]⟩
abbrev S2x8192x8 : Shape := ⟨3, ![2, 8192, 8]⟩
abbrev S2x8x8192 : Shape := ⟨3, ![2, 8, 8192]⟩
abbrev S1x8x1 : Shape := ⟨3, ![1, 8, 1]⟩

abbrev nBuf : Space → Nat
  | .hbm => 60
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1024x4608, .bf16⟩
  | .hbm, ⟨3, _⟩ => ⟨S2048x1024, .bf16⟩
  | .hbm, ⟨4, _⟩ => ⟨S1024x8, .f32⟩
  | .hbm, ⟨5, _⟩ => ⟨S8x1024, .f32⟩
  | .hbm, ⟨6, _⟩ => ⟨S1x8, .f32⟩
  | .hbm, ⟨7, _⟩ => ⟨S8x1, .f32⟩
  | .hbm, ⟨8, _⟩ => ⟨S1x2048, .f32⟩
  | .hbm, ⟨9, _⟩ => ⟨S1x8, .f32⟩
  | .hbm, ⟨10, _⟩ => ⟨S64x1024, .bf16⟩
  | .hbm, ⟨11, _⟩ => ⟨S64x1024, .bf16⟩
  | .hbm, ⟨12, _⟩ => ⟨S16384x1024, .f32⟩
  | .hbm, ⟨13, _⟩ => ⟨S_, .f32⟩
  | .hbm, ⟨14, _⟩ => ⟨S16384, .f32⟩
  | .hbm, ⟨15, _⟩ => ⟨S16384x1, .f32⟩
  | .hbm, ⟨16, _⟩ => ⟨S_, .f32⟩
  | .hbm, ⟨17, _⟩ => ⟨S16384x1, .f32⟩
  | .hbm, ⟨18, _⟩ => ⟨S16384x1, .f32⟩
  | .hbm, ⟨19, _⟩ => ⟨S_, .f32⟩
  | .hbm, ⟨20, _⟩ => ⟨S16384x1, .f32⟩
  | .hbm, ⟨21, _⟩ => ⟨S16384x1, .f32⟩
  | .hbm, ⟨22, _⟩ => ⟨S16384x1, .f32⟩
  | .hbm, ⟨23, _⟩ => ⟨S16384x1024, .f32⟩
  | .hbm, ⟨24, _⟩ => ⟨S16384x1024, .f32⟩
  | .hbm, ⟨25, _⟩ => ⟨S1024, .f32⟩
  | .hbm, ⟨26, _⟩ => ⟨S1x1024, .f32⟩
  | .hbm, ⟨27, _⟩ => ⟨S16384x1024, .f32⟩
  | .hbm, ⟨28, _⟩ => ⟨S16384x1024, .f32⟩
  | .hbm, ⟨29, _⟩ => ⟨S2x8192x1024, .f32⟩
  | .hbm, ⟨30, _⟩ => ⟨S2048x1024, .f32⟩
  | .hbm, ⟨31, _⟩ => ⟨S2x8192x2048, .f32⟩
  | .hbm, ⟨32, _⟩ => ⟨S2x2048x8192, .f32⟩
  | .hbm, ⟨33, _⟩ => ⟨S2x512x8192, .f32⟩
  | .hbm, ⟨34, _⟩ => ⟨S2x512x8192, .f32⟩
  | .hbm, ⟨35, _⟩ => ⟨S2x512x8192, .f32⟩
  | .hbm, ⟨36, _⟩ => ⟨S1024x512, .bf16⟩
  | .hbm, ⟨37, _⟩ => ⟨S1024x512, .f32⟩
  | .hbm, ⟨38, _⟩ => ⟨S16384x512, .f32⟩
  | .hbm, ⟨39, _⟩ => ⟨S2x8192x8, .f32⟩
  | .hbm, ⟨40, _⟩ => ⟨S2x8x8192, .f32⟩
  | .hbm, ⟨41, _⟩ => ⟨S1x8x1, .f32⟩
  | .hbm, ⟨42, _⟩ => ⟨S2x8x8192, .f32⟩
  | .hbm, ⟨43, _⟩ => ⟨S2x8x8192, .f32⟩
  | .hbm, ⟨44, _⟩ => ⟨S2x8x8192, .f32⟩
  | .hbm, ⟨45, _⟩ => ⟨S_, .f32⟩
  | .hbm, ⟨46, _⟩ => ⟨S2x8x8192, .f32⟩
  | .hbm, ⟨47, _⟩ => ⟨S2x8x8192, .f32⟩
  | .hbm, ⟨48, _⟩ => ⟨S2x8x8192, .f32⟩
  | .hbm, ⟨49, _⟩ => ⟨S2x8x8192, .f32⟩
  | .hbm, ⟨50, _⟩ => ⟨S2x8x8192, .i1⟩
  | .hbm, ⟨51, _⟩ => ⟨S2x8x8192, .f32⟩
  | .hbm, ⟨52, _⟩ => ⟨S2x8x8192, .f32⟩
  | .hbm, ⟨53, _⟩ => ⟨S2x8x8192, .f32⟩
  | .hbm, ⟨54, _⟩ => ⟨S2x8x8192, .f32⟩
  | .hbm, ⟨55, _⟩ => ⟨S2x8x8192, .f32⟩
  | .hbm, ⟨56, _⟩ => ⟨S2x8x8192, .f32⟩
  | .hbm, ⟨57, _⟩ => ⟨S2x8x8192, .f32⟩
  | .hbm, ⟨58, _⟩ => ⟨S2x8x8192, .f32⟩
  | .hbm, ⟨59, _⟩ => ⟨S2x8x8192, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_cst : Ref sig .tc := ⟨.hbm, 13, rfl⟩
abbrev main_v1 : Ref sig .tc := ⟨.hbm, 14, rfl⟩
abbrev main_v2 : Ref sig .tc := ⟨.hbm, 15, rfl⟩
abbrev main_cst_0 : Ref sig .tc := ⟨.hbm, 16, rfl⟩
abbrev main_v3 : Ref sig .tc := ⟨.hbm, 17, rfl⟩
abbrev main_v4 : Ref sig .tc := ⟨.hbm, 18, rfl⟩
abbrev main_cst_1 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_call0_v0 : Ref sig .tc := ⟨.hbm, 44, rfl⟩
abbrev main_call0_call0_cst : Ref sig .tc := ⟨.hbm, 45, rfl⟩
abbrev main_call0_call0_v0 : Ref sig .tc := ⟨.hbm, 46, rfl⟩
abbrev main_call0_call0_v1 : Ref sig .tc := ⟨.hbm, 47, rfl⟩
abbrev main_call0_call0_v2 : Ref sig .tc := ⟨.hbm, 48, rfl⟩
abbrev main_call0_call0_v3 : Ref sig .tc := ⟨.hbm, 49, rfl⟩
abbrev main_call0_call0_v4 : Ref sig .tc := ⟨.hbm, 50, rfl⟩
abbrev main_call0_call0_v5 : Ref sig .tc := ⟨.hbm, 51, rfl⟩
abbrev main_call0_call0_v6 : Ref sig .tc := ⟨.hbm, 52, rfl⟩
abbrev main_call0_call0_v7 : Ref sig .tc := ⟨.hbm, 53, rfl⟩
abbrev main_call0_call0_v8 : Ref sig .tc := ⟨.hbm, 54, rfl⟩
abbrev main_call0_call0_v9 : Ref sig .tc := ⟨.hbm, 55, rfl⟩
abbrev main_call0_call0_v10 : Ref sig .tc := ⟨.hbm, 56, rfl⟩
abbrev main_call0_call0_v11 : Ref sig .tc := ⟨.hbm, 57, rfl⟩
abbrev main_call0_v1 : Ref sig .tc := ⟨.hbm, 58, rfl⟩
abbrev main_v29 : Ref sig .tc := ⟨.hbm, 59, rfl⟩

abbrev nD : Nat := 1
abbrev τ : Topo := Topo.v7x

variable {F : FTy → Type} [FloatOps F]
-- ==== Proof.Experts.Tables.lean ====
/- The routing tables of the experts kernel over the extended reals, for any routing: every block index an expert, at least one block active. -/
module

public import proofs.«01_k».proof.Proof.Gen.Kernel2Ideal.Flash.Runs
public import Idealize.ShloMosaic.Lib.Affine

@[expose] public section

set_option maxRecDepth 16384
set_option Elab.async false

noncomputable section

namespace Cert.Kernel2Ideal.Routed

open Cert.Kernel2Ideal Cert.Kernel2Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

/-- Tables of a routing: an expert for each block of rows, and how many blocks are active. -/
structure Tables where
  be : S290.Idx → BitVec 32
  na : BitVec 32
  hbe : ∀ x, (be x).toNat < 32
  hna : 1 ≤ na.toNat ∧ na.toNat < 2147483648

variable (T : Tables)

/-- The two prefetched tables. -/
def pinT_0 (T : Tables) : S290.Idx → BitVec 32 := T.be
def pinT_1 (T : Tables) : S1.Idx → BitVec 32 := fun _ => T.na

set_option backward.proofsInPublic true in
def pfN : pre0.Contents (Elt Ideal) := fun | ⟨0, _⟩ => pinT_0 T | ⟨1, _⟩ => pinT_1 T | ⟨_ + 2, h⟩ => absurd h (by simp)

/-- The memory holds the tables `T` on every core. -/
def Pinned (m : (ℓ : Loc nD τ sig) → Buf (Elt Ideal) ℓ) : Prop :=
  (∀ c : Dev nD, m ((c : Thread nD τ).loc main_arg0) = pinT_0 T)
  ∧ (∀ c : Dev nD, m ((c : Thread nD τ).loc main_arg1) = pinT_1 T)

theorem expert_inb (w : BitVec 32) (h : w.toNat < 32) : (w.toNat + 1) * 1 ≤ 32 := by omega

theorem na_int : Affine.IsInt T.na T.na.toNat := by
  have := T.hna
  exact Affine.relit (Affine.word T.na) (BitVec.toInt_eq_toNat_of_lt (by omega))

/-- The block of rows read at a point, at most the last active one. -/
theorem row_toNat (i : ℕ) (hi : i < 290) : (Scalar.minsi (BitVec.ofNat 32 i) (Scalar.subi T.na 1#32)).toNat = min i (T.na.toNat - 1) := by
  have hn := T.hna
  have h : Affine.IsInt (Scalar.minsi (BitVec.ofNat 32 i) (Scalar.subi T.na 1#32)) (min (i : ℤ) ((T.na.toNat : ℤ) - 1)) :=
    Affine.minsi (Affine.ofNat i ⟨rfl, by omega⟩) (Affine.subi (na_int T) (Affine.ofNat 1 ⟨rfl, by omega⟩) ⟨rfl, by omega, by omega⟩) rfl
  have := Affine.toNat_of h (by omega)
  omega

theorem rows_inb (i : ℕ) (hi : i < 290) : ((Scalar.minsi (BitVec.ofNat 32 i) (Scalar.subi T.na 1#32)).toNat + 1) * 256 ≤ 74240 := by
  rw [row_toNat T i hi]; omega

theorem ok_0 : ∀ i : grid0.Coords, ∃ h : (∀ a, (cc0_transform_0 inb_S1_S1_0 numel1_S1 (pfN T) i a + 1) * S256x1024.size a ≤ S74240x1024.size a), EltTy.bits .f32 = 32 ∨ (Rect.block (s := S74240x1024) S256x1024.size (cc0_transform_0 inb_S1_S1_0 numel1_S1 (pfN T) i) h).WholeWords (EltTy.packing .f32) := fun i =>
  ⟨fun a => match a with
    | ⟨0, _⟩ => rows_inb T (i 0).val (i 0).isLt
    | ⟨1, _⟩ => le_of_eq (by rfl), .inl rfl⟩

theorem ok_1 : ∀ i : grid0.Coords, ∃ h : (∀ a, (cc0_transform_1 k0_off1_inb numel1_S1 (pfN T) i a + 1) * S1x1024x2048.size a ≤ S32x1024x2048.size a), EltTy.bits .f32 = 32 ∨ (Rect.block (s := S32x1024x2048) S1x1024x2048.size (cc0_transform_1 k0_off1_inb numel1_S1 (pfN T) i) h).WholeWords (EltTy.packing .f32) := fun i =>
  ⟨fun a => match a with
    | ⟨0, _⟩ => expert_inb _ (T.hbe _)
    | ⟨1, _⟩ => le_of_eq (by rfl)
    | ⟨2, _⟩ => le_of_eq (by rfl), .inl rfl⟩

theorem ok_2 : ∀ i : grid0.Coords, ∃ h : (∀ a, (cc0_transform_2 k0_off1_inb numel1_S1 (pfN T) i a + 1) * S1x1x2048.size a ≤ S32x1x2048.size a), EltTy.bits .f32 = 32 ∨ (Rect.block (s := S32x1x2048) S1x1x2048.size (cc0_transform_2 k0_off1_inb numel1_S1 (pfN T) i) h).WholeWords (EltTy.packing .f32) := fun i =>
  ⟨fun a => match a with
    | ⟨0, _⟩ => expert_inb _ (T.hbe _)
    | ⟨1, _⟩ => le_of_eq (by rfl)
    | ⟨2, _⟩ => le_of_eq (by rfl), .inl rfl⟩

theorem ok_3 : ∀ i : grid0.Coords, ∃ h : (∀ a, (cc0_transform_3 k0_off1_inb numel1_S1 (pfN T) i a + 1) * S1x1024x1024.size a ≤ S32x1024x1024.size a), EltTy.bits .f32 = 32 ∨ (Rect.block (s := S32x1024x1024) S1x1024x1024.size (cc0_transform_3 k0_off1_inb numel1_S1 (pfN T) i) h).WholeWords (EltTy.packing .f32) := fun i =>
  ⟨fun a => match a with
    | ⟨0, _⟩ => expert_inb _ (T.hbe _)
    | ⟨1, _⟩ => le_of_eq (by rfl)
    | ⟨2, _⟩ => le_of_eq (by rfl), .inl rfl⟩

theorem ok_4 : ∀ i : grid0.Coords, ∃ h : (∀ a, (cc0_transform_4 k0_off1_inb numel1_S1 (pfN T) i a + 1) * S1x1x1024.size a ≤ S32x1x1024.size a), EltTy.bits .f32 = 32 ∨ (Rect.block (s := S32x1x1024) S1x1x1024.size (cc0_transform_4 k0_off1_inb numel1_S1 (pfN T) i) h).WholeWords (EltTy.packing .f32) := fun i =>
  ⟨fun a => match a with
    | ⟨0, _⟩ => expert_inb _ (T.hbe _)
    | ⟨1, _⟩ => le_of_eq (by rfl)
    | ⟨2, _⟩ => le_of_eq (by rfl), .inl rfl⟩

/-- Every block lies in its array. -/
theorem ok_pfN : ok0 (F := Ideal) (pfN T) := ⟨ok_0 T, ok_1 T, ok_2 T, ok_3 T, ok_4 T⟩

/-- The pipeline at the tables `T`. -/
def adm : (pcfg0 (F := Ideal)).Adm := ⟨pfN T, ok_pfN T⟩
abbrev cfgA : Pipeline.Cfg sig Λ₀ := cfg0 (F := Ideal) (adm T)
abbrev pcs : Fin 1 → Pipeline.Cfg sig Λ₀ := Pipeline.pin (pcfgs (F := Ideal)) fun _ => adm T

variable (m : (ℓ : Loc nD τ sig) → Buf (Elt Ideal) ℓ) (ρ : Dev nD → PrngReg)

/-- The coordinates of point `t`. -/
abbrev crd (t : Fin (cfgA T).N) : (cfgA T).grid.Coords := (cfgA T).grid.coords t

abbrev ms0_0 (t : Fin (cfgA T).N) : Memref sig .tc .vmem S256x1024 .f32 := spec0_0.stage ((cfgA T).slots t (0 : Fin 6))
abbrev hs0_0 (t : Fin (cfgA T).N) : (ms0_0 T t).IsWhole := hstage0_0 (((cfgA T).slots t (0 : Fin 6)).cast nbuf0_0)
abbrev ms0_1 (t : Fin (cfgA T).N) : Memref sig .tc .vmem S1x1024x2048 .f32 := spec0_1.stage ((cfgA T).slots t (1 : Fin 6))
abbrev hs0_1 (t : Fin (cfgA T).N) : (ms0_1 T t).IsWhole := hstage0_1 (((cfgA T).slots t (1 : Fin 6)).cast nbuf0_1)
abbrev ms0_2 (t : Fin (cfgA T).N) : Memref sig .tc .vmem S1x1x2048 .f32 := spec0_2.stage ((cfgA T).slots t (2 : Fin 6))
abbrev hs0_2 (t : Fin (cfgA T).N) : (ms0_2 T t).IsWhole := hstage0_2 (((cfgA T).slots t (2 : Fin 6)).cast nbuf0_2)
abbrev ms0_3 (t : Fin (cfgA T).N) : Memref sig .tc .vmem S1x1024x1024 .f32 := spec0_3.stage ((cfgA T).slots t (3 : Fin 6))
abbrev hs0_3 (t : Fin (cfgA T).N) : (ms0_3 T t).IsWhole := hstage0_3 (((cfgA T).slots t (3 : Fin 6)).cast nbuf0_3)
abbrev ms0_4 (t : Fin (cfgA T).N) : Memref sig .tc .vmem S1x1x1024 .f32 := spec0_4.stage ((cfgA T).slots t (4 : Fin 6))
abbrev hs0_4 (t : Fin (cfgA T).N) : (ms0_4 T t).IsWhole := hstage0_4 (((cfgA T).slots t (4 : Fin 6)).cast nbuf0_4)
abbrev ms0_5 (t : Fin (cfgA T).N) : Memref sig .tc .vmem S256x1024 .f32 := spec0_5.stage ((cfgA T).slots t (5 : Fin 6))
abbrev hs0_5 (t : Fin (cfgA T).N) : (ms0_5 T t).IsWhole := hstage0_5 (((cfgA T).slots t (5 : Fin 6)).cast nbuf0_5)

/-- Window `w`'s block at point `t`, read off its array at launch. -/
def iblk (c : Dev nD) (w : Fin (cfgA T).W) (t : Fin (cfgA T).N) : (((cfgA T).win w).xblock (crd T t)).Idx → Elt Ideal ((cfgA T).win w).elt :=
  (((cfgA T).win w).blk t).view.read (Elt Ideal) ((s₀ m ρ).mem (((cfgA T).win w).arr.view.loc (c : Thread nD τ)))

/-- The count of active blocks as the body reads it. -/
abbrev count : BitVec 32 := View.readAt (Elt Ideal) (tbM0_1).view (Rect.unit (s := S1) ![0] S1.size inb_S1_S1_0).toLoadRect (pinT_1 T) (Shape.Idx.first (numel1_S1.symm ▸ Nat.one_pos))

/-- The bit on which the body fetches an expert's weights. -/
abbrev fetchBit (t : Fin (cfgA T).N) : BitVec 1 :=
  Scalar.cmpi .ne (Scalar.extui (Scalar.andi (Scalar.cmpi .slt (BitVec.ofNat 32 ((crd T t) 0).val) (count T)) (Scalar.ori (Scalar.cmpi .eq (BitVec.ofNat 32 ((crd T t) 0).val) 0#32) (Scalar.cmpi .ne (View.readAt (Elt Ideal) (tbM0_0).view (Rect.unit (s := S290) (k0_off1 (crd T t)) S1.size (k0_off1_inb (crd T t))).toLoadRect (pinT_0 T) (Shape.Idx.first (numel1_S1.symm ▸ Nat.one_pos))) (View.readAt (Elt Ideal) (tbM0_0).view (Rect.unit (s := S290) (k0_off2 (crd T t)) S1.size (k0_off2_inb (crd T t))).toLoadRect (pinT_0 T) (Shape.Idx.first (numel1_S1.symm ▸ Nat.one_pos))))))) 0#32

/-- The expert of point `t` is fetched: it is active, and the first point or one whose expert is not that of the point before. -/
abbrev P0_0 (t : Fin (cfgA T).N) : Prop := (fetchBit T t) = 1#1
/-- Point `t` is active. -/
abbrev P0_1 (t : Fin (cfgA T).N) : Prop := k0_cond2 (crd T t) (count T) = 1#1

/-- Whether the first scratch buffer has been stored before point `n`. -/
def sfresh0_0 : ℕ → Bool
  | 0 => true
  | n + 1 => if h : n < (cfgA T).N then (if P0_0 T ⟨n, h⟩ then false else (if P0_1 T ⟨n, h⟩ then sfresh0_0 n else sfresh0_0 n)) else true

/-- The same in closed form: the first point stores it. -/
def sfrTab0_0 (T : Tables) : ℕ → Bool := fun n => decide (n ≤ 0)

/-- Whether the second scratch buffer has been stored before point `n`. -/
def sfresh0_1 : ℕ → Bool
  | 0 => true
  | n + 1 => if h : n < (cfgA T).N then (if P0_0 T ⟨n, h⟩ then false else (if P0_1 T ⟨n, h⟩ then sfresh0_1 n else sfresh0_1 n)) else true

/-- The same in closed form. -/
def sfrTab0_1 (T : Tables) : ℕ → Bool := fun n => decide (n ≤ 0)

end Cert.Kernel2Ideal.Routed

end
-- ==== Proof.Experts.Facts.lean ====
/- What the tables decide at each grid point of the experts kernel over the extended reals. -/
module

public import proofs.«01_k».proof.Proof.Experts.Tables

@[expose] public section

set_option maxRecDepth 16384
set_option Elab.async false

noncomputable section

namespace Cert.Kernel2Ideal.Routed

open Cert.Kernel2Ideal Cert.Kernel2Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (T : Tables)

/-- The coordinate of point `t` is `t`. -/
theorem grid_coord : ∀ t : Fin grid0.N, (grid0.coords t 0).val = t.val := by decide +kernel
theorem crd_eq (t : Fin (cfgA T).N) : ((crd T t) 0).val = t.val := grid_coord t
theorem N_eq : (cfgA T).N = 290 := N_0
theorem t_lt (t : Fin (cfgA T).N) : t.val < 290 := lt_of_lt_of_eq t.isLt (N_eq T)

theorem count_eq : count T = T.na := rfl

/-- One routing: everything to the first expert. -/
def base : Tables := ⟨fun _ => 0#32, 1#32, fun _ => by decide, by decide⟩

theorem flush_base : ∀ t : Fin (cfgA base).N, ((cfgA base).win (5 : Fin 6)).flush t = true := by decide +kernel

/-- Every point writes its output block back, whatever the tables. -/
theorem flush5 (t : Fin (cfgA T).N) : ((cfgA T).win (5 : Fin 6)).flush t = true := flush_base t

theorem bit_and : ∀ a b : BitVec 1, Scalar.cmpi .ne (Scalar.extui (Scalar.andi a b)) 0#32 = 1#1 → Scalar.cmpi .ne (Scalar.extui a) 0#32 = 1#1 := by decide
theorem bit_self : ∀ a : BitVec 1, Scalar.cmpi .ne (Scalar.extui a) 0#32 = 1#1 ↔ a = 1#1 := by decide
theorem bit_one : ∀ a b c : BitVec 1, a = 1#1 → b = 1#1 → Scalar.cmpi .ne (Scalar.extui (Scalar.andi a (Scalar.ori b c))) 0#32 = 1#1 := by decide

/-- A number is below another or at least it, and not both. -/
theorem slt_sge (x w : BitVec 32) : Scalar.cmpi .sge x w = 1#1 ↔ ¬Scalar.cmpi .slt x w = 1#1 := by
  have h : (w.sle x) = !(x.slt w) := BitVec.sle_eq_not_slt
  have key : ∀ b : Bool, BitVec.ofBool (!b) = 1#1 ↔ ¬BitVec.ofBool b = 1#1 := by decide
  show BitVec.ofBool (w.sle x) = 1#1 ↔ ¬BitVec.ofBool (x.slt w) = 1#1
  rw [h]; exact key _

theorem active_iff (t : Fin (cfgA T).N) : k0_cond2 (crd T t) (count T) = 1#1 ↔ Scalar.cmpi .slt (BitVec.ofNat 32 ((crd T t) 0).val) (count T) = 1#1 := bit_self _
theorem rest_iff (t : Fin (cfgA T).N) : k0_cond3 (crd T t) (count T) = 1#1 ↔ ¬k0_cond2 (crd T t) (count T) = 1#1 :=
  (bit_self _).trans ((slt_sge _ _).trans (not_congr (active_iff T t).symm))
theorem fetch_active (t : Fin (cfgA T).N) (h : P0_0 T t) : P0_1 T t := bit_and _ _ h

/-- A point is active where its number is below the count. -/
theorem active_lt (t : Fin (cfgA T).N) : P0_1 T t ↔ t.val < T.na.toNat := by
  have ht := t_lt T t
  refine (active_iff T t).trans ?_
  rw [crd_eq, count_eq]
  have hi : Affine.IsInt (BitVec.ofNat 32 t.val) (t.val : ℤ) := Affine.ofNat t.val ⟨rfl, by omega⟩
  constructor
  · intro h
    by_contra hn
    exact Affine.slt_fails hi (na_int T) (by omega) h
  · intro h
    exact Affine.slt_holds hi (na_int T) (by omega)

theorem fetch_zero (t : Fin (cfgA T).N) (h : t.val = 0) : P0_0 T t := by
  refine bit_one _ _ _ ((active_iff T t).1 ((active_lt T t).2 (by have := T.hna; omega))) ?_
  rw [crd_eq, h]; decide

theorem ne_zero_of (t : Fin (cfgA T).N) (h : ¬P0_0 T t) : ¬t.val ≤ 0 := fun h0 => h (fetch_zero T t (by omega))

theorem idle5 (t : Fin (cfgA T).N) : (cfgA T).idle (5 : Fin 6) ((cfgA T).grid.coords t) = false := by
  show (!(k0_cond2 (crd T t) (count T) == 1#1) && !(k0_cond3 (crd T t) (count T) == 1#1)) = false
  by_cases h : k0_cond2 (crd T t) (count T) = 1#1
  · rw [h]; rfl
  · rw [(rest_iff T t).2 h]; simp

def frTab0_5 (T : Tables) : ℕ → Bool := fun _ => true

theorem sfr_false (n : ℕ) (h : ¬n ≤ 0) : decide (n ≤ 0) = false := decide_eq_false h
theorem sfr_succ (n : ℕ) : decide (n + 1 ≤ 0) = false := decide_eq_false (by omega)

/-- The facts of every point. -/
theorem allFacts : ∀ (T : Tables) (t : Fin (cfgA T).N),
  (sfrTab0_0 T (t.val + 1) = (if P0_0 T t then false else (if P0_1 T t then sfrTab0_0 T t.val else sfrTab0_0 T t.val)))
  ∧ (sfrTab0_1 T (t.val + 1) = (if P0_0 T t then false else (if P0_1 T t then sfrTab0_1 T t.val else sfrTab0_1 T t.val)))
  ∧ (frTab0_5 T (t.val + 1) = (((cfgA T).win (5 : Fin 6)).flush t || ((cfgA T).idle (5 : Fin 6) ((cfgA T).grid.coords t) && frTab0_5 T t.val)))
  ∧ (P0_0 T t → ((fetchBit T t) = 1#1) ∧ ((k0_cond2 (crd T t) (count T) = 1#1) ∧ ((¬(k0_cond3 (crd T t) (count T) = 1#1)) ∧ (True))))
  ∧ (P0_0 T t → (cfgA T).idle (5 : Fin 6) ((cfgA T).grid.coords t) = false ∧ ((cfgA T).win (5 : Fin 6)).flush t = true ∧ frTab0_5 T t.val = true ∧ sfrTab0_0 T (t.val + 1) = false ∧ sfrTab0_1 T (t.val + 1) = false)
  ∧ (¬P0_0 T t → P0_1 T t → (¬((fetchBit T t) = 1#1)) ∧ ((k0_cond2 (crd T t) (count T) = 1#1) ∧ ((¬(k0_cond3 (crd T t) (count T) = 1#1)) ∧ (True))))
  ∧ (¬P0_0 T t → P0_1 T t → (cfgA T).idle (5 : Fin 6) ((cfgA T).grid.coords t) = false ∧ ((cfgA T).win (5 : Fin 6)).flush t = true ∧ frTab0_5 T t.val = true ∧ sfrTab0_0 T t.val = false ∧ sfrTab0_0 T (t.val + 1) = false ∧ sfrTab0_1 T t.val = false ∧ sfrTab0_1 T (t.val + 1) = false)
  ∧ (¬P0_0 T t → ¬P0_1 T t → (¬((fetchBit T t) = 1#1)) ∧ ((¬(k0_cond2 (crd T t) (count T) = 1#1)) ∧ ((k0_cond3 (crd T t) (count T) = 1#1) ∧ (True))))
  ∧ (¬P0_0 T t → ¬P0_1 T t → (cfgA T).idle (5 : Fin 6) ((cfgA T).grid.coords t) = false ∧ ((cfgA T).win (5 : Fin 6)).flush t = true ∧ frTab0_5 T t.val = true ∧ sfrTab0_0 T t.val = false ∧ sfrTab0_0 T (t.val + 1) = false ∧ sfrTab0_1 T t.val = false ∧ sfrTab0_1 T (t.val + 1) = false) := by
  intro T t
  have step : ∀ b : Bool, (b = if P0_0 T t then false else (if P0_1 T t then decide (t.val ≤ 0) else decide (t.val ≤ 0))) ↔ b = false := by
    intro b
    by_cases q : P0_0 T t
    · rw [if_pos q]
    · rw [if_neg q, ite_self, sfr_false _ (ne_zero_of T t q)]
  refine ⟨(step _).2 (sfr_succ _), (step _).2 (sfr_succ _), ?_, ?_, ?_, ?_, ?_, ?_, ?_⟩
  · rw [flush5]; rfl
  · exact fun q => ⟨q, fetch_active T t q, fun h => (rest_iff T t).1 h (fetch_active T t q), trivial⟩
  · exact fun q => ⟨idle5 T t, flush5 T t, rfl, sfr_succ _, sfr_succ _⟩
  · exact fun q0 q1 => ⟨q0, q1, fun h => (rest_iff T t).1 h q1, trivial⟩
  · exact fun q0 q1 => ⟨idle5 T t, flush5 T t, rfl, sfr_false _ (ne_zero_of T t q0), sfr_succ _, sfr_false _ (ne_zero_of T t q0), sfr_succ _⟩
  · exact fun q0 q1 => ⟨q0, q1, (rest_iff T t).2 q1, trivial⟩
  · exact fun q0 q1 => ⟨idle5 T t, flush5 T t, rfl, sfr_false _ (ne_zero_of T t q0), sfr_succ _, sfr_false _ (ne_zero_of T t q0), sfr_succ _⟩

end Cert.Kernel2Ideal.Routed

end
-- ==== Proof.Experts.Frame.lean ====
/- The frame of the experts kernel over the extended reals, for any routing. -/
module

public import proofs.«01_k».proof.Proof.Experts.Facts
public import Idealize.ShloMosaic.Lib.Claim
public import Idealize.ShloMosaic.Lib.Pipeline.Value

@[expose] public section

set_option maxRecDepth 16384
set_option Elab.async false

noncomputable section

namespace Cert.Kernel2Ideal.Routed

open Cert.Kernel2Ideal Cert.Kernel2Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (T : Tables)
variable (m : (ℓ : Loc nD τ sig) → Buf (Elt Ideal) ℓ) (ρ : Dev nD → PrngReg)

abbrev EP : Emb (UR sig nD τ) 𝕄 := emb₁

theorem sfrTab0_0_step : ∀ (T : Tables) (t : Fin (cfgA T).N), sfrTab0_0 T (t.val + 1) = (if P0_0 T t then false else (if P0_1 T t then sfrTab0_0 T t.val else sfrTab0_0 T t.val)) := fun T t => (allFacts T t).1
theorem sfresh0_0_eq : ∀ n, n ≤ (cfgA T).N → sfresh0_0 T n = sfrTab0_0 T n
  | 0, _ => by simp only [sfresh0_0, sfrTab0_0, Nat.zero_le, decide_true]
  | n + 1, h => by simp only [sfresh0_0, dif_pos (show n < (cfgA T).N from h), sfresh0_0_eq n (Nat.le_of_lt h), sfrTab0_0_step T ⟨n, h⟩]
theorem sfreshF0_0 (t : Fin (cfgA T).N) : sfresh0_0 T t.val = sfrTab0_0 T t.val := sfresh0_0_eq T t.val (Nat.le_of_lt t.isLt)
theorem sfreshS0_0 (t : Fin (cfgA T).N) : sfresh0_0 T (t.val + 1) = sfrTab0_0 T (t.val + 1) := sfresh0_0_eq T (t.val + 1) t.isLt

theorem sfrTab0_1_step : ∀ (T : Tables) (t : Fin (cfgA T).N), sfrTab0_1 T (t.val + 1) = (if P0_0 T t then false else (if P0_1 T t then sfrTab0_1 T t.val else sfrTab0_1 T t.val)) := fun T t => (allFacts T t).2.1
theorem sfresh0_1_eq : ∀ n, n ≤ (cfgA T).N → sfresh0_1 T n = sfrTab0_1 T n
  | 0, _ => by simp only [sfresh0_1, sfrTab0_1, Nat.zero_le, decide_true]
  | n + 1, h => by simp only [sfresh0_1, dif_pos (show n < (cfgA T).N from h), sfresh0_1_eq n (Nat.le_of_lt h), sfrTab0_1_step T ⟨n, h⟩]
theorem sfreshF0_1 (t : Fin (cfgA T).N) : sfresh0_1 T t.val = sfrTab0_1 T t.val := sfresh0_1_eq T t.val (Nat.le_of_lt t.isLt)
theorem sfreshS0_1 (t : Fin (cfgA T).N) : sfresh0_1 T (t.val + 1) = sfrTab0_1 T (t.val + 1) := sfresh0_1_eq T (t.val + 1) t.isLt

theorem frTab0_5_step : ∀ (T : Tables) (t : Fin (cfgA T).N),
    frTab0_5 T (t.val + 1) = (((cfgA T).win (5 : Fin 6)).flush t || ((cfgA T).idle (5 : Fin 6) ((cfgA T).grid.coords t) && frTab0_5 T t.val)) := fun T t => (allFacts T t).2.2.1
theorem freshF0_5 (t : Fin (cfgA T).N) : (cfgA T).fresh (5 : Fin 6) t.val = frTab0_5 T t.val :=
  Pipeline.Cfg.fresh_tab (cfgA T) (5 : Fin 6) (frTab0_5 T) rfl (frTab0_5_step T) t.val (Nat.le_of_lt t.isLt)

theorem hyps0_A : ∀ (T : Tables) (t : Fin (cfgA T).N), P0_0 T t →
    ((fetchBit T t) = 1#1) ∧ ((k0_cond2 (crd T t) (count T) = 1#1) ∧ ((¬(k0_cond3 (crd T t) (count T) = 1#1)) ∧ (True))) := fun T t => (allFacts T t).2.2.2.1

theorem hypsR0_A : ∀ (T : Tables) (t : Fin (cfgA T).N), P0_0 T t →
    ((fetchBit T t) = 1#1) ∧ ((k0_cond2 (crd T t) (count T) = 1#1) ∧ ((¬(k0_cond3 (crd T t) (count T) = 1#1)) ∧ (True))) := hyps0_A

theorem sched0_A : ∀ (T : Tables) (t : Fin (cfgA T).N), P0_0 T t →
    (cfgA T).idle (5 : Fin 6) ((cfgA T).grid.coords t) = false ∧ ((cfgA T).win (5 : Fin 6)).flush t = true ∧ (cfgA T).fresh (5 : Fin 6) t.val = true ∧ sfresh0_0 T (t.val + 1) = false ∧ sfresh0_1 T (t.val + 1) = false := by
  intro T t; rw [freshF0_5 T t, sfreshS0_0 T t, sfreshS0_1 T t]; exact (fun T t => (allFacts T t).2.2.2.2.1) T t

theorem hyps0_B : ∀ (T : Tables) (t : Fin (cfgA T).N), ¬P0_0 T t → P0_1 T t →
    (¬((fetchBit T t) = 1#1)) ∧ ((k0_cond2 (crd T t) (count T) = 1#1) ∧ ((¬(k0_cond3 (crd T t) (count T) = 1#1)) ∧ (True))) := fun T t => (allFacts T t).2.2.2.2.2.1

theorem hypsR0_B : ∀ (T : Tables) (t : Fin (cfgA T).N), ¬P0_0 T t → P0_1 T t →
    (¬((fetchBit T t) = 1#1)) ∧ ((k0_cond2 (crd T t) (count T) = 1#1) ∧ ((¬(k0_cond3 (crd T t) (count T) = 1#1)) ∧ (True))) := hyps0_B

theorem sched0_B : ∀ (T : Tables) (t : Fin (cfgA T).N), ¬P0_0 T t → P0_1 T t →
    (cfgA T).idle (5 : Fin 6) ((cfgA T).grid.coords t) = false ∧ ((cfgA T).win (5 : Fin 6)).flush t = true ∧ (cfgA T).fresh (5 : Fin 6) t.val = true ∧ sfresh0_0 T t.val = false ∧ sfresh0_0 T (t.val + 1) = false ∧ sfresh0_1 T t.val = false ∧ sfresh0_1 T (t.val + 1) = false := by
  intro T t; rw [freshF0_5 T t, sfreshF0_0 T t, sfreshS0_0 T t, sfreshF0_1 T t, sfreshS0_1 T t]; exact (fun T t => (allFacts T t).2.2.2.2.2.2.1) T t

theorem hyps0_C : ∀ (T : Tables) (t : Fin (cfgA T).N), ¬P0_0 T t → ¬P0_1 T t →
    (¬((fetchBit T t) = 1#1)) ∧ ((¬(k0_cond2 (crd T t) (count T) = 1#1)) ∧ ((k0_cond3 (crd T t) (count T) = 1#1) ∧ (True))) := fun T t => (allFacts T t).2.2.2.2.2.2.2.1

theorem hypsR0_C : ∀ (T : Tables) (t : Fin (cfgA T).N), ¬P0_0 T t → ¬P0_1 T t →
    (¬((fetchBit T t) = 1#1)) ∧ ((¬(k0_cond2 (crd T t) (count T) = 1#1)) ∧ ((k0_cond3 (crd T t) (count T) = 1#1) ∧ (True))) := hyps0_C

theorem sched0_C : ∀ (T : Tables) (t : Fin (cfgA T).N), ¬P0_0 T t → ¬P0_1 T t →
    (cfgA T).idle (5 : Fin 6) ((cfgA T).grid.coords t) = false ∧ ((cfgA T).win (5 : Fin 6)).flush t = true ∧ (cfgA T).fresh (5 : Fin 6) t.val = true ∧ sfresh0_0 T t.val = false ∧ sfresh0_0 T (t.val + 1) = false ∧ sfresh0_1 T t.val = false ∧ sfresh0_1 T (t.val + 1) = false := by
  intro T t; rw [freshF0_5 T t, sfreshF0_0 T t, sfreshS0_0 T t, sfreshF0_1 T t, sfreshS0_1 T t]; exact (fun T t => (allFacts T t).2.2.2.2.2.2.2.2) T t

/-- The run of path A at point `t`. -/
abbrev runA (c : Dev nD) (t : Fin (cfgA T).N) (q0 : P0_0 T t) :=
  kernelRun0_A c (crd T t) (ms0_0 T t) (hs0_0 T t) (ms0_1 T t) (hs0_1 T t) (ms0_2 T t) (hs0_2 T t) (ms0_3 T t) (hs0_3 T t) (ms0_4 T t) (hs0_4 T t) (ms0_5 T t) (hs0_5 T t) (pinT_0 T) (pinT_1 T) (iblk T m ρ c (0 : Fin 6) t) (iblk T m ρ c (1 : Fin 6) t) (iblk T m ρ c (2 : Fin 6) t) (iblk T m ρ c (3 : Fin 6) t) (iblk T m ρ c (4 : Fin 6) t) (hypsR0_A T t q0).1 (hypsR0_A T t q0).2.1 (hypsR0_A T t q0).2.2.1

/-- What the run leaves in the output block, of path A at point `t`. -/
abbrev outA (c : Dev nD) (t : Fin (cfgA T).N) (q0 : P0_0 T t) :=
  out0_A_5 c (crd T t) (ms0_0 T t) (hs0_0 T t) (ms0_1 T t) (hs0_1 T t) (ms0_2 T t) (hs0_2 T t) (ms0_3 T t) (hs0_3 T t) (ms0_4 T t) (hs0_4 T t) (ms0_5 T t) (hs0_5 T t) (pinT_0 T) (pinT_1 T) (iblk T m ρ c (0 : Fin 6) t) (iblk T m ρ c (1 : Fin 6) t) (iblk T m ρ c (2 : Fin 6) t) (iblk T m ρ c (3 : Fin 6) t) (iblk T m ρ c (4 : Fin 6) t) (hypsR0_A T t q0).1 (hypsR0_A T t q0).2.1 (hypsR0_A T t q0).2.2.1

/-- The run of path B at point `t`. -/
abbrev runB (c : Dev nD) (t : Fin (cfgA T).N) (a0 : Buf (Elt Ideal) ((c : Thread nD τ).loc cc0_scratch0)) (a1 : Buf (Elt Ideal) ((c : Thread nD τ).loc cc0_scratch1)) (q0 : ¬P0_0 T t) (q1 : P0_1 T t) :=
  kernelRun0_B c (crd T t) (ms0_0 T t) (hs0_0 T t) (ms0_1 T t) (hs0_1 T t) (ms0_2 T t) (hs0_2 T t) (ms0_3 T t) (hs0_3 T t) (ms0_4 T t) (hs0_4 T t) (ms0_5 T t) (hs0_5 T t) (pinT_0 T) (pinT_1 T) (iblk T m ρ c (0 : Fin 6) t) (iblk T m ρ c (1 : Fin 6) t) (iblk T m ρ c (2 : Fin 6) t) (iblk T m ρ c (3 : Fin 6) t) (iblk T m ρ c (4 : Fin 6) t) a0 a1 (hypsR0_B T t q0 q1).1 (hypsR0_B T t q0 q1).2.1 (hypsR0_B T t q0 q1).2.2.1

/-- What the run leaves in the output block, of path B at point `t`. -/
abbrev outB (c : Dev nD) (t : Fin (cfgA T).N) (a0 : Buf (Elt Ideal) ((c : Thread nD τ).loc cc0_scratch0)) (a1 : Buf (Elt Ideal) ((c : Thread nD τ).loc cc0_scratch1)) (q0 : ¬P0_0 T t) (q1 : P0_1 T t) :=
  out0_B_5 c (crd T t) (ms0_0 T t) (hs0_0 T t) (ms0_1 T t) (hs0_1 T t) (ms0_2 T t) (hs0_2 T t) (ms0_3 T t) (hs0_3 T t) (ms0_4 T t) (hs0_4 T t) (ms0_5 T t) (hs0_5 T t) (pinT_0 T) (pinT_1 T) (iblk T m ρ c (0 : Fin 6) t) (iblk T m ρ c (1 : Fin 6) t) (iblk T m ρ c (2 : Fin 6) t) (iblk T m ρ c (3 : Fin 6) t) (iblk T m ρ c (4 : Fin 6) t) a0 a1 (hypsR0_B T t q0 q1).1 (hypsR0_B T t q0 q1).2.1 (hypsR0_B T t q0 q1).2.2.1

/-- The run of path C at point `t`. -/
abbrev runC (c : Dev nD) (t : Fin (cfgA T).N) (a0 : Buf (Elt Ideal) ((c : Thread nD τ).loc cc0_scratch0)) (a1 : Buf (Elt Ideal) ((c : Thread nD τ).loc cc0_scratch1)) (q0 : ¬P0_0 T t) (q1 : ¬P0_1 T t) :=
  kernelRun0_C c (crd T t) (ms0_0 T t) (hs0_0 T t) (ms0_1 T t) (hs0_1 T t) (ms0_2 T t) (hs0_2 T t) (ms0_3 T t) (hs0_3 T t) (ms0_4 T t) (hs0_4 T t) (ms0_5 T t) (hs0_5 T t) (pinT_0 T) (pinT_1 T) (iblk T m ρ c (0 : Fin 6) t) (iblk T m ρ c (1 : Fin 6) t) (iblk T m ρ c (2 : Fin 6) t) (iblk T m ρ c (3 : Fin 6) t) (iblk T m ρ c (4 : Fin 6) t) a0 a1 (hypsR0_C T t q0 q1).1 (hypsR0_C T t q0 q1).2.1 (hypsR0_C T t q0 q1).2.2.1

/-- What the run leaves in the output block, of path C at point `t`. -/
abbrev outC (c : Dev nD) (t : Fin (cfgA T).N) (a0 : Buf (Elt Ideal) ((c : Thread nD τ).loc cc0_scratch0)) (a1 : Buf (Elt Ideal) ((c : Thread nD τ).loc cc0_scratch1)) (q0 : ¬P0_0 T t) (q1 : ¬P0_1 T t) :=
  out0_C_5 c (crd T t) (ms0_0 T t) (hs0_0 T t) (ms0_1 T t) (hs0_1 T t) (ms0_2 T t) (hs0_2 T t) (ms0_3 T t) (hs0_3 T t) (ms0_4 T t) (hs0_4 T t) (ms0_5 T t) (hs0_5 T t) (pinT_0 T) (pinT_1 T) (iblk T m ρ c (0 : Fin 6) t) (iblk T m ρ c (1 : Fin 6) t) (iblk T m ρ c (2 : Fin 6) t) (iblk T m ρ c (3 : Fin 6) t) (iblk T m ρ c (4 : Fin 6) t) a0 a1 (hypsR0_C T t q0 q1).1 (hypsR0_C T t q0 q1).2.1 (hypsR0_C T t q0 q1).2.2.1

/-- One grid point: the output block and the two scratch buffers after it, from what they held before. -/
def step0 (c : Dev nD) (t : Fin (cfgA T).N) (prev : (S256x1024.Idx → Elt Ideal .f32) × Buf (Elt Ideal) ((c : Thread nD τ).loc cc0_scratch0) × Buf (Elt Ideal) ((c : Thread nD τ).loc cc0_scratch1)) : (S256x1024.Idx → Elt Ideal .f32) × Buf (Elt Ideal) ((c : Thread nD τ).loc cc0_scratch0) × Buf (Elt Ideal) ((c : Thread nD τ).loc cc0_scratch1) :=
  if q0 : P0_0 T t then
    (outA T m ρ c t q0, (runA T m ρ c t q0).2.1, (runA T m ρ c t q0).2.2.1)
  else
    if q1 : P0_1 T t then
      (outB T m ρ c t prev.2.1 prev.2.2 q0 q1, (runB T m ρ c t prev.2.1 prev.2.2 q0 q1).2.1, (runB T m ρ c t prev.2.1 prev.2.2 q0 q1).2.2.1)
    else
      (outC T m ρ c t prev.2.1 prev.2.2 q0 q1, (runC T m ρ c t prev.2.1 prev.2.2 q0 q1).2.1, (runC T m ρ c t prev.2.1 prev.2.2 q0 q1).2.2.1)

/-- What the output block and the scratch buffers hold after each point. -/
def traj0 (c : Dev nD) : (n : ℕ) → n < (cfgA T).N → (S256x1024.Idx → Elt Ideal .f32) × Buf (Elt Ideal) ((c : Thread nD τ).loc cc0_scratch0) × Buf (Elt Ideal) ((c : Thread nD τ).loc cc0_scratch1)
  | 0, h => step0 T m ρ c ⟨0, h⟩ (default, default, default)
  | n + 1, h => step0 T m ρ c ⟨n + 1, h⟩ (traj0 c n (Nat.lt_of_succ_lt h))

/-- What they held before point `t`. -/
def prev0 (c : Dev nD) (t : Fin (cfgA T).N) : (S256x1024.Idx → Elt Ideal .f32) × Buf (Elt Ideal) ((c : Thread nD τ).loc cc0_scratch0) × Buf (Elt Ideal) ((c : Thread nD τ).loc cc0_scratch1) :=
  if h : t.val = 0 then (default, default, default) else traj0 T m ρ c (t.val - 1) (by omega)

theorem traj0_eq (c : Dev nD) (t : Fin (cfgA T).N) : traj0 T m ρ c t.val t.isLt = step0 T m ρ c t (prev0 T m ρ c t) := by
  obtain ⟨n, hn⟩ := t
  cases n with
  | zero => rfl
  | succ n => unfold prev0; simp only [Nat.add_one_ne_zero, dif_neg, not_false_eq_true]; rfl

theorem step0_A (c : Dev nD) (t : Fin (cfgA T).N) (prev : (S256x1024.Idx → Elt Ideal .f32) × Buf (Elt Ideal) ((c : Thread nD τ).loc cc0_scratch0) × Buf (Elt Ideal) ((c : Thread nD τ).loc cc0_scratch1)) (q0 : P0_0 T t) :
    step0 T m ρ c t prev = (outA T m ρ c t q0, (runA T m ρ c t q0).2.1, (runA T m ρ c t q0).2.2.1) := by
  unfold step0; simp only [dif_pos q0]

theorem step0_B (c : Dev nD) (t : Fin (cfgA T).N) (prev : (S256x1024.Idx → Elt Ideal .f32) × Buf (Elt Ideal) ((c : Thread nD τ).loc cc0_scratch0) × Buf (Elt Ideal) ((c : Thread nD τ).loc cc0_scratch1)) (q0 : ¬P0_0 T t) (q1 : P0_1 T t) :
    step0 T m ρ c t prev = (outB T m ρ c t prev.2.1 prev.2.2 q0 q1, (runB T m ρ c t prev.2.1 prev.2.2 q0 q1).2.1, (runB T m ρ c t prev.2.1 prev.2.2 q0 q1).2.2.1) := by
  unfold step0; simp only [dif_neg q0, dif_pos q1]

theorem step0_C (c : Dev nD) (t : Fin (cfgA T).N) (prev : (S256x1024.Idx → Elt Ideal .f32) × Buf (Elt Ideal) ((c : Thread nD τ).loc cc0_scratch0) × Buf (Elt Ideal) ((c : Thread nD τ).loc cc0_scratch1)) (q0 : ¬P0_0 T t) (q1 : ¬P0_1 T t) :
    step0 T m ρ c t prev = (outC T m ρ c t prev.2.1 prev.2.2 q0 q1, (runC T m ρ c t prev.2.1 prev.2.2 q0 q1).2.1, (runC T m ρ c t prev.2.1 prev.2.2 q0 q1).2.2.1) := by
  unfold step0; simp only [dif_neg q0, dif_neg q1]

/-- The same at a time of the run. -/
def prev0T (c : Dev nD) (t : Fin ((cfgA T).N + 1)) : (S256x1024.Idx → Elt Ideal .f32) × Buf (Elt Ideal) ((c : Thread nD τ).loc cc0_scratch0) × Buf (Elt Ideal) ((c : Thread nD τ).loc cc0_scratch1) :=
  if h : t.val = 0 then (default, default, default) else traj0 T m ρ c (t.val - 1) (by omega)

theorem prev0T_castSucc (c : Dev nD) (t : Fin (cfgA T).N) : prev0T T m ρ c t.castSucc = prev0 T m ρ c t := by
  unfold prev0T prev0; simp only [Fin.val_castSucc]
theorem prev0T_succ (c : Dev nD) (t : Fin (cfgA T).N) : prev0T T m ρ c t.succ = traj0 T m ρ c t.val t.isLt := by
  unfold prev0T; simp only [Fin.val_succ, Nat.add_one_ne_zero, ↓reduceDIte, Nat.add_one_sub_one]

/-- What the body holds between points: the scratch buffers and half of each table. -/
def Phi (m : (ℓ : Loc nD τ sig) → Buf (Elt Ideal) ℓ) (ρ : Dev nD → PrngReg) (c : Dev nD) (t : Fin ((cfgA T).N + 1)) : sProp 𝕄 :=
  iprop((∃ a, ⌜sfresh0_0 T t.val = false → a = (prev0T T m ρ c t).2.1⌝ ∗ (scM0_0.view.loc (c : Thread nD τ) ↦{fullShare} a)) ∗ (∃ a, ⌜sfresh0_1 T t.val = false → a = (prev0T T m ρ c t).2.2⌝ ∗ (scM0_1.view.loc (c : Thread nD τ) ↦{fullShare} a)) ∗ (tbM0_0.view.loc (c : Thread nD τ) ↦{fullShare.right} pinT_0 T) ∗ (tbM0_1.view.loc (c : Thread nD τ) ↦{fullShare.right} pinT_1 T))

/-- The data of the pipeline: every input block is left alone, the output block is what the point leaves. -/
def dats (_ : Fin 1) (c : Dev nD) : Dat τ (Elt Ideal) Unit ℕ (UR sig nD τ) ℕ (cfgA T) c where
  A w := (s₀ m ρ).mem (((cfgA T).win w).arr.view.loc (c : Thread nD τ))
  after w t := match w with
    | ⟨0, _⟩ => iblk T m ρ c (0 : Fin 6) t
    | ⟨1, _⟩ => iblk T m ρ c (1 : Fin 6) t
    | ⟨2, _⟩ => iblk T m ρ c (2 : Fin 6) t
    | ⟨3, _⟩ => iblk T m ρ c (3 : Fin 6) t
    | ⟨4, _⟩ => iblk T m ρ c (4 : Fin 6) t
    | ⟨5, _⟩ => (traj0 T m ρ c t.val t.isLt).1
  Φ t := Phi T m ρ c t
  q _ := fullShare
  owed _ := 0

theorem after0_0 (c : Dev nD) (t : Fin (cfgA T).N) : (dats T m ρ 0 c).after (0 : Fin 6) t = iblk T m ρ c (0 : Fin 6) t := rfl
theorem after0_1 (c : Dev nD) (t : Fin (cfgA T).N) : (dats T m ρ 0 c).after (1 : Fin 6) t = iblk T m ρ c (1 : Fin 6) t := rfl
theorem after0_2 (c : Dev nD) (t : Fin (cfgA T).N) : (dats T m ρ 0 c).after (2 : Fin 6) t = iblk T m ρ c (2 : Fin 6) t := rfl
theorem after0_3 (c : Dev nD) (t : Fin (cfgA T).N) : (dats T m ρ 0 c).after (3 : Fin 6) t = iblk T m ρ c (3 : Fin 6) t := rfl
theorem after0_4 (c : Dev nD) (t : Fin (cfgA T).N) : (dats T m ρ 0 c).after (4 : Fin 6) t = iblk T m ρ c (4 : Fin 6) t := rfl
theorem after0_5 (c : Dev nD) (t : Fin (cfgA T).N) : (dats T m ρ 0 c).after (5 : Fin 6) t = (traj0 T m ρ c t.val t.isLt).1 := rfl

theorem before0_0 (c : Dev nD) (t : Fin (cfgA T).N) (d) : (dats T m ρ 0 c).before (0 : Fin 6) t d = iblk T m ρ c (0 : Fin 6) t :=
  ((dats T m ρ 0 c).before_in_eq_fetched (0 : Fin 6) rfl (fun _ => rfl) (fun _ _ _ => rfl) (fun t => by rw [after0_0]; unfold Dat.blockOf iblk; rfl) t d).trans
    (by unfold Dat.fetched Dat.blockOf iblk; rfl)

theorem before0_1 (c : Dev nD) (t : Fin (cfgA T).N) (d) : (dats T m ρ 0 c).before (1 : Fin 6) t d = iblk T m ρ c (1 : Fin 6) t :=
  ((dats T m ρ 0 c).before_in_eq_fetched (1 : Fin 6) rfl (fun _ => rfl) (fun _ _ _ => rfl) (fun t => by rw [after0_1]; unfold Dat.blockOf iblk; rfl) t d).trans
    (by unfold Dat.fetched Dat.blockOf iblk; rfl)

theorem before0_2 (c : Dev nD) (t : Fin (cfgA T).N) (d) : (dats T m ρ 0 c).before (2 : Fin 6) t d = iblk T m ρ c (2 : Fin 6) t :=
  ((dats T m ρ 0 c).before_in_eq_fetched (2 : Fin 6) rfl (fun _ => rfl) (fun _ _ _ => rfl) (fun t => by rw [after0_2]; unfold Dat.blockOf iblk; rfl) t d).trans
    (by unfold Dat.fetched Dat.blockOf iblk; rfl)

theorem before0_3 (c : Dev nD) (t : Fin (cfgA T).N) (d) : (dats T m ρ 0 c).before (3 : Fin 6) t d = iblk T m ρ c (3 : Fin 6) t :=
  ((dats T m ρ 0 c).before_in_eq_fetched (3 : Fin 6) rfl (fun _ => rfl) (fun _ _ _ => rfl) (fun t => by rw [after0_3]; unfold Dat.blockOf iblk; rfl) t d).trans
    (by unfold Dat.fetched Dat.blockOf iblk; rfl)

theorem before0_4 (c : Dev nD) (t : Fin (cfgA T).N) (d) : (dats T m ρ 0 c).before (4 : Fin 6) t d = iblk T m ρ c (4 : Fin 6) t :=
  ((dats T m ρ 0 c).before_in_eq_fetched (4 : Fin 6) rfl (fun _ => rfl) (fun _ _ _ => rfl) (fun t => by rw [after0_4]; unfold Dat.blockOf iblk; rfl) t d).trans
    (by unfold Dat.fetched Dat.blockOf iblk; rfl)

theorem hcarry0_5 (c : Dev nD) : ∀ (t : Fin (cfgA T).N) (ht : t.val ≠ 0), (cfgA T).idle (5 : Fin 6) ((cfgA T).grid.coords t) = true → (cfgA T).fresh (5 : Fin 6) t.val = false →
    (dats T m ρ 0 c).after (5 : Fin 6) t = (dats T m ρ 0 c).after (5 : Fin 6) ⟨t.val - 1, by omega⟩ := by
  intro t ht hi hf
  rw [after0_5, after0_5, traj0_eq]
  by_cases q0 : P0_0 T t
  · obtain ⟨i5, -, -, -, -⟩ := sched0_A T t q0
    rw [i5] at hi; exact absurd hi (by decide)
  · by_cases q1 : P0_1 T t
    · obtain ⟨i5, -, -, -, -, -, -⟩ := sched0_B T t q0 q1
      rw [i5] at hi; exact absurd hi (by decide)
    · obtain ⟨i5, -, -, -, -, -, -⟩ := sched0_C T t q0 q1
      rw [i5] at hi; exact absurd hi (by decide)

theorem before0_5 (c : Dev nD) (t : Fin (cfgA T).N) (d) :
    (dats T m ρ 0 c).before (5 : Fin 6) t d = if (cfgA T).fresh (5 : Fin 6) t.val then d else (prev0 T m ρ c t).1 := by
  rw [(dats T m ρ 0 c).before_out_traj (5 : Fin 6) rfl (fun _ _ => rfl) (hcarry0_5 T m ρ c) t.val t rfl d]
  by_cases hf : (cfgA T).fresh (5 : Fin 6) t.val = true
  · simp only [hf, ↓reduceIte]
  · have h0 : t.val ≠ 0 := fun h0 => hf (by rw [h0]; exact Pipeline.Cfg.fresh_zero _ _)
    rw [Bool.not_eq_true] at hf
    simp only [hf, Bool.false_eq_true, ↓reduceIte, after0_5]; unfold prev0; rw [dif_neg h0]

abbrev bodyAt0 (t : Fin (cfgA T).N) : Prog (TpuEff nD τ sig (Elt Ideal) Λ₀ .tc) PUnit :=
  cc0_experts (crd T t) (Memref.whole main_arg0) (Memref.isWhole_whole _) (Memref.whole main_arg1) (Memref.isWhole_whole _) (ms0_0 T t) (hs0_0 T t) (ms0_1 T t) (hs0_1 T t) (ms0_2 T t) (hs0_2 T t) (ms0_3 T t) (hs0_3 T t) (ms0_4 T t) (hs0_4 T t) (ms0_5 T t) (hs0_5 T t) (Memref.whole cc0_scratch0) (Memref.isWhole_whole _) (Memref.whole cc0_scratch1) (Memref.isWhole_whole _)

set_option maxHeartbeats 4000000 in
theorem sound_body (hp : Pinned T m) (c : Dev nD) (t : Fin (cfgA T).N) :
    iprop((dats T m ρ 0 c).Φ t.castSucc ∗ (dats T m ρ 0 c).owesAt () t.castSucc
        ∗ (∃ d, owns (c : Thread nD τ) (ms0_0 T t) fullShare ((dats T m ρ 0 c).before (0 : Fin 6) t d))
        ∗ (∃ d, owns (c : Thread nD τ) (ms0_1 T t) fullShare ((dats T m ρ 0 c).before (1 : Fin 6) t d))
        ∗ (∃ d, owns (c : Thread nD τ) (ms0_2 T t) fullShare ((dats T m ρ 0 c).before (2 : Fin 6) t d))
        ∗ (∃ d, owns (c : Thread nD τ) (ms0_3 T t) fullShare ((dats T m ρ 0 c).before (3 : Fin 6) t d))
        ∗ (∃ d, owns (c : Thread nD τ) (ms0_4 T t) fullShare ((dats T m ρ 0 c).before (4 : Fin 6) t d))
        ∗ (∃ d, owns (c : Thread nD τ) (ms0_5 T t) fullShare ((dats T m ρ 0 c).before (5 : Fin 6) t d)))
      ⊢ wp frame (wpE (defs₀ (F := Ideal)) Variants.none c none) Set.univ (bodyAt0 T t) fun _ =>
          iprop((dats T m ρ 0 c).Φ t.succ ∗ (dats T m ρ 0 c).owesAt () t.succ
            ∗ bigSep Finset.univ fun w : Fin (cfgA T).W =>
                match (cfgA T).idle w ((cfgA T).grid.coords t) with
                | true =>
                  match ((cfgA T).win w).flush t with
                  | false => iprop(∃ d, owns (c : Thread nD τ) (((cfgA T).win w).stage ((cfgA T).slots t w)) fullShare ((dats T m ρ 0 c).before w t d))
                  | true => owns (c : Thread nD τ) (((cfgA T).win w).stage ((cfgA T).slots t w)) fullShare ((dats T m ρ 0 c).after w t)
                | false => owns (c : Thread nD τ) (((cfgA T).win w).stage ((cfgA T).slots t w)) fullShare ((dats T m ρ 0 c).after w t)) := by
  rw [bigSep_W0]
  by_cases q0 : P0_0 T t
  · obtain ⟨i5, f5, fr5, sfn0, sfn1⟩ := sched0_A T t q0
    rewrite [i5]
    simp only [before0_0, before0_1, before0_2, before0_3, before0_4, before0_5, after0_0, after0_1, after0_2, after0_3, after0_4, after0_5, f5]
    simp only [fr5, Bool.false_eq_true, ↓reduceIte]
    rewrite [show (dats T m ρ 0 c).Φ t.succ = Phi T m ρ c t.succ from rfl, show (dats T m ρ 0 c).Φ t.castSucc = Phi T m ρ c t.castSucc from rfl,
      show (dats T m ρ 0 c).owesAt () t.succ = (dats T m ρ 0 c).owesAt () t.castSucc from rfl]
    try rewrite [traj0_eq, step0_A T m ρ c t _ q0]
    unfold Phi; simp only [prev0T_castSucc, prev0T_succ, traj0_eq, step0_A T m ρ c t _ q0, Fin.val_castSucc, Fin.val_succ]
    iintro ⟨⟨⟨%a0, %ha0, HS0⟩, ⟨%a1, %ha1, HS1⟩, HT0, HT1⟩, Ho, ⟨%d0, H0⟩, ⟨%d1, H1⟩, ⟨%d2, H2⟩, ⟨%d3, H3⟩, ⟨%d4, H4⟩, ⟨%d5, H5⟩⟩
    iapply ((runA T m ρ c t q0).2.2.2 a0 a1 _)
    isplitl [H0]; · iapply rep_of_owns; iexact H0
    isplitl [H1]; · iapply rep_of_owns; iexact H1
    isplitl [H2]; · iapply rep_of_owns; iexact H2
    isplitl [H3]; · iapply rep_of_owns; iexact H3
    isplitl [H4]; · iapply rep_of_owns; iexact H4
    isplitl [HT0]; · iexact HT0
    isplitl [HT1]; · iexact HT1
    isplitl [H5]; · iexists _; iexact H5
    isplitl [HS0]; · iexact HS0
    isplitl [HS1]; · iexact HS1
    iintro ⟨H0, H1, H2, H3, H4, HT0, HT1, ⟨%e5, H5⟩, HS0, HS1⟩
    isplitl [HS0 HS1 HT0 HT1]
    · isplitl [HS0]
      · iexists _; isplitr; swap
        · iexact HS0
        · ipureintro; intro hn; first | rfl | exact absurd hn (by first | (rw [sfn0]; decide) | decide)
      isplitl [HS1]
      · iexists _; isplitr; swap
        · iexact HS1
        · ipureintro; intro hn; first | rfl | exact absurd hn (by first | (rw [sfn1]; decide) | decide)
      isplitl [HT0]
      · iexact HT0
      iexact HT1
    isplitl [Ho]; · iexact Ho
    isplitl [H0]
    · iapply owns_of_rep; iexact H0
    isplitl [H1]
    · iapply owns_of_rep; iexact H1
    isplitl [H2]
    · iapply owns_of_rep; iexact H2
    isplitl [H3]
    · iapply owns_of_rep; iexact H3
    isplitl [H4]
    · iapply owns_of_rep; iexact H4
    unfold owns; iexists _; isplitr; swap
    · iexact H5
    · ipureintro; exact View.read_writes_of_cover _ _ _ _ _ (cover0_A_5 c _ _ _ _ _ _ _ _ _ _ _ _ _ _ _ _ _ _ _ _ _ _ _)
  · by_cases q1 : P0_1 T t
    · obtain ⟨i5, f5, fr5, sf0, sfn0, sf1, sfn1⟩ := sched0_B T t q0 q1
      rewrite [i5]
      simp only [before0_0, before0_1, before0_2, before0_3, before0_4, before0_5, after0_0, after0_1, after0_2, after0_3, after0_4, after0_5, f5]
      simp only [fr5, Bool.false_eq_true, ↓reduceIte]
      rewrite [show (dats T m ρ 0 c).Φ t.succ = Phi T m ρ c t.succ from rfl, show (dats T m ρ 0 c).Φ t.castSucc = Phi T m ρ c t.castSucc from rfl,
        show (dats T m ρ 0 c).owesAt () t.succ = (dats T m ρ 0 c).owesAt () t.castSucc from rfl]
      try rewrite [traj0_eq, step0_B T m ρ c t _ q0 q1]
      unfold Phi; simp only [prev0T_castSucc, prev0T_succ, traj0_eq, step0_B T m ρ c t _ q0 q1, Fin.val_castSucc, Fin.val_succ]
      simp only [exists_held sf0, exists_held sf1]
      iintro ⟨⟨HS0, HS1, HT0, HT1⟩, Ho, ⟨%d0, H0⟩, ⟨%d1, H1⟩, ⟨%d2, H2⟩, ⟨%d3, H3⟩, ⟨%d4, H4⟩, ⟨%d5, H5⟩⟩
      iapply ((runB T m ρ c t _ _ q0 q1).2.2.2 _)
      isplitl [H0]; · iapply rep_of_owns; iexact H0
      isplitl [H1]; · iapply rep_of_owns; iexact H1
      isplitl [H2]; · iapply rep_of_owns; iexact H2
      isplitl [H3]; · iapply rep_of_owns; iexact H3
      isplitl [H4]; · iapply rep_of_owns; iexact H4
      isplitl [HT0]; · iexact HT0
      isplitl [HT1]; · iexact HT1
      isplitl [H5]; · iexists _; iexact H5
      isplitl [HS0]; · iexact HS0
      isplitl [HS1]; · iexact HS1
      iintro ⟨H0, H1, H2, H3, H4, HT0, HT1, ⟨%e5, H5⟩, HS0, HS1⟩
      isplitl [HS0 HS1 HT0 HT1]
      · isplitl [HS0]
        · iexists _; isplitr; swap
          · iexact HS0
          · ipureintro; intro hn; first | rfl | exact absurd hn (by first | (rw [sfn0]; decide) | decide)
        isplitl [HS1]
        · iexists _; isplitr; swap
          · iexact HS1
          · ipureintro; intro hn; first | rfl | exact absurd hn (by first | (rw [sfn1]; decide) | decide)
        isplitl [HT0]
        · iexact HT0
        iexact HT1
      isplitl [Ho]; · iexact Ho
      isplitl [H0]
      · iapply owns_of_rep; iexact H0
      isplitl [H1]
      · iapply owns_of_rep; iexact H1
      isplitl [H2]
      · iapply owns_of_rep; iexact H2
      isplitl [H3]
      · iapply owns_of_rep; iexact H3
      isplitl [H4]
      · iapply owns_of_rep; iexact H4
      unfold owns; iexists _; isplitr; swap
      · iexact H5
      · ipureintro; exact View.read_writes_of_cover _ _ _ _ _ (cover0_B_5 c _ _ _ _ _ _ _ _ _ _ _ _ _ _ _ _ _ _ _ _ _ _ _ _ _)
    · obtain ⟨i5, f5, fr5, sf0, sfn0, sf1, sfn1⟩ := sched0_C T t q0 q1
      rewrite [i5]
      simp only [before0_0, before0_1, before0_2, before0_3, before0_4, before0_5, after0_0, after0_1, after0_2, after0_3, after0_4, after0_5, f5]
      simp only [fr5, Bool.false_eq_true, ↓reduceIte]
      rewrite [show (dats T m ρ 0 c).Φ t.succ = Phi T m ρ c t.succ from rfl, show (dats T m ρ 0 c).Φ t.castSucc = Phi T m ρ c t.castSucc from rfl,
        show (dats T m ρ 0 c).owesAt () t.succ = (dats T m ρ 0 c).owesAt () t.castSucc from rfl]
      try rewrite [traj0_eq, step0_C T m ρ c t _ q0 q1]
      unfold Phi; simp only [prev0T_castSucc, prev0T_succ, traj0_eq, step0_C T m ρ c t _ q0 q1, Fin.val_castSucc, Fin.val_succ]
      simp only [exists_held sf0, exists_held sf1]
      iintro ⟨⟨HS0, HS1, HT0, HT1⟩, Ho, ⟨%d0, H0⟩, ⟨%d1, H1⟩, ⟨%d2, H2⟩, ⟨%d3, H3⟩, ⟨%d4, H4⟩, ⟨%d5, H5⟩⟩
      iapply ((runC T m ρ c t _ _ q0 q1).2.2.2 _)
      isplitl [H0]; · iapply rep_of_owns; iexact H0
      isplitl [H1]; · iapply rep_of_owns; iexact H1
      isplitl [H2]; · iapply rep_of_owns; iexact H2
      isplitl [H3]; · iapply rep_of_owns; iexact H3
      isplitl [H4]; · iapply rep_of_owns; iexact H4
      isplitl [HT0]; · iexact HT0
      isplitl [HT1]; · iexact HT1
      isplitl [H5]; · iexists _; iexact H5
      isplitl [HS0]; · iexact HS0
      isplitl [HS1]; · iexact HS1
      iintro ⟨H0, H1, H2, H3, H4, HT0, HT1, ⟨%e5, H5⟩, HS0, HS1⟩
      isplitl [HS0 HS1 HT0 HT1]
      · isplitl [HS0]
        · iexists _; isplitr; swap
          · iexact HS0
          · ipureintro; intro hn; first | rfl | exact absurd hn (by first | (rw [sfn0]; decide) | decide)
        isplitl [HS1]
        · iexists _; isplitr; swap
          · iexact HS1
          · ipureintro; intro hn; first | rfl | exact absurd hn (by first | (rw [sfn1]; decide) | decide)
        isplitl [HT0]
        · iexact HT0
        iexact HT1
      isplitl [Ho]; · iexact Ho
      isplitl [H0]
      · iapply owns_of_rep; iexact H0
      isplitl [H1]
      · iapply owns_of_rep; iexact H1
      isplitl [H2]
      · iapply owns_of_rep; iexact H2
      isplitl [H3]
      · iapply owns_of_rep; iexact H3
      isplitl [H4]
      · iapply owns_of_rep; iexact H4
      unfold owns; iexists _; isplitr; swap
      · iexact H5
      · ipureintro; exact View.read_writes_of_cover _ _ _ _ _ (cover0_C_5 c _ _ _ _ _ _ _ _ _ _ _ _ _ _ _ _ _ _ _ _ _ _ _ _ _)

theorem body_obligation (hp : Pinned T m) (c : Dev nD) : BodyObligation (dats T m ρ 0 c) (defs₀ (F := Ideal)) Variants.none () Set.univ := fun t => by
  rw [bigSep_W0]
  exact sound_body T m ρ hp c t

/-- The ghost state at launch. -/
def u₀ : UR sig nD τ :=
  initOf (Pipeline.cells (pcs T) ((launch0 (F := Ideal)).cellOf_inj fun _ => adm T))
    (Pipeline.launchToks (pcs T) ((launch0 (F := Ideal)).cellOf_inj fun _ => adm T))

theorem share_eq (c : Dev nD) (w : Fin (cfgA T).W) : (dats T m ρ 0 c).share w = fullShare := by unfold Dat.share; split <;> rfl

theorem prefHeld_eq (c : Dev nD) (q : Fin 2 → PosShare TreeShare) (v : pre0.Contents (Elt Ideal)) :
    (Pipeline.prefHeld (Ix := Unit) (Name := ℕ) (U := UR sig nD τ) (Lvl := ℕ) pre0 c q v : sProp 𝕄)
      = iprop((((c : Thread nD τ).loc main_arg0) ↦{q 0} v 0) ∗ (((c : Thread nD τ).loc main_arg1) ↦{q 1} v 1)) := by
  unfold Pipeline.prefHeld
  rw [show (Finset.univ : Finset (Fin 2)) = insert (0 : Fin 2) {(1 : Fin 2)} from by decide,
    bigSep_insert (by decide), bigSep_singleton]
  rfl

theorem phi0_intro (c : Dev nD) :
    iprop(BI.emp ∗ Pipeline.prefHeld pre0 c (fun _ => fullShare.right) (adm T).1 ∗ Pipeline.scopedRest spec0 c) ⊢ (dats T m ρ 0 c).Φ 0 := by
  rw [prefHeld_eq, scopedRest0_eq, show (dats T m ρ 0 c).Φ 0 = Phi T m ρ c 0 from rfl]
  unfold Phi
  iintro ⟨-, ⟨HT0, HT1⟩, ⟨%a0, HS0⟩, ⟨%a1, HS1⟩⟩
  isplitl [HS0]
  · iexists a0; isplitr; swap
    · iexact HS0
    · ipureintro; intro h; exact absurd (h.symm.trans (show sfresh0_0 T 0 = true from rfl)) Bool.false_ne_true
  isplitl [HS1]
  · iexists a1; isplitr; swap
    · iexact HS1
    · ipureintro; intro h; exact absurd (h.symm.trans (show sfresh0_1 T 0 = true from rfl)) Bool.false_ne_true
  isplitl [HT0]
  · iexact HT0
  iexact HT1

theorem phiN_exit (c : Dev nD) : (dats T m ρ 0 c).Φ (Fin.last (cfgA T).N) ⊢ iprop(BI.emp ∗ Pipeline.scopedRest spec0 c) := by
  rw [scopedRest0_eq, show (dats T m ρ 0 c).Φ (Fin.last (cfgA T).N) = Phi T m ρ c (Fin.last _) from rfl]
  unfold Phi
  iintro ⟨⟨%a0, -, HS0⟩, ⟨%a1, -, HS1⟩, -, -⟩
  isplitr; · iempintro
  isplitl [HS0]
  · iexists a0; iexact HS0
  iexists a1; iexact HS1

/-- What the run leaves: every array as the pipeline leaves it, the tables as they were. -/
def QC : PUnit × MemSt nD τ sig (Elt Ideal) → Prop := fun r =>
  ∀ c : Dev nD, (∀ w : Fin (cfgA T).W, r.2.mem (((cfgA T).win w).arr.view.loc (c : Thread nD τ)) = (dats T m ρ 0 c).arrAt w (cfgA T).N)
    ∧ ∀ j, r.2.mem ((c : Thread nD τ).loc (pre0.ref j)) = (adm T).1 j

theorem V_pre (hp : Pinned T m) (c : Dev nD) (j : Fin 2) : m ((c : Thread nD τ).loc (pre0.ref j)) = (adm T).1 j := by
  fin_cases j
  · exact hp.1 c
  · exact hp.2 c

set_option backward.isDefEq.respectTransparency.types false in
set_option maxHeartbeats 4000000 in
theorem run_main_quiescent (hp : Pinned T m) : θ_run (defs (F := Ideal)) (onTc (τ := τ) (main (F := Ideal))) (s₀ m ρ) (fun r => QC T m ρ r ∧ r.2.sem = fun _ => 0) :=
  Pipeline.θ_run_region_noSem_pf_quiescent pcfgs (fun _ => adm T) (dats T m ρ) () ((launch0 (F := Ideal)).cellOf_inj fun _ => adm T) (0 : Fin 1)
    (launch0 (F := Ideal)).win.to₀ (launch0 (F := Ideal)).pre EP defs₀ Variants.none m ρ main
    (hbody := fun c => (body_obligation T m ρ hp c).loose) (hne := (launch0 (F := Ideal)).block_pos)
    (harr := (launch0 (F := Ideal)).arr_whole) (hstage := (launch0 (F := Ideal)).stage_whole) (howed := fun _ _ => rfl)
    (u₀ := u₀ T) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs T) (dats T m ρ) 0 (launch0 (F := Ideal)).win.arr_inj c (launch0 (F := Ideal)).arr_whole
      (share_eq T m ρ c) _ _ fun _ => rfl)
    (hpf := V_pre T m hp)
    (X := fun _ => iprop(emp)) (Y := fun _ => iprop(emp)) (Z := fun _ => iprop(emp))
    (hX := fun c => by rw [unscopedRestP0_eq]; iintro -; isplitr <;> iempintro)
    (hin := phi0_intro T m ρ)
    (hout := phiN_exit T m ρ)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

theorem run_main (hp : Pinned T m) : θ_run (defs (F := Ideal)) (onTc (τ := τ) (main (F := Ideal))) (s₀ m ρ) (QC T m ρ) :=
  (θ_run defs _ _).mono (fun _ h => h.1) (run_main_quiescent T m ρ hp)

theorem unchanged (hp : Pinned T m) :
    θ_run (defs (F := Ideal)) (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).2 0).trans (hp.1 c).symm, ((h c).2 1).trans (hp.2 c).symm, ((h c).1 (0 : Fin 6)).trans ((dats T m ρ 0 c).arrAt_in (0 : Fin 6) rfl _), ((h c).1 (1 : Fin 6)).trans ((dats T m ρ 0 c).arrAt_in (1 : Fin 6) rfl _), ((h c).1 (2 : Fin 6)).trans ((dats T m ρ 0 c).arrAt_in (2 : Fin 6) rfl _), ((h c).1 (3 : Fin 6)).trans ((dats T m ρ 0 c).arrAt_in (3 : Fin 6) rfl _), ((h c).1 (4 : Fin 6)).trans ((dats T m ρ 0 c).arrAt_in (4 : Fin 6) rfl _)⟩) (run_main T m ρ hp)

/-- The frame: it ends without fault, the arguments unchanged, every counter at zero. -/
theorem frame (hp : Pinned T m) :
    θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged T m ρ hp) ((θ_run defs _ _).mono (fun _ h => h.2) (run_main_quiescent T m ρ hp))

end Cert.Kernel2Ideal.Routed

end
-- ==== Proof.Experts.Routing.lean ====
/- The routing precondition as numbers: every block's expert is below 32, and at least one block is active. -/
module

public import proofs.«01_k».proof.Proof.Gen.Pre_routed
public import Idealize.ShloMosaic.Lib.ReduceAll
public import Idealize.ShloMosaic.Lib.Pointwise
public import Idealize.ShloMosaic.Lib.WordCmp

@[expose] public section

set_option maxRecDepth 16384

noncomputable section

namespace Cert.Pre_routed.Value

open Cert.Pre_routed Cert.Pre_routed.Gen Idealize.ShloMosaic

/-- `and` of two truth values is true only where both are. -/
theorem and_one {x y : IVec S_ 1} (h : andi x y = fun _ => 1#1) : x = (fun _ => 1#1) ∧ y = fun _ => 1#1 := by
  have key : ∀ a b : BitVec 1, a &&& b = 1#1 → a = 1#1 ∧ b = 1#1 := by decide
  exact ⟨funext fun i => (key _ _ (congrFun h i)).1, funext fun i => (key _ _ (congrFun h i)).2⟩

theorem bit_and {a b : BitVec 1} (h : IntOp.andi a b = 1#1) : a = 1#1 ∧ b = 1#1 := by
  revert a b; decide

/-- A signed range that starts at no negative number is a range of natural numbers. -/
theorem expert_range (w : BitVec 32) (h0 : IntOp.cmpi .sge w 0#32 = 1#1) (h1 : IntOp.cmpi .slt w 32#32 = 1#1) : w.toNat < 32 := by
  rw [WordCmp.cmpi_sge_eq, WordCmp.ofBool_decide_eq_one_iff] at h0
  rw [WordCmp.cmpi_slt_eq, WordCmp.ofBool_decide_eq_one_iff] at h1
  have e0 : (0#32).toInt = 0 := by decide
  have e1 : (32#32).toInt = 32 := by decide
  rw [e0] at h0; rw [e1] at h1
  have := BitVec.toInt_eq_toNat_cond w
  split at this <;> omega

theorem count_range (w : BitVec 32) (h0 : IntOp.cmpi .sge w 1#32 = 1#1) : 1 ≤ w.toNat ∧ w.toNat < 2147483648 := by
  rw [WordCmp.cmpi_sge_eq, WordCmp.ofBool_decide_eq_one_iff] at h0
  have e0 : (1#32).toInt = 1 := by decide
  rw [e0] at h0
  have := BitVec.toInt_eq_toNat_cond w
  split at this <;> omega

variable {F : FTy → Type} [FloatOps F]

/-- The precondition, as numbers. -/
theorem ranges (a0 : IVec S290 32) (a1 : IVec S1 32) (a2 : FVec F S74240x1024 .f32) (a3 : FVec F S32x1024x2048 .f32) (a4 : FVec F S32x1x2048 .f32) (a5 : FVec F S32x1024x1024 .f32) (a6 : FVec F S32x1x1024 .f32)
    (h : fn (F := F) a0 a1 a2 a3 a4 a5 a6 = fun _ => 1#1) :
    (∀ i, (a0 i).toNat < 32) ∧ ∀ i, 1 ≤ (a1 i).toNat ∧ (a1 i).toNat < 2147483648 := by
  haveI : Subsingleton S_.Idx := ⟨fun a b => funext fun k => k.elim0⟩
  unfold fn at h
  obtain ⟨h0, h1⟩ := and_one h
  refine ⟨fun i => ?_, fun i => ?_⟩
  · obtain ⟨l, r⟩ := bit_and (Host.reduce_andi_all _ _ _ _ (fun k => k.elim0) (congrFun h0 (fun k => k.elim0)) i)
    exact expert_range _ l r
  · exact count_range _ (Host.reduce_andi_all _ _ _ _ (fun k => k.elim0) (congrFun h1 (fun k => k.elim0)) i)

end Cert.Pre_routed.Value

end
-- ==== Proof.Experts.Outputs.lean ====
/- What one grid point of the experts kernel leaves, as its payloads of the staged blocks. -/
module

public import proofs.«01_k».proof.Proof.Experts.Frame
public import Idealize.ShloMosaic.Lib.VecWindow

@[expose] public section

set_option maxRecDepth 16384
set_option Elab.async false

noncomputable section

namespace Cert.Kernel2Ideal.Routed

open Cert.Kernel2Ideal Cert.Kernel2Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (T : Tables)
variable (m : (ℓ : Loc nD τ sig) → Buf (Elt Ideal) ℓ) (ρ : Dev nD → PrngReg)

theorem pay3_congr {x x' : Vec Ideal S256x1024 .f32} {w w' : Vec Ideal S1024x2048 .bf16} {b b' : Vec Ideal S1x1x2048 .f32} {v v' : Vec Ideal S1024x1024 .bf16} {d d' : Vec Ideal S1x1x1024 .f32}
    (h1 : x = x') (h2 : w = w') (h3 : b = b') (h4 : v = v') (h5 : d = d') : k0_pay3 (F := Ideal) x w b v d = k0_pay3 x' w' b' v' d' := by
  subst h1 h2 h3 h4 h5; rfl

/-- A fetching point leaves the expert's first weights in the first scratch buffer, -/
theorem scratchA0 (c : Dev nD) (t : Fin (cfgA T).N) (q0 : P0_0 T t) : (runA T m ρ c t q0).2.1 = k0_pay1 (F := Ideal) (iblk T m ρ c (1 : Fin 6) t) := by
  unfold runA kernelRun0_A
  dsimp only
  exact (View.read_whole (Val := Elt Ideal) cc0_scratch0 _).symm.trans ((View.read_writes_full (View.whole cc0_scratch0) _ _ _ _).trans (congrArg k0_pay1 (View.readAt_rep_full _ _ _)))

/-- its second weights in the second, -/
theorem scratchA1 (c : Dev nD) (t : Fin (cfgA T).N) (q0 : P0_0 T t) : (runA T m ρ c t q0).2.2.1 = k0_pay2 (F := Ideal) (iblk T m ρ c (3 : Fin 6) t) := by
  unfold runA kernelRun0_A
  dsimp only
  exact (View.read_whole (Val := Elt Ideal) cc0_scratch1 _).symm.trans ((View.read_writes_full (View.whole cc0_scratch1) _ _ _ _).trans (congrArg k0_pay2 (View.readAt_rep_full _ _ _)))

/-- and the layer of the block of rows by those weights in the output block. -/
theorem outA_eq (c : Dev nD) (t : Fin (cfgA T).N) (q0 : P0_0 T t) : outA T m ρ c t q0
    = k0_pay3 (F := Ideal) (iblk T m ρ c (0 : Fin 6) t) (k0_pay1 (F := Ideal) (iblk T m ρ c (1 : Fin 6) t)) (iblk T m ρ c (2 : Fin 6) t) (k0_pay2 (F := Ideal) (iblk T m ρ c (3 : Fin 6) t)) (iblk T m ρ c (4 : Fin 6) t) := by
  unfold outA out0_A_5 kernelRun0_A
  dsimp only
  exact (View.read_writes_full VO0_5 _ _ _ _).trans (pay3_congr (View.readAt_rep_full _ _ _)
    ((View.readCov_full _ _ _ _ _).trans (congrArg k0_pay1 (View.readAt_rep_full _ _ _))) (View.readAt_rep_full _ _ _)
    ((View.readCov_full _ _ _ _ _).trans (congrArg k0_pay2 (View.readAt_rep_full _ _ _))) (View.readAt_rep_full _ _ _))

theorem scratchB0 (c : Dev nD) (t : Fin (cfgA T).N) (a0 : Buf (Elt Ideal) ((c : Thread nD τ).loc cc0_scratch0)) (a1 : Buf (Elt Ideal) ((c : Thread nD τ).loc cc0_scratch1)) (q0 : ¬P0_0 T t) (q1 : P0_1 T t) :
    (runB T m ρ c t a0 a1 q0 q1).2.1 = a0 := by
  unfold runB kernelRun0_B
  dsimp only

theorem scratchB1 (c : Dev nD) (t : Fin (cfgA T).N) (a0 : Buf (Elt Ideal) ((c : Thread nD τ).loc cc0_scratch0)) (a1 : Buf (Elt Ideal) ((c : Thread nD τ).loc cc0_scratch1)) (q0 : ¬P0_0 T t) (q1 : P0_1 T t) :
    (runB T m ρ c t a0 a1 q0 q1).2.2.1 = a1 := by
  unfold runB kernelRun0_B
  dsimp only

/-- Another active point keeps the scratch buffers and takes the weights from there. -/
theorem outB_eq (c : Dev nD) (t : Fin (cfgA T).N) (a0 : Buf (Elt Ideal) ((c : Thread nD τ).loc cc0_scratch0)) (a1 : Buf (Elt Ideal) ((c : Thread nD τ).loc cc0_scratch1)) (q0 : ¬P0_0 T t) (q1 : P0_1 T t) :
    outB T m ρ c t a0 a1 q0 q1 = k0_pay3 (F := Ideal) (iblk T m ρ c (0 : Fin 6) t) a0 (iblk T m ρ c (2 : Fin 6) t) a1 (iblk T m ρ c (4 : Fin 6) t) := by
  unfold outB out0_B_5 kernelRun0_B
  dsimp only
  exact (View.read_writes_full VO0_5 _ _ _ _).trans (pay3_congr (View.readAt_rep_full _ _ _)
    (View.readAt_full (View.whole cc0_scratch0) a0 _) (View.readAt_rep_full _ _ _)
    (View.readAt_full (View.whole cc0_scratch1) a1 _) (View.readAt_rep_full _ _ _))

/-- An inactive point writes zeros. -/
theorem outC_eq (c : Dev nD) (t : Fin (cfgA T).N) (a0 : Buf (Elt Ideal) ((c : Thread nD τ).loc cc0_scratch0)) (a1 : Buf (Elt Ideal) ((c : Thread nD τ).loc cc0_scratch1)) (q0 : ¬P0_0 T t) (q1 : ¬P0_1 T t) :
    outC T m ρ c t a0 a1 q0 q1 = k0_pay4 (F := Ideal) := by
  unfold outC out0_C_5 kernelRun0_C
  dsimp only
  exact View.read_writes_full VO0_5 _ _ _ _

end Cert.Kernel2Ideal.Routed

end
-- ==== Proof.Experts.Blocks.lean ====
/- The blocks a grid point of the experts kernel is given, read at an index of the arrays. -/
module

public import proofs.«01_k».proof.Proof.Experts.Facts
public import Idealize.ShloMosaic.Lib.Pipeline.ValueKit
public import Idealize.ShloMosaic.Lib.VecWindow

@[expose] public section

set_option maxRecDepth 16384
set_option Elab.async false

noncomputable section

namespace Cert.Kernel2Ideal.Routed

open Cert.Kernel2Ideal Cert.Kernel2Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (T : Tables)
variable (m : (ℓ : Loc nD τ sig) → Buf (Elt Ideal) ℓ) (ρ : Dev nD → PrngReg)

/-- The block of rows of a point. -/
def rowOf (t : Fin (cfgA T).N) : Fin 290 := ⟨t.val, t_lt T t⟩
/-- The expert of block `n`. -/
def expertOf (n : Fin 290) : Fin 32 := ⟨(T.be (ix1 n)).toNat, T.hbe _⟩

theorem cast_val (t : Fin (cfgA T).N) : (Scalar.indexCast (BitVec.ofNat 32 ((crd T t) 0).val)).toNat = t.val := by
  have := t_lt T t
  show (BitVec.ofNat 32 ((crd T t) 0).val).toNat = t.val
  rw [crd_eq, BitVec.toNat_ofNat]
  omega

theorem prev_val (t : Fin (cfgA T).N) : (Scalar.indexCast (Scalar.maxsi (Scalar.subi (BitVec.ofNat 32 ((crd T t) 0).val) 1#32) 0#32)).toNat = t.val - 1 := by
  have ht := t_lt T t
  show (Scalar.maxsi (Scalar.subi (BitVec.ofNat 32 ((crd T t) 0).val) 1#32) 0#32).toNat = t.val - 1
  rw [crd_eq]
  have h : Affine.IsInt (Scalar.maxsi (Scalar.subi (BitVec.ofNat 32 t.val) 1#32) 0#32) (max ((t.val : ℤ) - 1) 0) :=
    Affine.maxsi (Affine.subi (Affine.ofNat t.val ⟨rfl, by omega⟩) (Affine.ofNat 1 ⟨rfl, by omega⟩) ⟨rfl, by omega, by omega⟩) (Affine.ofNat 0 ⟨rfl, by omega⟩) rfl
  have := Affine.toNat_of h (by omega)
  omega

/-- A word of the table of experts, read at an offset. -/
theorem table_at (off : Fin 1 → ℕ) (h : ∀ a, off a + S1.size a ≤ S290.size a) (n : Fin 290) (hn : off 0 = n.val) (x : S1.Idx) :
    T.be ((Rect.unit (s := S290) off S1.size h).emb x) = T.be (ix1 n) := by
  refine congrArg T.be (funext fun a => ?_)
  obtain rfl : a = 0 := Subsingleton.elim _ _
  refine Fin.ext ?_
  have hx : (x 0).val = 0 := by have : (x 0).val < 1 := (x 0).isLt; omega
  show off 0 + 1 * (x 0).val = n.val
  rw [hx, hn]; omega

theorem idx0 (t : Fin (cfgA T).N) : ((cfgA T).win (0 : Fin 6)).index t = ![min t.val (T.na.toNat - 1), 0] := by
  have e := row_toNat T t.val (t_lt T t)
  rw [← crd_eq T t] at e
  show ![(Scalar.minsi (BitVec.ofNat 32 ((crd T t) 0).val) (Scalar.subi T.na 1#32)).toNat, 0] = _
  rw [e, crd_eq]

/-- The word a point's weights are chosen by. -/
theorem word_at (t : Fin (cfgA T).N) : (T.be ((Rect.unit (s := S290) (k0_off1 (crd T t)) S1.size (k0_off1_inb (crd T t))).emb (Shape.Idx.first (numel1_S1.symm ▸ Nat.one_pos)))).toNat = (expertOf T (rowOf T t)).val := by
  rw [table_at T (k0_off1 (crd T t)) (k0_off1_inb (crd T t)) (rowOf T t) (cast_val T t)]; rfl

theorem idx1 (t : Fin (cfgA T).N) : ((cfgA T).win (1 : Fin 6)).index t = ![(expertOf T (rowOf T t)).val, 0, 0] := by
  rw [← word_at]; rfl
theorem idx2 (t : Fin (cfgA T).N) : ((cfgA T).win (2 : Fin 6)).index t = ![(expertOf T (rowOf T t)).val, 0, 0] := by
  rw [← word_at]; rfl
theorem idx3 (t : Fin (cfgA T).N) : ((cfgA T).win (3 : Fin 6)).index t = ![(expertOf T (rowOf T t)).val, 0, 0] := by
  rw [← word_at]; rfl
theorem idx4 (t : Fin (cfgA T).N) : ((cfgA T).win (4 : Fin 6)).index t = ![(expertOf T (rowOf T t)).val, 0, 0] := by
  rw [← word_at]; rfl
theorem idx5 (t : Fin (cfgA T).N) : ((cfgA T).win (5 : Fin 6)).index t = ![t.val, 0] := by
  have := t_lt T t
  show ![(BitVec.ofNat 32 ((crd T t) 0).val).toNat, 0] = _
  rw [crd_eq, BitVec.toNat_ofNat, Nat.mod_eq_of_lt (by omega)]

/-- An active point that does not fetch has the expert of the point before it. -/
theorem same_expert (t : Fin (cfgA T).N) (q0 : ¬P0_0 T t) (q1 : P0_1 T t) :
    expertOf T (rowOf T t) = expertOf T ⟨t.val - 1, by have := t_lt T t; omega⟩ := by
  by_contra hne
  have key : ∀ a b c : BitVec 1, a = 1#1 → c = 1#1 → Scalar.cmpi .ne (Scalar.extui (Scalar.andi a (Scalar.ori b c))) 0#32 = 1#1 := by decide
  refine q0 (key _ _ _ ((active_iff T t).1 q1) ?_)
  have e1 := table_at T (k0_off1 (crd T t)) (k0_off1_inb _) (rowOf T t) (cast_val T t)
  have e2 := table_at T (k0_off2 (crd T t)) (k0_off2_inb _) ⟨t.val - 1, by have := t_lt T t; omega⟩ (prev_val T t)
  have hw : T.be (ix1 (rowOf T t)) ≠ T.be (ix1 (⟨t.val - 1, by have := t_lt T t; omega⟩ : Fin 290)) := fun h => hne (by unfold expertOf; exact Fin.ext (congrArg (fun w : BitVec 32 => w.toNat) h))
  have hc : ∀ a b : BitVec 32, a ≠ b → Scalar.cmpi .ne a b = 1#1 := fun a b h => by
    show BitVec.ofBool (a != b) = 1#1
    rw [bne_iff_ne.mpr h]; rfl
  exact hc _ _ (by rw [← e1, ← e2] at hw; exact hw)

theorem blk0 (c : Dev nD) (t : Fin (cfgA T).N) (h : t.val < T.na.toNat) (r : Fin 256) (k : Fin 1024) :
    iblk T m ρ c (0 : Fin 6) t (ix2 r k) = m ((c : Thread nD τ).loc main_arg2) (ix2 ⟨256 * t.val + r.val, by have := t_lt T t; omega⟩ k) := by
  have e : min t.val (T.na.toNat - 1) = t.val := by omega
  blk_ext [iblk, s₀, idx0 T t, e]

theorem blk1 (c : Dev nD) (t : Fin (cfgA T).N) (k : Fin 1024) (f : Fin 2048) :
    iblk T m ρ c (1 : Fin 6) t (ix3 (0 : Fin 1) k f) = m ((c : Thread nD τ).loc main_arg3) (ix3 (expertOf T (rowOf T t)) k f) := by
  blk_ext [iblk, s₀, idx1 T t]

theorem blk2 (c : Dev nD) (t : Fin (cfgA T).N) (f : Fin 2048) :
    iblk T m ρ c (2 : Fin 6) t (ix3 (0 : Fin 1) (0 : Fin 1) f) = m ((c : Thread nD τ).loc main_arg4) (ix3 (expertOf T (rowOf T t)) (0 : Fin 1) f) := by
  blk_ext [iblk, s₀, idx2 T t]

theorem blk3 (c : Dev nD) (t : Fin (cfgA T).N) (k : Fin 1024) (f : Fin 1024) :
    iblk T m ρ c (3 : Fin 6) t (ix3 (0 : Fin 1) k f) = m ((c : Thread nD τ).loc main_arg5) (ix3 (expertOf T (rowOf T t)) k f) := by
  blk_ext [iblk, s₀, idx3 T t]

theorem blk4 (c : Dev nD) (t : Fin (cfgA T).N) (f : Fin 1024) :
    iblk T m ρ c (4 : Fin 6) t (ix3 (0 : Fin 1) (0 : Fin 1) f) = m ((c : Thread nD τ).loc main_arg6) (ix3 (expertOf T (rowOf T t)) (0 : Fin 1) f) := by
  blk_ext [iblk, s₀, idx4 T t]

end Cert.Kernel2Ideal.Routed

end
-- ==== Proof.Experts.Spec.lean ====
/- One expert's layer of one row over the extended reals: a product with bias, the gated activation, a product with bias. -/
module

public import Idealize.ShloMosaic.Lib.Pointwise

@[expose] public section

noncomputable section

namespace Cert.Experts

open Idealize.ShloMosaic

/-- The bound on the gate and on the linear part, -/
abbrev limit : EReal := Ideal.ofBits .f32 0x40E00000#32
/-- its negative, -/
abbrev limitNeg : EReal := Ideal.ofBits .f32 0xC0E00000#32
/-- and the factor of the gate inside the sigmoid: with its sign turned, -/
abbrev alphaNeg : EReal := Ideal.ofBits .f32 0xBFD9DB23#32
/-- and as it is. -/
abbrev alpha : EReal := Ideal.ofBits .f32 0x3FD9DB23#32

theorem alphaNeg_eq : alphaNeg = -alpha := by
  simp [alphaNeg, alpha, Ideal.ofBits, Ideal.ieee]

/-- A row's gate and linear part before the activation, at column `f`. -/
def pre (x : Fin 1024 → EReal) (w : Fin 1024 → Fin 2048 → EReal) (b : Fin 2048 → EReal) (f : Fin 2048) : EReal :=
  ∑ k : Fin 1024, x k * w k f + b f

/-- The activation of a gate `g` and a linear part `l`. -/
def act (g l : EReal) : EReal :=
  min g limit * Ideal.div 1 (1 + Ideal.exp (alphaNeg * min g limit)) * (min limit (max limitNeg l) + 1)

/-- One entry of the layer's row. -/
def out (x : Fin 1024 → EReal) (w : Fin 1024 → Fin 2048 → EReal) (b : Fin 2048 → EReal) (v : Fin 1024 → EReal) (d : EReal) : EReal :=
  ∑ f : Fin 1024, act (pre x w b ⟨f.val, by omega⟩) (pre x w b ⟨1024 + f.val, by omega⟩) * v f + d

end Cert.Experts

end
-- ==== Proof.Experts.Payload.lean ====
/- The experts kernel's payloads over the extended reals, read at one index. -/
module

public import proofs.«01_k».proof.Proof.Gen.Kernel2Ideal.Skeleton
public import proofs.«01_k».proof.Proof.Experts.Spec
public import Idealize.ShloMosaic.Lib.Pointwise
public import Idealize.ShloMosaic.Lib.Pipeline.ValueKit

@[expose] public section

set_option maxRecDepth 16384

noncomputable section

namespace Cert.Kernel2Ideal.Routed

open Cert.Kernel2Ideal Cert.Kernel2Ideal.Gen Idealize.ShloMosaic Idealize.ShloMosaic.TcCoe

theorem pay1_apply (w : Vec Ideal S1x1024x2048 .f32) (k : Fin 1024) (f : Fin 2048) : k0_pay1 (F := Ideal) w (ix2 k f) = w (ix3 (0 : Fin 1) k f) := by
  unfold k0_pay1
  pointwise

theorem pay2_apply (w : Vec Ideal S1x1024x1024 .f32) (k : Fin 1024) (f : Fin 1024) : k0_pay2 (F := Ideal) w (ix2 k f) = w (ix3 (0 : Fin 1) k f) := by
  unfold k0_pay2
  pointwise

theorem pay3_apply (x : Vec Ideal S256x1024 .f32) (w : Vec Ideal S1024x2048 .bf16) (b : Vec Ideal S1x1x2048 .f32) (v : Vec Ideal S1024x1024 .bf16) (d : Vec Ideal S1x1x1024 .f32) (r : Fin 256) (j : Fin 1024) :
    k0_pay3 (F := Ideal) x w b v d (ix2 r j)
      = Experts.out (fun k => x (ix2 r k)) (fun k f => w (ix2 k f)) (fun f => b (ix3 (0 : Fin 1) (0 : Fin 1) f)) (fun f => v (ix2 f j)) (d (ix3 (0 : Fin 1) (0 : Fin 1) j)) := by
  unfold k0_pay3
  pointwise
  rfl

theorem pay4_apply (r : Fin 256) (j : Fin 1024) : k0_pay4 (F := Ideal) (ix2 r j) = 0 := by
  unfold k0_pay4
  pointwise

end Cert.Kernel2Ideal.Routed

end
-- ==== Proof.Experts.Final.lean ====
/- The experts kernel's result array: the layer of every active block's rows by its expert's weights, zero elsewhere. -/
module

public import proofs.«01_k».proof.Proof.Experts.Outputs
public import proofs.«01_k».proof.Proof.Experts.Blocks
public import proofs.«01_k».proof.Proof.Experts.Payload

@[expose] public section

set_option maxRecDepth 16384
set_option Elab.async false

noncomputable section

namespace Cert.Kernel2Ideal.Routed

open Cert.Kernel2Ideal Cert.Kernel2Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (T : Tables)
variable (m : (ℓ : Loc nD τ sig) → Buf (Elt Ideal) ℓ) (ρ : Dev nD → PrngReg)

/-- An expert's first weights as a table of two axes, -/
def firstOf (c : Dev nD) (e : Fin 32) : Vec Ideal S1024x2048 .bf16 := fun y => m ((c : Thread nD τ).loc main_arg3) (ix3 e (y 0) (y 1))
/-- and its second. -/
def secondOf (c : Dev nD) (e : Fin 32) : Vec Ideal S1024x1024 .bf16 := fun y => m ((c : Thread nD τ).loc main_arg5) (ix3 e (y 0) (y 1))

theorem ext2 {n0 n1 : ℕ} {α : Type} {f g : (⟨2, ![n0, n1]⟩ : Shape).Idx → α} (h : ∀ (i : Fin n0) (j : Fin n1), f (ix2 i j) = g (ix2 i j)) : f = g := by
  funext y
  have hy : y = ix2 (y 0) (y 1) := by
    funext a
    match a with
    | ⟨0, _⟩ => rfl
    | ⟨1, _⟩ => rfl
  rw [hy]; exact h _ _

theorem first_eq (c : Dev nD) (t : Fin (cfgA T).N) : k0_pay1 (F := Ideal) (iblk T m ρ c (1 : Fin 6) t) = firstOf m c (expertOf T (rowOf T t)) :=
  ext2 fun k f => (pay1_apply _ k f).trans (blk1 T m ρ c t k f)

theorem second_eq (c : Dev nD) (t : Fin (cfgA T).N) : k0_pay2 (F := Ideal) (iblk T m ρ c (3 : Fin 6) t) = secondOf m c (expertOf T (rowOf T t)) :=
  ext2 fun k f => (pay2_apply _ k f).trans (blk3 T m ρ c t k f)

/-- What an active point writes. -/
def written (c : Dev nD) (t : Fin (cfgA T).N) : Vec Ideal S256x1024 .f32 :=
  k0_pay3 (F := Ideal) (iblk T m ρ c (0 : Fin 6) t) (firstOf m c (expertOf T (rowOf T t))) (iblk T m ρ c (2 : Fin 6) t) (secondOf m c (expertOf T (rowOf T t))) (iblk T m ρ c (4 : Fin 6) t)

/-- The output block and the scratch buffers after an active point: the layer of its rows and its expert's weights. -/
def after (c : Dev nD) (t : Fin (cfgA T).N) : (S256x1024.Idx → Elt Ideal .f32) × Buf (Elt Ideal) ((c : Thread nD τ).loc cc0_scratch0) × Buf (Elt Ideal) ((c : Thread nD τ).loc cc0_scratch1) :=
  (written T m ρ c t, firstOf m c (expertOf T (rowOf T t)), secondOf m c (expertOf T (rowOf T t)))

theorem triple_congr {α β γ : Type} {a a' : α} {b b' : β} {c c' : γ} (h1 : a = a') (h2 : b = b') (h3 : c = c') : (a, b, c) = (a', b', c') := by
  subst h1 h2 h3; rfl

theorem traj_fetch (c : Dev nD) (t : Fin (cfgA T).N) (q0 : P0_0 T t) : traj0 T m ρ c t.val t.isLt = after T m ρ c t :=
  (traj0_eq T m ρ c t).trans ((step0_A T m ρ c t (prev0 T m ρ c t) q0).trans (triple_congr
    ((outA_eq T m ρ c t q0).trans (pay3_congr rfl (first_eq T m ρ c t) rfl (second_eq T m ρ c t) rfl))
    ((scratchA0 T m ρ c t q0).trans (first_eq T m ρ c t)) ((scratchA1 T m ρ c t q0).trans (second_eq T m ρ c t))))

theorem traj_keep (c : Dev nD) (t s : Fin (cfgA T).N) (q0 : ¬P0_0 T t) (q1 : P0_1 T t) (hs : expertOf T (rowOf T t) = expertOf T (rowOf T s))
    (hp : prev0 T m ρ c t = after T m ρ c s) : traj0 T m ρ c t.val t.isLt = after T m ρ c t :=
  have h0 : (prev0 T m ρ c t).2.1 = firstOf m c (expertOf T (rowOf T t)) := (congrArg (fun p => p.2.1) hp).trans (congrArg (firstOf m c) hs.symm)
  have h1 : (prev0 T m ρ c t).2.2 = secondOf m c (expertOf T (rowOf T t)) := (congrArg (fun p => p.2.2) hp).trans (congrArg (secondOf m c) hs.symm)
  (traj0_eq T m ρ c t).trans ((step0_B T m ρ c t (prev0 T m ρ c t) q0 q1).trans (triple_congr
    ((outB_eq T m ρ c t _ _ q0 q1).trans (pay3_congr rfl h0 rfl h1 rfl))
    ((scratchB0 T m ρ c t _ _ q0 q1).trans h0) ((scratchB1 T m ρ c t _ _ q0 q1).trans h1)))

/-- So it is after every active point. -/
theorem traj_active (c : Dev nD) (n : ℕ) : ∀ t : Fin (cfgA T).N, t.val = n → t.val < T.na.toNat → traj0 T m ρ c t.val t.isLt = after T m ρ c t := by
  induction n with
  | zero => exact fun t h0 hn => traj_fetch T m ρ c t (fetch_zero T t h0)
  | succ n ih =>
    intro t h1 hn
    by_cases q0 : P0_0 T t
    · exact traj_fetch T m ρ c t q0
    · have q1 : P0_1 T t := (active_lt T t).2 hn
      have hl : t.val - 1 < (cfgA T).N := by have := t.isLt; omega
      have hz : t.val ≠ 0 := by omega
      refine traj_keep T m ρ c t ⟨t.val - 1, hl⟩ q0 q1 (same_expert T t q0 q1) ?_
      have hp : prev0 T m ρ c t = traj0 T m ρ c (t.val - 1) hl := by
        unfold prev0; rw [dif_neg hz]
      rw [hp]
      exact ih ⟨t.val - 1, hl⟩ (by show t.val - 1 = n; omega) (by show t.val - 1 < _; omega)

/-- An inactive point writes zeros. -/
theorem traj_rest (c : Dev nD) (t : Fin (cfgA T).N) (h : ¬t.val < T.na.toNat) : (traj0 T m ρ c t.val t.isLt).1 = k0_pay4 (F := Ideal) := by
  have q1 : ¬P0_1 T t := fun q => h ((active_lt T t).1 q)
  have q0 : ¬P0_0 T t := fun q => q1 (fetch_active T t q)
  rw [traj0_eq, step0_C T m ρ c t _ q0 q1, outC_eq]

/-- The result at row `r` of block `n`, column `j`. -/
def entry (be : Fin 290 → Fin 32) (na : ℕ) (x : Vec Ideal S74240x1024 .f32) (w : Vec Ideal S32x1024x2048 .f32) (b : Vec Ideal S32x1x2048 .f32) (v : Vec Ideal S32x1024x1024 .f32) (d : Vec Ideal S32x1x1024 .f32)
    (n : Fin 290) (r : Fin 256) (j : Fin 1024) : EReal :=
  if n.val < na then
    Experts.out (fun k => x (ix2 ⟨256 * n.val + r.val, by omega⟩ k)) (fun k f => w (ix3 (be n) k f)) (fun f => b (ix3 (be n) (0 : Fin 1) f)) (fun f => v (ix3 (be n) f j)) (d (ix3 (be n) (0 : Fin 1) j))
  else 0

/-- The whole result. -/
def whole (be : Fin 290 → Fin 32) (na : ℕ) (x : Vec Ideal S74240x1024 .f32) (w : Vec Ideal S32x1024x2048 .f32) (b : Vec Ideal S32x1x2048 .f32) (v : Vec Ideal S32x1024x1024 .f32) (d : Vec Ideal S32x1x1024 .f32) : Vec Ideal S74240x1024 .f32 :=
  fun i => entry be na x w b v d ⟨(i 0).val / 256, by have : (i 0).val < 74240 := (i 0).isLt; omega⟩ ⟨(i 0).val % 256, by omega⟩ (i 1)

theorem whole_entry (be : Fin 290 → Fin 32) (na : ℕ) (x : Vec Ideal S74240x1024 .f32) (w : Vec Ideal S32x1024x2048 .f32) (b : Vec Ideal S32x1x2048 .f32) (v : Vec Ideal S32x1024x1024 .f32) (d : Vec Ideal S32x1x1024 .f32)
    (z : S74240x1024.Idx) (n : Fin 290) (r : Fin 256) (j : Fin 1024) (h0 : (z 0).val = 256 * n.val + r.val) (h1 : z 1 = j) : whole be na x w b v d z = entry be na x w b v d n r j := by
  have k0 : (⟨(z 0).val / 256, by have : (z 0).val < 74240 := (z 0).isLt; omega⟩ : Fin 290) = n := Fin.ext (by show (z 0).val / 256 = n.val; rw [h0]; omega)
  have k1 : (⟨(z 0).val % 256, by omega⟩ : Fin 256) = r := Fin.ext (by show (z 0).val % 256 = r.val; rw [h0]; omega)
  unfold whole
  rw [k0, k1, h1]

/-- The result of the arguments in memory. -/
abbrev wholeM (c : Dev nD) : Vec Ideal S74240x1024 .f32 :=
  whole (expertOf T) T.na.toNat (m ((c : Thread nD τ).loc main_arg2)) (m ((c : Thread nD τ).loc main_arg3)) (m ((c : Thread nD τ).loc main_arg4)) (m ((c : Thread nD τ).loc main_arg5)) (m ((c : Thread nD τ).loc main_arg6))

/-- What point `t` writes, at an index of its block. -/
theorem out_at (c : Dev nD) (t : Fin (cfgA T).N) (r : Fin 256) (j : Fin 1024) :
    (traj0 T m ρ c t.val t.isLt).1 (ix2 r j) = entry (expertOf T) T.na.toNat (m ((c : Thread nD τ).loc main_arg2)) (m ((c : Thread nD τ).loc main_arg3)) (m ((c : Thread nD τ).loc main_arg4)) (m ((c : Thread nD τ).loc main_arg5)) (m ((c : Thread nD τ).loc main_arg6)) (rowOf T t) r j := by
  unfold entry
  by_cases h : t.val < T.na.toNat
  · rw [if_pos (show (rowOf T t).val < _ from h), traj_active T m ρ c t.val t rfl h]
    refine (pay3_apply _ _ _ _ _ r j).trans ?_
    have e0 : (fun k => iblk T m ρ c (0 : Fin 6) t (ix2 r k)) = fun k => m ((c : Thread nD τ).loc main_arg2) (ix2 ⟨256 * (rowOf T t).val + r.val, by omega⟩ k) := funext fun k => blk0 T m ρ c t h r k
    have e2 : (fun f => iblk T m ρ c (2 : Fin 6) t (ix3 (0 : Fin 1) (0 : Fin 1) f)) = fun f => m ((c : Thread nD τ).loc main_arg4) (ix3 (expertOf T (rowOf T t)) (0 : Fin 1) f) := funext fun f => blk2 T m ρ c t f
    have e4 := blk4 T m ρ c t j
    exact (congrArg (fun x => Experts.out x _ _ _ _) e0).trans ((congrArg (fun b => Experts.out _ _ b _ _) e2).trans (congrArg (fun d => Experts.out _ _ _ _ d) e4))
  · rw [if_neg (show ¬(rowOf T t).val < _ from h), traj_rest T m ρ c t h]
    exact pay4_apply r j

/-- Every block of the result array is written once. -/
theorem covers_base : ((cfgA base).win (5 : Fin 6)).Covers := by decide +kernel

/-- The result array after the run. -/
theorem final (c : Dev nD) : (dats T m ρ 0 c).arrAt (5 : Fin 6) (cfgA T).N = wholeM T m c := by
  refine (dats T m ρ 0 c).arrAt_eq_of_covers (5 : Fin 6) _ covers_base fun t _ y => ?_
  blk_simp
  rw [after0_5]
  have hy : y = ix2 (y 0) (y 1) := eq_ix2 y
  refine (congrArg (traj0 T m ρ c t.val t.isLt).1 hy).trans ((out_at T m ρ c t (y 0) (y 1)).trans ?_)
  have hr : (y 0).val < 256 := (y 0).isLt
  refine (whole_entry _ _ _ _ _ _ _ _ (rowOf T t) (y 0) (y 1) ?_ ?_).symm
  · blk_simp [idx5 T t]
    show t.val * 256 + (y 0).val = 256 * t.val + (y 0).val
    rw [mul_comm]
  · refine Fin.ext ?_
    blk_simp [idx5 T t]

end Cert.Kernel2Ideal.Routed

end
-- ==== Proof.Experts.Ref.lean ====
/- The experts' reference, cut at its stages and read at one index over the extended reals. -/
module

public import proofs.«01_k».proof.Proof.Gen.Reference2Ideal.Run
public import proofs.«01_k».proof.Proof.Experts.Spec
public import Idealize.ShloMosaic.Lib.WordCmp
public import Idealize.ShloMosaic.Lib.Pointwise

@[expose] public section

set_option maxRecDepth 16384

noncomputable section

namespace Cert.Reference2Ideal.Value

open Cert.Reference2Ideal Cert.Reference2Ideal.Gen Idealize.ShloMosaic Idealize.ShloMosaic.TcCoe Idealize.SL.Sem Idealize.ShloMosaic.StableHlo

variable {F : FTy → Type} [FloatOps F]

/-- The experts as the gathers take them: a negative number counts from the end. -/
def idxs (be : IVec S290 32) : IVec S290x1 32 :=
  broadcastInDim S290x1 ![0] bcast_S290_S290x1_0 (select (cmpi .slt be (broadcastInDim S290 ![] bcast_S_S290 (constantI S_ 32 0#32))) (addi be (broadcastInDim S290 ![] bcast_S_S290 (constantI S_ 32 32#32))) be)

/-- Every block's first weights, first biases, second weights and second biases. -/
def firsts (w : FVec F S32x1024x2048 .f32) (be : IVec S290 32) : FVec F S290x1024x2048 .f32 := Host.gather gather_S32x1024x2048_S290x1_S290x1024x2048_12_0_n_n_0_1_110242048 w (idxs be)
def firstBias (b : FVec F S32x1x2048 .f32) (be : IVec S290 32) : FVec F S290x1x2048 .f32 := Host.gather gather_S32x1x2048_S290x1_S290x1x2048_12_0_n_n_0_1_112048 b (idxs be)
def seconds (v : FVec F S32x1024x1024 .f32) (be : IVec S290 32) : FVec F S290x1024x1024 .f32 := Host.gather gather_S32x1024x1024_S290x1_S290x1024x1024_12_0_n_n_0_1_110241024 v (idxs be)
def secondBias (d : FVec F S32x1x1024 .f32) (be : IVec S290 32) : FVec F S290x1x1024 .f32 := Host.gather gather_S32x1x1024_S290x1_S290x1x1024_12_0_n_n_0_1_111024 d (idxs be)

/-- The first product with its bias. -/
def pre (x : FVec F S74240x1024 .f32) (w : FVec F S290x1024x2048 .f32) (b : FVec F S290x1x2048 .f32) : FVec F S290x256x2048 .f32 :=
  addf (Host.dotGeneral dot_S290x256x1024_S290x1024x2048_S290x256x2048_2_1_1_2_0_0 none (shapeCast _ x shapeCasts_S74240x1024_S290x256x1024) w) (broadcastInDim S290x256x2048 ![0, 1, 2] bcast_S290x1x2048_S290x256x2048_0_1_2 b)

/-- The bounded gate. -/
def gate (g : FVec F S290x256x2048 .f32) : FVec F S290x256x1024 .f32 :=
  minimumf (extractStridedSlice S290x256x1024 ![0, 0, 0] g slices_S290x256x2048_S290x256x1024_0_0_0) (broadcastInDim S290x256x1024 ![] bcast_S_S290x256x1024 (constant S_ .f32 0x40E00000#32))

/-- The bounded linear part. -/
def linear (g : FVec F S290x256x2048 .f32) : FVec F S290x256x1024 .f32 :=
  minimumf (broadcastInDim S290x256x1024 ![] bcast_S_S290x256x1024 (id (constant S_ .f32 0x40E00000#32))) (maximumf (broadcastInDim S290x256x1024 ![] bcast_S_S290x256x1024 (id (constant S_ .f32 0xC0E00000#32))) (extractStridedSlice S290x256x1024 ![0, 0, 1024] g slices_S290x256x2048_S290x256x1024_0_0_1024))

/-- The activation. -/
def act (g : FVec F S290x256x2048 .f32) : FVec F S290x256x1024 .f32 :=
  mulf (mulf (gate g) (Host.divf (broadcastInDim S290x256x1024 ![] bcast_S_S290x256x1024 (constant S_ .f32 0x3F800000#32)) (addf (broadcastInDim S290x256x1024 ![] bcast_S_S290x256x1024 (constant S_ .f32 0x3F800000#32)) (Host.exp (Host.negf (mulf (broadcastInDim S290x256x1024 ![] bcast_S_S290x256x1024 (constant S_ .f32 0x3FD9DB23#32)) (gate g))))))) (addf (linear g) (broadcastInDim S290x256x1024 ![] bcast_S_S290x256x1024 (constant S_ .f32 0x3F800000#32)))

/-- The second product with its bias. -/
def post (a : FVec F S290x256x1024 .f32) (v : FVec F S290x1024x1024 .f32) (d : FVec F S290x1x1024 .f32) : FVec F S290x256x1024 .f32 :=
  addf (Host.dotGeneral dot_S290x256x1024_S290x1024x1024_S290x256x1024_2_1_1_2_0_0 none a v) (broadcastInDim S290x256x1024 ![0, 1, 2] bcast_S290x1x1024_S290x256x1024_0_1_2 d)

/-- The active blocks' rows, zero elsewhere. -/
def masked (na : IVec S1 32) (y : FVec F S290x256x1024 .f32) : FVec F S290x256x1024 .f32 :=
  select (broadcastInDim S290x256x1024 ![0, 1, 2] bcast_S290x1x1_S290x256x1024_0_1_2 (broadcastInDim S290x1x1 ![0] bcast_S290_S290x1x1_0 (cmpi .slt (iotaInDim S290 32 0) (broadcastInDim S290 ![] bcast_S_S290 (shapeCast _ na shapeCasts_S1_S_))))) y (broadcastInDim S290x256x1024 ![] bcast_S_S290x256x1024 (id (constant S_ .f32 0x00000000#32)))

/-- The reference's whole value. -/
def whole (be : IVec S290 32) (na : IVec S1 32) (x : FVec F S74240x1024 .f32) (w : FVec F S32x1024x2048 .f32) (b : FVec F S32x1x2048 .f32) (v : FVec F S32x1024x1024 .f32) (d : FVec F S32x1x1024 .f32) : FVec F S74240x1024 .f32 :=
  shapeCast _ (masked na (post (act (pre x (firsts w be) (firstBias b be))) (seconds v be) (secondBias d be))) shapeCasts_S290x256x1024_S74240x1024

theorem res_eq (m : (ℓ : Loc nD τ sig) → Buf (Elt F) ℓ) (c : Dev nD) :
    res_out0 m c = whole (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5)) (m ((c.tc : Thread nD τ).loc main_arg6)) := by
  unfold res_out0 res_main_v58
  rfl

/-! ## At an index -/

theorem idxs_apply (be : IVec S290 32) (n : Fin 290) (h : (be (ix1 n)).toNat < 32) : idxs be (ix2 n (0 : Fin 1)) = be (ix1 n) := by
  have e : idxs be (ix2 n (0 : Fin 1)) = Scalar.select (IntOp.cmpi .slt (be (ix1 n)) 0#32) (IntOp.addi (be (ix1 n)) 32#32) (be (ix1 n)) := by
    unfold idxs
    pointwise
  have hc : IntOp.cmpi .slt (be (ix1 n)) 0#32 = 0#1 := by
    rw [WordCmp.cmpi_slt_of_lt (by omega) (by decide)]
    simp
  rw [e, hc]
  rfl

/-- A gather of whole slices of two axes, one per start index, read at an index: the slice at the start index read as a signed number and clamped. -/
theorem gather_slices {N A B R w : ℕ} {α : Type} (g : GatherDims ⟨3, ![N, A, B]⟩ ⟨2, ![R, 1]⟩ ⟨3, ![R, A, B]⟩)
    (h1 : g.offsetDims = [1, 2]) (h2 : g.collapsedSliceDims = [0]) (h3 : g.operandBatchingDims = []) (h4 : g.startIndicesBatchingDims = []) (h5 : g.startIndexMap = [0])
    (h6 : g.indexVectorDim = 1) (h7 : g.sliceSizes = ![1, A, B])
    (x : (⟨3, ![N, A, B]⟩ : Shape).Idx → α) (idx : IVec ⟨2, ![R, 1]⟩ w) (n : Fin R) (i : Fin A) (j : Fin B) (e : Fin N) (he : (idx (ix2 n (0 : Fin 1))).toInt = (e.val : ℤ)) :
    Host.gather g x idx (ix3 n i j) = x (ix3 e i j) := by
  obtain ⟨od, cs, ob, sb, sm, iv, ss, wf⟩ := g
  subst h1 h2 h3 h4 h5 h6 h7
  unfold Host.gather
  congr 1
  funext a
  refine Fin.ext ?_
  show GatherDims.start _ (ix3 n i j) idx a + GatherDims.batchCoord _ (ix3 n i j) a + GatherDims.offCoord _ (ix3 n i j) a = _
  rw [GatherDims.batchCoord_eq_zero _ _ _ List.not_mem_nil]
  match a with
  | ⟨0, _⟩ =>
    rw [GatherDims.offCoord_eq_zero _ _ _ (fun h => ((GatherDims.mem_sKept _ _).mp h).1 (List.mem_singleton.mpr rfl))]
    unfold GatherDims.start
    have hs : GatherDims.siIdx (⟨[1, 2], [0], [], [], [0], 1, ![1, A, B], wf⟩ : GatherDims ⟨3, ![N, A, B]⟩ ⟨2, ![R, 1]⟩ ⟨3, ![R, A, B]⟩) (ix3 n i j)
        ⟨List.idxOf (0 : Fin 3) [(0 : Fin 3)], List.idxOf_lt_length_iff.2 (List.mem_singleton.mpr rfl)⟩ = ix2 n (0 : Fin 1) := by
      funext b
      match b with
      | ⟨0, _⟩ => rfl
      | ⟨1, _⟩ => rfl
    have hv : min (idx (ix2 n (0 : Fin 1))).toInt.toNat (N - 1) + 0 + 0 = e.val := by
      rw [he]; have := e.isLt; simp; omega
    split
    · exact (congrArg (fun y => min (idx y).toInt.toNat (N - 1) + 0 + 0) hs).trans hv
    · rename_i h
      exact absurd (show (0 : Fin 3) ∈ [(0 : Fin 3)] from List.mem_singleton.mpr rfl) h
  | ⟨1, _⟩ =>
    unfold GatherDims.start
    split
    · rename_i h
      exact absurd h (show (1 : Fin 3) ∉ [(0 : Fin 3)] by decide)
    · unfold GatherDims.offCoord
      split
      · exact Nat.zero_add _
      · rename_i h
        exact absurd ((GatherDims.mem_sKept _ _).mpr ⟨show (1 : Fin 3) ∉ [(0 : Fin 3)] by decide, List.not_mem_nil⟩) h
  | ⟨2, _⟩ =>
    unfold GatherDims.start
    split
    · rename_i h
      exact absurd h (show (2 : Fin 3) ∉ [(0 : Fin 3)] by decide)
    · unfold GatherDims.offCoord
      split
      · exact Nat.zero_add _
      · rename_i h
        exact absurd ((GatherDims.mem_sKept _ _).mpr ⟨show (2 : Fin 3) ∉ [(0 : Fin 3)] by decide, List.not_mem_nil⟩) h

theorem pre_apply (x : FVec Ideal S74240x1024 .f32) (w : FVec Ideal S290x1024x2048 .f32) (b : FVec Ideal S290x1x2048 .f32) (n : Fin 290) (r : Fin 256) (f : Fin 2048) :
    pre x w b (ix3 n r f) = ∑ k : Fin 1024, x (ix2 ⟨n.val * 256 + r.val, by omega⟩ k) * w (ix3 n k f) + b (ix3 n (0 : Fin 1) f) := by
  unfold pre
  pointwise

theorem post_apply (a : FVec Ideal S290x256x1024 .f32) (v : FVec Ideal S290x1024x1024 .f32) (d : FVec Ideal S290x1x1024 .f32) (n : Fin 290) (r : Fin 256) (j : Fin 1024) :
    post a v d (ix3 n r j) = ∑ f : Fin 1024, a (ix3 n r f) * v (ix3 n f j) + d (ix3 n (0 : Fin 1) j) := by
  unfold post
  pointwise

theorem act_apply (g : FVec Ideal S290x256x2048 .f32) (n : Fin 290) (r : Fin 256) (f : Fin 1024) :
    act g (ix3 n r f) = Experts.act (g (ix3 n r ⟨f.val, by omega⟩)) (g (ix3 n r ⟨1024 + f.val, by omega⟩)) := by
  unfold act Experts.act
  pointwise [gate, linear]
  show _ * Ideal.div 1 (1 + Ideal.exp (-(Experts.alpha * _))) * (min Experts.limit (max Experts.limitNeg _) + 1) = _
  rw [← EReal.neg_mul, ← Experts.alphaNeg_eq]

theorem masked_apply (na : IVec S1 32) (y : FVec Ideal S290x256x1024 .f32) (h : (na (ix1 (0 : Fin 1))).toNat < 2147483648) (n : Fin 290) (r : Fin 256) (j : Fin 1024) :
    masked na y (ix3 n r j) = if n.val < (na (ix1 (0 : Fin 1))).toNat then y (ix3 n r j) else 0 := by
  have e : masked na y (ix3 n r j) = Scalar.select (IntOp.cmpi .slt (BitVec.ofNat 32 n.val) (na (ix1 (0 : Fin 1)))) (y (ix3 n r j)) 0 := by
    unfold masked
    pointwise
    show Scalar.select _ _ (Ideal.ofBits .f32 0x00000000#32) = _
    rw [Ideal.ofBits_zero]
  rw [e, WordCmp.cmpi_slt_of_lt (by rw [BitVec.toNat_ofNat]; omega) (by omega), BitVec.toNat_ofNat, Nat.mod_eq_of_lt (by omega)]
  by_cases hn : n.val < (na (ix1 (0 : Fin 1))).toNat <;> simp [Scalar.select, hn]

theorem whole_apply (be : IVec S290 32) (na : IVec S1 32) (x : FVec Ideal S74240x1024 .f32) (w : FVec Ideal S32x1024x2048 .f32) (b : FVec Ideal S32x1x2048 .f32) (v : FVec Ideal S32x1024x1024 .f32) (d : FVec Ideal S32x1x1024 .f32)
    (n : Fin 290) (r : Fin 256) (j : Fin 1024) :
    whole be na x w b v d (ix2 ⟨256 * n.val + r.val, by omega⟩ j) = masked na (post (act (pre x (firsts w be) (firstBias b be))) (seconds v be) (secondBias d be)) (ix3 n r j) := by
  unfold whole
  pointwise

theorem row_of (be : IVec S290 32) (n : Fin 290) (h : (be (ix1 n)).toNat < 32) : (idxs be (ix2 n (0 : Fin 1))).toInt = (((⟨(be (ix1 n)).toNat, h⟩ : Fin 32).val : ℕ) : ℤ) := by
  rw [idxs_apply be n h, BitVec.toInt_eq_toNat_of_lt (by omega)]

theorem firsts_apply (w : FVec Ideal S32x1024x2048 .f32) (be : IVec S290 32) (n : Fin 290) (h : (be (ix1 n)).toNat < 32) (k : Fin 1024) (f : Fin 2048) :
    firsts w be (ix3 n k f) = w (ix3 (⟨(be (ix1 n)).toNat, h⟩ : Fin 32) k f) := by
  unfold firsts
  exact gather_slices _ rfl rfl rfl rfl rfl rfl rfl w (idxs be) n k f _ (row_of be n h)

theorem firstBias_apply (b : FVec Ideal S32x1x2048 .f32) (be : IVec S290 32) (n : Fin 290) (h : (be (ix1 n)).toNat < 32) (f : Fin 2048) :
    firstBias b be (ix3 n (0 : Fin 1) f) = b (ix3 (⟨(be (ix1 n)).toNat, h⟩ : Fin 32) (0 : Fin 1) f) := by
  unfold firstBias
  exact gather_slices _ rfl rfl rfl rfl rfl rfl rfl b (idxs be) n 0 f _ (row_of be n h)

theorem seconds_apply (v : FVec Ideal S32x1024x1024 .f32) (be : IVec S290 32) (n : Fin 290) (h : (be (ix1 n)).toNat < 32) (f : Fin 1024) (j : Fin 1024) :
    seconds v be (ix3 n f j) = v (ix3 (⟨(be (ix1 n)).toNat, h⟩ : Fin 32) f j) := by
  unfold seconds
  exact gather_slices _ rfl rfl rfl rfl rfl rfl rfl v (idxs be) n f j _ (row_of be n h)

theorem secondBias_apply (d : FVec Ideal S32x1x1024 .f32) (be : IVec S290 32) (n : Fin 290) (h : (be (ix1 n)).toNat < 32) (j : Fin 1024) :
    secondBias d be (ix3 n (0 : Fin 1) j) = d (ix3 (⟨(be (ix1 n)).toNat, h⟩ : Fin 32) (0 : Fin 1) j) := by
  unfold secondBias
  exact gather_slices _ rfl rfl rfl rfl rfl rfl rfl d (idxs be) n 0 j _ (row_of be n h)

/-- The reference at row `r` of block `n`, column `j`: the layer by the block's expert's weights where the block is active, zero elsewhere. -/
theorem whole_at (be : IVec S290 32) (na : IVec S1 32) (x : FVec Ideal S74240x1024 .f32) (w : FVec Ideal S32x1024x2048 .f32) (b : FVec Ideal S32x1x2048 .f32) (v : FVec Ideal S32x1024x1024 .f32) (d : FVec Ideal S32x1x1024 .f32)
    (hb : ∀ n : Fin 290, (be (ix1 n)).toNat < 32) (hn : (na (ix1 (0 : Fin 1))).toNat < 2147483648) (n : Fin 290) (r : Fin 256) (j : Fin 1024) :
    whole be na x w b v d (ix2 ⟨256 * n.val + r.val, by omega⟩ j) = if n.val < (na (ix1 (0 : Fin 1))).toNat then
      Experts.out (fun k => x (ix2 ⟨256 * n.val + r.val, by omega⟩ k)) (fun k f => w (ix3 (⟨(be (ix1 n)).toNat, hb n⟩ : Fin 32) k f)) (fun f => b (ix3 (⟨(be (ix1 n)).toNat, hb n⟩ : Fin 32) (0 : Fin 1) f))
        (fun f => v (ix3 (⟨(be (ix1 n)).toNat, hb n⟩ : Fin 32) f j)) (d (ix3 (⟨(be (ix1 n)).toNat, hb n⟩ : Fin 32) (0 : Fin 1) j))
    else 0 := by
  have hr : ∀ k : Fin 1024, (ix2 (⟨n.val * 256 + r.val, by omega⟩ : Fin 74240) k) = ix2 (⟨256 * n.val + r.val, by omega⟩ : Fin 74240) k := fun k =>
    congrArg (fun q : Fin 74240 => ix2 q k) (Fin.ext (by show n.val * 256 + r.val = 256 * n.val + r.val; omega))
  have hp : ∀ f : Fin 2048, pre x (firsts w be) (firstBias b be) (ix3 n r f)
      = Experts.pre (fun k => x (ix2 ⟨256 * n.val + r.val, by omega⟩ k)) (fun k f => w (ix3 (⟨(be (ix1 n)).toNat, hb n⟩ : Fin 32) k f)) (fun f => b (ix3 (⟨(be (ix1 n)).toNat, hb n⟩ : Fin 32) (0 : Fin 1) f)) f := fun f => by
    rw [pre_apply, firstBias_apply b be n (hb n)]
    unfold Experts.pre
    exact congrArg (· + _) (Finset.sum_congr rfl fun k _ => by rw [firsts_apply w be n (hb n), hr])
  rw [whole_apply, masked_apply na _ hn, post_apply, secondBias_apply d be n (hb n)]
  refine congrArg (fun y => if n.val < (na (ix1 (0 : Fin 1))).toNat then y else 0) ?_
  unfold Experts.out
  exact congrArg (· + _) (Finset.sum_congr rfl fun f _ => by rw [act_apply, hp, hp, seconds_apply v be n (hb n)])

end Cert.Reference2Ideal.Value

end
-- ==== Proof.Experts.Value.lean ====
/- The routing in memory, and the experts kernel's result as the reference's. -/
module

public import proofs.«01_k».proof.Proof.Experts.Frame
public import proofs.«01_k».proof.Proof.Experts.Routing
public import proofs.«01_k».proof.Proof.Experts.Final
public import proofs.«01_k».proof.Proof.Experts.Ref

@[expose] public section

set_option maxRecDepth 16384

noncomputable section

namespace Cert.Kernel2Ideal.Routed

open Cert.Kernel2Ideal Cert.Kernel2Ideal.Gen
open Idealize.ShloMosaic Idealize.ShloMosaic.TcCoe Idealize.SL.Sem

/-- The first core. -/
abbrev core0 : Dev nD := ⟨0, by decide⟩

theorem core_eq (c : Dev nD) : c = core0 := Fin.ext (by have : c.val < 1 := c.isLt; show c.val = 0; omega)

theorem one_index (i : S1.Idx) : i = ix1 (0 : Fin 1) := by
  funext a
  match a with
  | ⟨0, _⟩ => exact Subsingleton.elim (α := Fin 1) _ _

/-- The routing precondition of the arguments in memory. -/
abbrev Routing (m : (ℓ : Loc nD τ sig) → Buf (Elt Ideal) ℓ) : Prop := ∀ c : Dev nD,
  Cert.Pre_routed.fn (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) = fun _ => 1#1

theorem routing_ranges (m : (ℓ : Loc nD τ sig) → Buf (Elt Ideal) ℓ) (h : Routing m) (c : Dev nD) :
    (∀ i : S290.Idx, (show BitVec 32 from m ((c.tc : Thread nD τ).loc main_arg0) i).toNat < 32)
      ∧ ∀ i : S1.Idx, 1 ≤ (show BitVec 32 from m ((c.tc : Thread nD τ).loc main_arg1) i).toNat ∧ (show BitVec 32 from m ((c.tc : Thread nD τ).loc main_arg1) i).toNat < 2147483648 :=
  Cert.Pre_routed.Value.ranges (F := Ideal) _ _ _ _ _ _ _ (h c)

/-- The routing that memory holds. -/
def tablesOf (m : (ℓ : Loc nD τ sig) → Buf (Elt Ideal) ℓ) (h : Routing m) : Tables :=
  ⟨m ((core0.tc : Thread nD τ).loc main_arg0), m ((core0.tc : Thread nD τ).loc main_arg1) (ix1 (0 : Fin 1)), (routing_ranges m h core0).1, (routing_ranges m h core0).2 _⟩

theorem pinned (m : (ℓ : Loc nD τ sig) → Buf (Elt Ideal) ℓ) (h : Routing m) : Pinned (tablesOf m h) m := by
  refine ⟨fun c => ?_, fun c => ?_⟩
  · rw [core_eq c]; rfl
  · rw [core_eq c]
    exact funext fun i => congrArg (m ((core0.tc : Thread nD τ).loc main_arg1)) (one_index i)

/-- The result of the run and the arguments unchanged. -/
theorem run_blocks (T : Tables) (m : (ℓ : Loc nD τ sig) → Buf (Elt Ideal) ℓ) (ρ : Dev nD → PrngReg) (hp : Pinned T m) :
    θ_run (defs (F := Ideal)) (onTc (τ := τ) (main (F := Ideal))) ⟨m, fun _ => 0, ρ⟩ (fun r => ∀ c : Dev nD,
      r.2.mem ((c.tc : Thread nD τ).loc main_v0) = wholeM T m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨(h.1 c).trans (final T m ρ c), h.2 c⟩)
    (θ_run_and ((θ_run defs _ _).mono (fun _ h c => (h c).1 (5 : Fin 6)) (run_main T m ρ hp)) (unchanged T m ρ hp))

/-- The reference's result of the same arguments. -/
theorem reference_whole (T : Tables) (na : IVec S1 32) (hna : na (ix1 (0 : Fin 1)) = T.na) (x : FVec Ideal S74240x1024 .f32) (w : FVec Ideal S32x1024x2048 .f32) (b : FVec Ideal S32x1x2048 .f32)
    (v : FVec Ideal S32x1024x1024 .f32) (d : FVec Ideal S32x1x1024 .f32) :
    Cert.Reference2Ideal.Value.whole (F := Ideal) T.be na x w b v d = whole (expertOf T) T.na.toNat x w b v d := by
  refine ext2 fun i j => ?_
  have hi : i = (⟨256 * (i.val / 256) + i.val % 256, by omega⟩ : Fin 74240) := Fin.ext (by show i.val = 256 * (i.val / 256) + i.val % 256; omega)
  have hn : (na (ix1 (0 : Fin 1))).toNat < 2147483648 := by rw [hna]; exact T.hna.2
  have e := Cert.Reference2Ideal.Value.whole_at T.be na x w b v d (fun n => T.hbe _) hn ⟨i.val / 256, by omega⟩ ⟨i.val % 256, by omega⟩ j
  rw [hna] at e
  exact (congrArg (fun q => Cert.Reference2Ideal.Value.whole (F := Ideal) T.be na x w b v d (ix2 q j)) hi).trans e

end Cert.Kernel2Ideal.Routed

end
-- ==== Proof.Experts.Bits.Tables.lean ====
/- The routing tables of the experts kernel at machine floats, for any routing: every block index an expert, at least one block active. -/
module

public import proofs.«01_k».proof.Proof.Gen.Kernel2.Flash.Runs
public import Idealize.ShloMosaic.Lib.Affine

@[expose] public section

set_option maxRecDepth 16384
set_option Elab.async false

noncomputable section

namespace Cert.Kernel2.Routed

open Cert.Kernel2 Cert.Kernel2.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Bits) ℕ (UR sig nD τ) ℕ

/-- Tables of a routing: an expert for each block of rows, and how many blocks are active. -/
structure Tables where
  be : S290.Idx → BitVec 32
  na : BitVec 32
  hbe : ∀ x, (be x).toNat < 32
  hna : 1 ≤ na.toNat ∧ na.toNat < 2147483648

variable (T : Tables)

/-- The two prefetched tables. -/
def pinT_0 (T : Tables) : S290.Idx → BitVec 32 := T.be
def pinT_1 (T : Tables) : S1.Idx → BitVec 32 := fun _ => T.na

set_option backward.proofsInPublic true in
def pfN : pre0.Contents (Elt Bits) := fun | ⟨0, _⟩ => pinT_0 T | ⟨1, _⟩ => pinT_1 T | ⟨_ + 2, h⟩ => absurd h (by simp)

/-- The memory holds the tables `T` on every core. -/
def Pinned (m : (ℓ : Loc nD τ sig) → Buf (Elt Bits) ℓ) : Prop :=
  (∀ c : Dev nD, m ((c : Thread nD τ).loc main_arg0) = pinT_0 T)
  ∧ (∀ c : Dev nD, m ((c : Thread nD τ).loc main_arg1) = pinT_1 T)

theorem expert_inb (w : BitVec 32) (h : w.toNat < 32) : (w.toNat + 1) * 1 ≤ 32 := by omega

theorem na_int : Affine.IsInt T.na T.na.toNat := by
  have := T.hna
  exact Affine.relit (Affine.word T.na) (BitVec.toInt_eq_toNat_of_lt (by omega))

/-- The block of rows read at a point, at most the last active one. -/
theorem row_toNat (i : ℕ) (hi : i < 290) : (Scalar.minsi (BitVec.ofNat 32 i) (Scalar.subi T.na 1#32)).toNat = min i (T.na.toNat - 1) := by
  have hn := T.hna
  have h : Affine.IsInt (Scalar.minsi (BitVec.ofNat 32 i) (Scalar.subi T.na 1#32)) (min (i : ℤ) ((T.na.toNat : ℤ) - 1)) :=
    Affine.minsi (Affine.ofNat i ⟨rfl, by omega⟩) (Affine.subi (na_int T) (Affine.ofNat 1 ⟨rfl, by omega⟩) ⟨rfl, by omega, by omega⟩) rfl
  have := Affine.toNat_of h (by omega)
  omega

theorem rows_inb (i : ℕ) (hi : i < 290) : ((Scalar.minsi (BitVec.ofNat 32 i) (Scalar.subi T.na 1#32)).toNat + 1) * 256 ≤ 74240 := by
  rw [row_toNat T i hi]; omega

theorem ok_0 : ∀ i : grid0.Coords, ∃ h : (∀ a, (cc0_transform_0 inb_S1_S1_0 numel1_S1 (pfN T) i a + 1) * S256x1024.size a ≤ S74240x1024.size a), EltTy.bits .f32 = 32 ∨ (Rect.block (s := S74240x1024) S256x1024.size (cc0_transform_0 inb_S1_S1_0 numel1_S1 (pfN T) i) h).WholeWords (EltTy.packing .f32) := fun i =>
  ⟨fun a => match a with
    | ⟨0, _⟩ => rows_inb T (i 0).val (i 0).isLt
    | ⟨1, _⟩ => le_of_eq (by rfl), .inl rfl⟩

theorem ok_1 : ∀ i : grid0.Coords, ∃ h : (∀ a, (cc0_transform_1 k0_off1_inb numel1_S1 (pfN T) i a + 1) * S1x1024x2048.size a ≤ S32x1024x2048.size a), EltTy.bits .f32 = 32 ∨ (Rect.block (s := S32x1024x2048) S1x1024x2048.size (cc0_transform_1 k0_off1_inb numel1_S1 (pfN T) i) h).WholeWords (EltTy.packing .f32) := fun i =>
  ⟨fun a => match a with
    | ⟨0, _⟩ => expert_inb _ (T.hbe _)
    | ⟨1, _⟩ => le_of_eq (by rfl)
    | ⟨2, _⟩ => le_of_eq (by rfl), .inl rfl⟩

theorem ok_2 : ∀ i : grid0.Coords, ∃ h : (∀ a, (cc0_transform_2 k0_off1_inb numel1_S1 (pfN T) i a + 1) * S1x1x2048.size a ≤ S32x1x2048.size a), EltTy.bits .f32 = 32 ∨ (Rect.block (s := S32x1x2048) S1x1x2048.size (cc0_transform_2 k0_off1_inb numel1_S1 (pfN T) i) h).WholeWords (EltTy.packing .f32) := fun i =>
  ⟨fun a => match a with
    | ⟨0, _⟩ => expert_inb _ (T.hbe _)
    | ⟨1, _⟩ => le_of_eq (by rfl)
    | ⟨2, _⟩ => le_of_eq (by rfl), .inl rfl⟩

theorem ok_3 : ∀ i : grid0.Coords, ∃ h : (∀ a, (cc0_transform_3 k0_off1_inb numel1_S1 (pfN T) i a + 1) * S1x1024x1024.size a ≤ S32x1024x1024.size a), EltTy.bits .f32 = 32 ∨ (Rect.block (s := S32x1024x1024) S1x1024x1024.size (cc0_transform_3 k0_off1_inb numel1_S1 (pfN T) i) h).WholeWords (EltTy.packing .f32) := fun i =>
  ⟨fun a => match a with
    | ⟨0, _⟩ => expert_inb _ (T.hbe _)
    | ⟨1, _⟩ => le_of_eq (by rfl)
    | ⟨2, _⟩ => le_of_eq (by rfl), .inl rfl⟩

theorem ok_4 : ∀ i : grid0.Coords, ∃ h : (∀ a, (cc0_transform_4 k0_off1_inb numel1_S1 (pfN T) i a + 1) * S1x1x1024.size a ≤ S32x1x1024.size a), EltTy.bits .f32 = 32 ∨ (Rect.block (s := S32x1x1024) S1x1x1024.size (cc0_transform_4 k0_off1_inb numel1_S1 (pfN T) i) h).WholeWords (EltTy.packing .f32) := fun i =>
  ⟨fun a => match a with
    | ⟨0, _⟩ => expert_inb _ (T.hbe _)
    | ⟨1, _⟩ => le_of_eq (by rfl)
    | ⟨2, _⟩ => le_of_eq (by rfl), .inl rfl⟩

/-- Every block lies in its array. -/
theorem ok_pfN : ok0 (F := Bits) (pfN T) := ⟨ok_0 T, ok_1 T, ok_2 T, ok_3 T, ok_4 T⟩

/-- The pipeline at the tables `T`. -/
def adm : (pcfg0 (F := Bits)).Adm := ⟨pfN T, ok_pfN T⟩
abbrev cfgA : Pipeline.Cfg sig Λ₀ := cfg0 (F := Bits) (adm T)
abbrev pcs : Fin 1 → Pipeline.Cfg sig Λ₀ := Pipeline.pin (pcfgs (F := Bits)) fun _ => adm T

variable (m : (ℓ : Loc nD τ sig) → Buf (Elt Bits) ℓ) (ρ : Dev nD → PrngReg)

/-- The coordinates of point `t`. -/
abbrev crd (t : Fin (cfgA T).N) : (cfgA T).grid.Coords := (cfgA T).grid.coords t

abbrev ms0_0 (t : Fin (cfgA T).N) : Memref sig .tc .vmem S256x1024 .f32 := spec0_0.stage ((cfgA T).slots t (0 : Fin 6))
abbrev hs0_0 (t : Fin (cfgA T).N) : (ms0_0 T t).IsWhole := hstage0_0 (((cfgA T).slots t (0 : Fin 6)).cast nbuf0_0)
abbrev ms0_1 (t : Fin (cfgA T).N) : Memref sig .tc .vmem S1x1024x2048 .f32 := spec0_1.stage ((cfgA T).slots t (1 : Fin 6))
abbrev hs0_1 (t : Fin (cfgA T).N) : (ms0_1 T t).IsWhole := hstage0_1 (((cfgA T).slots t (1 : Fin 6)).cast nbuf0_1)
abbrev ms0_2 (t : Fin (cfgA T).N) : Memref sig .tc .vmem S1x1x2048 .f32 := spec0_2.stage ((cfgA T).slots t (2 : Fin 6))
abbrev hs0_2 (t : Fin (cfgA T).N) : (ms0_2 T t).IsWhole := hstage0_2 (((cfgA T).slots t (2 : Fin 6)).cast nbuf0_2)
abbrev ms0_3 (t : Fin (cfgA T).N) : Memref sig .tc .vmem S1x1024x1024 .f32 := spec0_3.stage ((cfgA T).slots t (3 : Fin 6))
abbrev hs0_3 (t : Fin (cfgA T).N) : (ms0_3 T t).IsWhole := hstage0_3 (((cfgA T).slots t (3 : Fin 6)).cast nbuf0_3)
abbrev ms0_4 (t : Fin (cfgA T).N) : Memref sig .tc .vmem S1x1x1024 .f32 := spec0_4.stage ((cfgA T).slots t (4 : Fin 6))
abbrev hs0_4 (t : Fin (cfgA T).N) : (ms0_4 T t).IsWhole := hstage0_4 (((cfgA T).slots t (4 : Fin 6)).cast nbuf0_4)
abbrev ms0_5 (t : Fin (cfgA T).N) : Memref sig .tc .vmem S256x1024 .f32 := spec0_5.stage ((cfgA T).slots t (5 : Fin 6))
abbrev hs0_5 (t : Fin (cfgA T).N) : (ms0_5 T t).IsWhole := hstage0_5 (((cfgA T).slots t (5 : Fin 6)).cast nbuf0_5)

/-- Window `w`'s block at point `t`, read off its array at launch. -/
def iblk (c : Dev nD) (w : Fin (cfgA T).W) (t : Fin (cfgA T).N) : (((cfgA T).win w).xblock (crd T t)).Idx → Elt Bits ((cfgA T).win w).elt :=
  (((cfgA T).win w).blk t).view.read (Elt Bits) ((s₀ m ρ).mem (((cfgA T).win w).arr.view.loc (c : Thread nD τ)))

/-- The count of active blocks as the body reads it. -/
abbrev count : BitVec 32 := View.readAt (Elt Bits) (tbM0_1).view (Rect.unit (s := S1) ![0] S1.size inb_S1_S1_0).toLoadRect (pinT_1 T) (Shape.Idx.first (numel1_S1.symm ▸ Nat.one_pos))

/-- The bit on which the body fetches an expert's weights. -/
abbrev fetchBit (t : Fin (cfgA T).N) : BitVec 1 :=
  Scalar.cmpi .ne (Scalar.extui (Scalar.andi (Scalar.cmpi .slt (BitVec.ofNat 32 ((crd T t) 0).val) (count T)) (Scalar.ori (Scalar.cmpi .eq (BitVec.ofNat 32 ((crd T t) 0).val) 0#32) (Scalar.cmpi .ne (View.readAt (Elt Bits) (tbM0_0).view (Rect.unit (s := S290) (k0_off1 (crd T t)) S1.size (k0_off1_inb (crd T t))).toLoadRect (pinT_0 T) (Shape.Idx.first (numel1_S1.symm ▸ Nat.one_pos))) (View.readAt (Elt Bits) (tbM0_0).view (Rect.unit (s := S290) (k0_off2 (crd T t)) S1.size (k0_off2_inb (crd T t))).toLoadRect (pinT_0 T) (Shape.Idx.first (numel1_S1.symm ▸ Nat.one_pos))))))) 0#32

/-- The expert of point `t` is fetched: it is active, and the first point or one whose expert is not that of the point before. -/
abbrev P0_0 (t : Fin (cfgA T).N) : Prop := (fetchBit T t) = 1#1
/-- Point `t` is active. -/
abbrev P0_1 (t : Fin (cfgA T).N) : Prop := k0_cond2 (crd T t) (count T) = 1#1

/-- Whether the first scratch buffer has been stored before point `n`. -/
def sfresh0_0 : ℕ → Bool
  | 0 => true
  | n + 1 => if h : n < (cfgA T).N then (if P0_0 T ⟨n, h⟩ then false else (if P0_1 T ⟨n, h⟩ then sfresh0_0 n else sfresh0_0 n)) else true

/-- The same in closed form: the first point stores it. -/
def sfrTab0_0 (T : Tables) : ℕ → Bool := fun n => decide (n ≤ 0)

/-- Whether the second scratch buffer has been stored before point `n`. -/
def sfresh0_1 : ℕ → Bool
  | 0 => true
  | n + 1 => if h : n < (cfgA T).N then (if P0_0 T ⟨n, h⟩ then false else (if P0_1 T ⟨n, h⟩ then sfresh0_1 n else sfresh0_1 n)) else true

/-- The same in closed form. -/
def sfrTab0_1 (T : Tables) : ℕ → Bool := fun n => decide (n ≤ 0)

end Cert.Kernel2.Routed

end
-- ==== Proof.Experts.Bits.Frame.lean ====
/- The frame of the experts kernel at machine floats, for any routing. -/
module

public import proofs.«01_k».proof.Proof.Experts.Bits.Facts
public import Idealize.ShloMosaic.Lib.Claim
public import Idealize.ShloMosaic.Lib.Pipeline.Value

@[expose] public section

set_option maxRecDepth 16384
set_option Elab.async false

noncomputable section

namespace Cert.Kernel2.Routed

open Cert.Kernel2 Cert.Kernel2.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Bits) ℕ (UR sig nD τ) ℕ

variable (T : Tables)
variable (m : (ℓ : Loc nD τ sig) → Buf (Elt Bits) ℓ) (ρ : Dev nD → PrngReg)

abbrev EP : Emb (UR sig nD τ) 𝕄 := emb₁

theorem sfrTab0_0_step : ∀ (T : Tables) (t : Fin (cfgA T).N), sfrTab0_0 T (t.val + 1) = (if P0_0 T t then false else (if P0_1 T t then sfrTab0_0 T t.val else sfrTab0_0 T t.val)) := fun T t => (allFacts T t).1
theorem sfresh0_0_eq : ∀ n, n ≤ (cfgA T).N → sfresh0_0 T n = sfrTab0_0 T n
  | 0, _ => by simp only [sfresh0_0, sfrTab0_0, Nat.zero_le, decide_true]
  | n + 1, h => by simp only [sfresh0_0, dif_pos (show n < (cfgA T).N from h), sfresh0_0_eq n (Nat.le_of_lt h), sfrTab0_0_step T ⟨n, h⟩]
theorem sfreshF0_0 (t : Fin (cfgA T).N) : sfresh0_0 T t.val = sfrTab0_0 T t.val := sfresh0_0_eq T t.val (Nat.le_of_lt t.isLt)
theorem sfreshS0_0 (t : Fin (cfgA T).N) : sfresh0_0 T (t.val + 1) = sfrTab0_0 T (t.val + 1) := sfresh0_0_eq T (t.val + 1) t.isLt

theorem sfrTab0_1_step : ∀ (T : Tables) (t : Fin (cfgA T).N), sfrTab0_1 T (t.val + 1) = (if P0_0 T t then false else (if P0_1 T t then sfrTab0_1 T t.val else sfrTab0_1 T t.val)) := fun T t => (allFacts T t).2.1
theorem sfresh0_1_eq : ∀ n, n ≤ (cfgA T).N → sfresh0_1 T n = sfrTab0_1 T n
  | 0, _ => by simp only [sfresh0_1, sfrTab0_1, Nat.zero_le, decide_true]
  | n + 1, h => by simp only [sfresh0_1, dif_pos (show n < (cfgA T).N from h), sfresh0_1_eq n (Nat.le_of_lt h), sfrTab0_1_step T ⟨n, h⟩]
theorem sfreshF0_1 (t : Fin (cfgA T).N) : sfresh0_1 T t.val = sfrTab0_1 T t.val := sfresh0_1_eq T t.val (Nat.le_of_lt t.isLt)
theorem sfreshS0_1 (t : Fin (cfgA T).N) : sfresh0_1 T (t.val + 1) = sfrTab0_1 T (t.val + 1) := sfresh0_1_eq T (t.val + 1) t.isLt

theorem frTab0_5_step : ∀ (T : Tables) (t : Fin (cfgA T).N),
    frTab0_5 T (t.val + 1) = (((cfgA T).win (5 : Fin 6)).flush t || ((cfgA T).idle (5 : Fin 6) ((cfgA T).grid.coords t) && frTab0_5 T t.val)) := fun T t => (allFacts T t).2.2.1
theorem freshF0_5 (t : Fin (cfgA T).N) : (cfgA T).fresh (5 : Fin 6) t.val = frTab0_5 T t.val :=
  Pipeline.Cfg.fresh_tab (cfgA T) (5 : Fin 6) (frTab0_5 T) rfl (frTab0_5_step T) t.val (Nat.le_of_lt t.isLt)

theorem hyps0_A : ∀ (T : Tables) (t : Fin (cfgA T).N), P0_0 T t →
    ((fetchBit T t) = 1#1) ∧ ((k0_cond2 (crd T t) (count T) = 1#1) ∧ ((¬(k0_cond3 (crd T t) (count T) = 1#1)) ∧ (True))) := fun T t => (allFacts T t).2.2.2.1

theorem hypsR0_A : ∀ (T : Tables) (t : Fin (cfgA T).N), P0_0 T t →
    ((fetchBit T t) = 1#1) ∧ ((k0_cond2 (crd T t) (count T) = 1#1) ∧ ((¬(k0_cond3 (crd T t) (count T) = 1#1)) ∧ (True))) := hyps0_A

theorem sched0_A : ∀ (T : Tables) (t : Fin (cfgA T).N), P0_0 T t →
    (cfgA T).idle (5 : Fin 6) ((cfgA T).grid.coords t) = false ∧ ((cfgA T).win (5 : Fin 6)).flush t = true ∧ (cfgA T).fresh (5 : Fin 6) t.val = true ∧ sfresh0_0 T (t.val + 1) = false ∧ sfresh0_1 T (t.val + 1) = false := by
  intro T t; rw [freshF0_5 T t, sfreshS0_0 T t, sfreshS0_1 T t]; exact (fun T t => (allFacts T t).2.2.2.2.1) T t

theorem hyps0_B : ∀ (T : Tables) (t : Fin (cfgA T).N), ¬P0_0 T t → P0_1 T t →
    (¬((fetchBit T t) = 1#1)) ∧ ((k0_cond2 (crd T t) (count T) = 1#1) ∧ ((¬(k0_cond3 (crd T t) (count T) = 1#1)) ∧ (True))) := fun T t => (allFacts T t).2.2.2.2.2.1

theorem hypsR0_B : ∀ (T : Tables) (t : Fin (cfgA T).N), ¬P0_0 T t → P0_1 T t →
    (¬((fetchBit T t) = 1#1)) ∧ ((k0_cond2 (crd T t) (count T) = 1#1) ∧ ((¬(k0_cond3 (crd T t) (count T) = 1#1)) ∧ (True))) := hyps0_B

theorem sched0_B : ∀ (T : Tables) (t : Fin (cfgA T).N), ¬P0_0 T t → P0_1 T t →
    (cfgA T).idle (5 : Fin 6) ((cfgA T).grid.coords t) = false ∧ ((cfgA T).win (5 : Fin 6)).flush t = true ∧ (cfgA T).fresh (5 : Fin 6) t.val = true ∧ sfresh0_0 T t.val = false ∧ sfresh0_0 T (t.val + 1) = false ∧ sfresh0_1 T t.val = false ∧ sfresh0_1 T (t.val + 1) = false := by
  intro T t; rw [freshF0_5 T t, sfreshF0_0 T t, sfreshS0_0 T t, sfreshF0_1 T t, sfreshS0_1 T t]; exact (fun T t => (allFacts T t).2.2.2.2.2.2.1) T t

theorem hyps0_C : ∀ (T : Tables) (t : Fin (cfgA T).N), ¬P0_0 T t → ¬P0_1 T t →
    (¬((fetchBit T t) = 1#1)) ∧ ((¬(k0_cond2 (crd T t) (count T) = 1#1)) ∧ ((k0_cond3 (crd T t) (count T) = 1#1) ∧ (True))) := fun T t => (allFacts T t).2.2.2.2.2.2.2.1

theorem hypsR0_C : ∀ (T : Tables) (t : Fin (cfgA T).N), ¬P0_0 T t → ¬P0_1 T t →
    (¬((fetchBit T t) = 1#1)) ∧ ((¬(k0_cond2 (crd T t) (count T) = 1#1)) ∧ ((k0_cond3 (crd T t) (count T) = 1#1) ∧ (True))) := hyps0_C

theorem sched0_C : ∀ (T : Tables) (t : Fin (cfgA T).N), ¬P0_0 T t → ¬P0_1 T t →
    (cfgA T).idle (5 : Fin 6) ((cfgA T).grid.coords t) = false ∧ ((cfgA T).win (5 : Fin 6)).flush t = true ∧ (cfgA T).fresh (5 : Fin 6) t.val = true ∧ sfresh0_0 T t.val = false ∧ sfresh0_0 T (t.val + 1) = false ∧ sfresh0_1 T t.val = false ∧ sfresh0_1 T (t.val + 1) = false := by
  intro T t; rw [freshF0_5 T t, sfreshF0_0 T t, sfreshS0_0 T t, sfreshF0_1 T t, sfreshS0_1 T t]; exact (fun T t => (allFacts T t).2.2.2.2.2.2.2.2) T t

/-- The run of path A at point `t`. -/
abbrev runA (c : Dev nD) (t : Fin (cfgA T).N) (q0 : P0_0 T t) :=
  kernelRun0_A c (crd T t) (ms0_0 T t) (hs0_0 T t) (ms0_1 T t) (hs0_1 T t) (ms0_2 T t) (hs0_2 T t) (ms0_3 T t) (hs0_3 T t) (ms0_4 T t) (hs0_4 T t) (ms0_5 T t) (hs0_5 T t) (pinT_0 T) (pinT_1 T) (iblk T m ρ c (0 : Fin 6) t) (iblk T m ρ c (1 : Fin 6) t) (iblk T m ρ c (2 : Fin 6) t) (iblk T m ρ c (3 : Fin 6) t) (iblk T m ρ c (4 : Fin 6) t) (hypsR0_A T t q0).1 (hypsR0_A T t q0).2.1 (hypsR0_A T t q0).2.2.1

/-- What the run leaves in the output block, of path A at point `t`. -/
abbrev outA (c : Dev nD) (t : Fin (cfgA T).N) (q0 : P0_0 T t) :=
  out0_A_5 c (crd T t) (ms0_0 T t) (hs0_0 T t) (ms0_1 T t) (hs0_1 T t) (ms0_2 T t) (hs0_2 T t) (ms0_3 T t) (hs0_3 T t) (ms0_4 T t) (hs0_4 T t) (ms0_5 T t) (hs0_5 T t) (pinT_0 T) (pinT_1 T) (iblk T m ρ c (0 : Fin 6) t) (iblk T m ρ c (1 : Fin 6) t) (iblk T m ρ c (2 : Fin 6) t) (iblk T m ρ c (3 : Fin 6) t) (iblk T m ρ c (4 : Fin 6) t) (hypsR0_A T t q0).1 (hypsR0_A T t q0).2.1 (hypsR0_A T t q0).2.2.1

/-- The run of path B at point `t`. -/
abbrev runB (c : Dev nD) (t : Fin (cfgA T).N) (a0 : Buf (Elt Bits) ((c : Thread nD τ).loc cc0_scratch0)) (a1 : Buf (Elt Bits) ((c : Thread nD τ).loc cc0_scratch1)) (q0 : ¬P0_0 T t) (q1 : P0_1 T t) :=
  kernelRun0_B c (crd T t) (ms0_0 T t) (hs0_0 T t) (ms0_1 T t) (hs0_1 T t) (ms0_2 T t) (hs0_2 T t) (ms0_3 T t) (hs0_3 T t) (ms0_4 T t) (hs0_4 T t) (ms0_5 T t) (hs0_5 T t) (pinT_0 T) (pinT_1 T) (iblk T m ρ c (0 : Fin 6) t) (iblk T m ρ c (1 : Fin 6) t) (iblk T m ρ c (2 : Fin 6) t) (iblk T m ρ c (3 : Fin 6) t) (iblk T m ρ c (4 : Fin 6) t) a0 a1 (hypsR0_B T t q0 q1).1 (hypsR0_B T t q0 q1).2.1 (hypsR0_B T t q0 q1).2.2.1

/-- What the run leaves in the output block, of path B at point `t`. -/
abbrev outB (c : Dev nD) (t : Fin (cfgA T).N) (a0 : Buf (Elt Bits) ((c : Thread nD τ).loc cc0_scratch0)) (a1 : Buf (Elt Bits) ((c : Thread nD τ).loc cc0_scratch1)) (q0 : ¬P0_0 T t) (q1 : P0_1 T t) :=
  out0_B_5 c (crd T t) (ms0_0 T t) (hs0_0 T t) (ms0_1 T t) (hs0_1 T t) (ms0_2 T t) (hs0_2 T t) (ms0_3 T t) (hs0_3 T t) (ms0_4 T t) (hs0_4 T t) (ms0_5 T t) (hs0_5 T t) (pinT_0 T) (pinT_1 T) (iblk T m ρ c (0 : Fin 6) t) (iblk T m ρ c (1 : Fin 6) t) (iblk T m ρ c (2 : Fin 6) t) (iblk T m ρ c (3 : Fin 6) t) (iblk T m ρ c (4 : Fin 6) t) a0 a1 (hypsR0_B T t q0 q1).1 (hypsR0_B T t q0 q1).2.1 (hypsR0_B T t q0 q1).2.2.1

/-- The run of path C at point `t`. -/
abbrev runC (c : Dev nD) (t : Fin (cfgA T).N) (a0 : Buf (Elt Bits) ((c : Thread nD τ).loc cc0_scratch0)) (a1 : Buf (Elt Bits) ((c : Thread nD τ).loc cc0_scratch1)) (q0 : ¬P0_0 T t) (q1 : ¬P0_1 T t) :=
  kernelRun0_C c (crd T t) (ms0_0 T t) (hs0_0 T t) (ms0_1 T t) (hs0_1 T t) (ms0_2 T t) (hs0_2 T t) (ms0_3 T t) (hs0_3 T t) (ms0_4 T t) (hs0_4 T t) (ms0_5 T t) (hs0_5 T t) (pinT_0 T) (pinT_1 T) (iblk T m ρ c (0 : Fin 6) t) (iblk T m ρ c (1 : Fin 6) t) (iblk T m ρ c (2 : Fin 6) t) (iblk T m ρ c (3 : Fin 6) t) (iblk T m ρ c (4 : Fin 6) t) a0 a1 (hypsR0_C T t q0 q1).1 (hypsR0_C T t q0 q1).2.1 (hypsR0_C T t q0 q1).2.2.1

/-- What the run leaves in the output block, of path C at point `t`. -/
abbrev outC (c : Dev nD) (t : Fin (cfgA T).N) (a0 : Buf (Elt Bits) ((c : Thread nD τ).loc cc0_scratch0)) (a1 : Buf (Elt Bits) ((c : Thread nD τ).loc cc0_scratch1)) (q0 : ¬P0_0 T t) (q1 : ¬P0_1 T t) :=
  out0_C_5 c (crd T t) (ms0_0 T t) (hs0_0 T t) (ms0_1 T t) (hs0_1 T t) (ms0_2 T t) (hs0_2 T t) (ms0_3 T t) (hs0_3 T t) (ms0_4 T t) (hs0_4 T t) (ms0_5 T t) (hs0_5 T t) (pinT_0 T) (pinT_1 T) (iblk T m ρ c (0 : Fin 6) t) (iblk T m ρ c (1 : Fin 6) t) (iblk T m ρ c (2 : Fin 6) t) (iblk T m ρ c (3 : Fin 6) t) (iblk T m ρ c (4 : Fin 6) t) a0 a1 (hypsR0_C T t q0 q1).1 (hypsR0_C T t q0 q1).2.1 (hypsR0_C T t q0 q1).2.2.1

/-- One grid point: the output block and the two scratch buffers after it, from what they held before. -/
def step0 (c : Dev nD) (t : Fin (cfgA T).N) (prev : (S256x1024.Idx → Elt Bits .f32) × Buf (Elt Bits) ((c : Thread nD τ).loc cc0_scratch0) × Buf (Elt Bits) ((c : Thread nD τ).loc cc0_scratch1)) : (S256x1024.Idx → Elt Bits .f32) × Buf (Elt Bits) ((c : Thread nD τ).loc cc0_scratch0) × Buf (Elt Bits) ((c : Thread nD τ).loc cc0_scratch1) :=
  if q0 : P0_0 T t then
    (outA T m ρ c t q0, (runA T m ρ c t q0).2.1, (runA T m ρ c t q0).2.2.1)
  else
    if q1 : P0_1 T t then
      (outB T m ρ c t prev.2.1 prev.2.2 q0 q1, (runB T m ρ c t prev.2.1 prev.2.2 q0 q1).2.1, (runB T m ρ c t prev.2.1 prev.2.2 q0 q1).2.2.1)
    else
      (outC T m ρ c t prev.2.1 prev.2.2 q0 q1, (runC T m ρ c t prev.2.1 prev.2.2 q0 q1).2.1, (runC T m ρ c t prev.2.1 prev.2.2 q0 q1).2.2.1)

/-- What the output block and the scratch buffers hold after each point. -/
def traj0 (c : Dev nD) : (n : ℕ) → n < (cfgA T).N → (S256x1024.Idx → Elt Bits .f32) × Buf (Elt Bits) ((c : Thread nD τ).loc cc0_scratch0) × Buf (Elt Bits) ((c : Thread nD τ).loc cc0_scratch1)
  | 0, h => step0 T m ρ c ⟨0, h⟩ (default, default, default)
  | n + 1, h => step0 T m ρ c ⟨n + 1, h⟩ (traj0 c n (Nat.lt_of_succ_lt h))

/-- What they held before point `t`. -/
def prev0 (c : Dev nD) (t : Fin (cfgA T).N) : (S256x1024.Idx → Elt Bits .f32) × Buf (Elt Bits) ((c : Thread nD τ).loc cc0_scratch0) × Buf (Elt Bits) ((c : Thread nD τ).loc cc0_scratch1) :=
  if h : t.val = 0 then (default, default, default) else traj0 T m ρ c (t.val - 1) (by omega)

theorem traj0_eq (c : Dev nD) (t : Fin (cfgA T).N) : traj0 T m ρ c t.val t.isLt = step0 T m ρ c t (prev0 T m ρ c t) := by
  obtain ⟨n, hn⟩ := t
  cases n with
  | zero => rfl
  | succ n => unfold prev0; simp only [Nat.add_one_ne_zero, dif_neg, not_false_eq_true]; rfl

theorem step0_A (c : Dev nD) (t : Fin (cfgA T).N) (prev : (S256x1024.Idx → Elt Bits .f32) × Buf (Elt Bits) ((c : Thread nD τ).loc cc0_scratch0) × Buf (Elt Bits) ((c : Thread nD τ).loc cc0_scratch1)) (q0 : P0_0 T t) :
    step0 T m ρ c t prev = (outA T m ρ c t q0, (runA T m ρ c t q0).2.1, (runA T m ρ c t q0).2.2.1) := by
  unfold step0; simp only [dif_pos q0]

theorem step0_B (c : Dev nD) (t : Fin (cfgA T).N) (prev : (S256x1024.Idx → Elt Bits .f32) × Buf (Elt Bits) ((c : Thread nD τ).loc cc0_scratch0) × Buf (Elt Bits) ((c : Thread nD τ).loc cc0_scratch1)) (q0 : ¬P0_0 T t) (q1 : P0_1 T t) :
    step0 T m ρ c t prev = (outB T m ρ c t prev.2.1 prev.2.2 q0 q1, (runB T m ρ c t prev.2.1 prev.2.2 q0 q1).2.1, (runB T m ρ c t prev.2.1 prev.2.2 q0 q1).2.2.1) := by
  unfold step0; simp only [dif_neg q0, dif_pos q1]

theorem step0_C (c : Dev nD) (t : Fin (cfgA T).N) (prev : (S256x1024.Idx → Elt Bits .f32) × Buf (Elt Bits) ((c : Thread nD τ).loc cc0_scratch0) × Buf (Elt Bits) ((c : Thread nD τ).loc cc0_scratch1)) (q0 : ¬P0_0 T t) (q1 : ¬P0_1 T t) :
    step0 T m ρ c t prev = (outC T m ρ c t prev.2.1 prev.2.2 q0 q1, (runC T m ρ c t prev.2.1 prev.2.2 q0 q1).2.1, (runC T m ρ c t prev.2.1 prev.2.2 q0 q1).2.2.1) := by
  unfold step0; simp only [dif_neg q0, dif_neg q1]

/-- The same at a time of the run. -/
def prev0T (c : Dev nD) (t : Fin ((cfgA T).N + 1)) : (S256x1024.Idx → Elt Bits .f32) × Buf (Elt Bits) ((c : Thread nD τ).loc cc0_scratch0) × Buf (Elt Bits) ((c : Thread nD τ).loc cc0_scratch1) :=
  if h : t.val = 0 then (default, default, default) else traj0 T m ρ c (t.val - 1) (by omega)

theorem prev0T_castSucc (c : Dev nD) (t : Fin (cfgA T).N) : prev0T T m ρ c t.castSucc = prev0 T m ρ c t := by
  unfold prev0T prev0; simp only [Fin.val_castSucc]
theorem prev0T_succ (c : Dev nD) (t : Fin (cfgA T).N) : prev0T T m ρ c t.succ = traj0 T m ρ c t.val t.isLt := by
  unfold prev0T; simp only [Fin.val_succ, Nat.add_one_ne_zero, ↓reduceDIte, Nat.add_one_sub_one]

/-- What the body holds between points: the scratch buffers and half of each table. -/
def Phi (m : (ℓ : Loc nD τ sig) → Buf (Elt Bits) ℓ) (ρ : Dev nD → PrngReg) (c : Dev nD) (t : Fin ((cfgA T).N + 1)) : sProp 𝕄 :=
  iprop((∃ a, ⌜sfresh0_0 T t.val = false → a = (prev0T T m ρ c t).2.1⌝ ∗ (scM0_0.view.loc (c : Thread nD τ) ↦{fullShare} a)) ∗ (∃ a, ⌜sfresh0_1 T t.val = false → a = (prev0T T m ρ c t).2.2⌝ ∗ (scM0_1.view.loc (c : Thread nD τ) ↦{fullShare} a)) ∗ (tbM0_0.view.loc (c : Thread nD τ) ↦{fullShare.right} pinT_0 T) ∗ (tbM0_1.view.loc (c : Thread nD τ) ↦{fullShare.right} pinT_1 T))

/-- The data of the pipeline: every input block is left alone, the output block is what the point leaves. -/
def dats (_ : Fin 1) (c : Dev nD) : Dat τ (Elt Bits) Unit ℕ (UR sig nD τ) ℕ (cfgA T) c where
  A w := (s₀ m ρ).mem (((cfgA T).win w).arr.view.loc (c : Thread nD τ))
  after w t := match w with
    | ⟨0, _⟩ => iblk T m ρ c (0 : Fin 6) t
    | ⟨1, _⟩ => iblk T m ρ c (1 : Fin 6) t
    | ⟨2, _⟩ => iblk T m ρ c (2 : Fin 6) t
    | ⟨3, _⟩ => iblk T m ρ c (3 : Fin 6) t
    | ⟨4, _⟩ => iblk T m ρ c (4 : Fin 6) t
    | ⟨5, _⟩ => (traj0 T m ρ c t.val t.isLt).1
  Φ t := Phi T m ρ c t
  q _ := fullShare
  owed _ := 0

theorem after0_0 (c : Dev nD) (t : Fin (cfgA T).N) : (dats T m ρ 0 c).after (0 : Fin 6) t = iblk T m ρ c (0 : Fin 6) t := rfl
theorem after0_1 (c : Dev nD) (t : Fin (cfgA T).N) : (dats T m ρ 0 c).after (1 : Fin 6) t = iblk T m ρ c (1 : Fin 6) t := rfl
theorem after0_2 (c : Dev nD) (t : Fin (cfgA T).N) : (dats T m ρ 0 c).after (2 : Fin 6) t = iblk T m ρ c (2 : Fin 6) t := rfl
theorem after0_3 (c : Dev nD) (t : Fin (cfgA T).N) : (dats T m ρ 0 c).after (3 : Fin 6) t = iblk T m ρ c (3 : Fin 6) t := rfl
theorem after0_4 (c : Dev nD) (t : Fin (cfgA T).N) : (dats T m ρ 0 c).after (4 : Fin 6) t = iblk T m ρ c (4 : Fin 6) t := rfl
theorem after0_5 (c : Dev nD) (t : Fin (cfgA T).N) : (dats T m ρ 0 c).after (5 : Fin 6) t = (traj0 T m ρ c t.val t.isLt).1 := rfl

theorem before0_0 (c : Dev nD) (t : Fin (cfgA T).N) (d) : (dats T m ρ 0 c).before (0 : Fin 6) t d = iblk T m ρ c (0 : Fin 6) t :=
  ((dats T m ρ 0 c).before_in_eq_fetched (0 : Fin 6) rfl (fun _ => rfl) (fun _ _ _ => rfl) (fun t => by rw [after0_0]; unfold Dat.blockOf iblk; rfl) t d).trans
    (by unfold Dat.fetched Dat.blockOf iblk; rfl)

theorem before0_1 (c : Dev nD) (t : Fin (cfgA T).N) (d) : (dats T m ρ 0 c).before (1 : Fin 6) t d = iblk T m ρ c (1 : Fin 6) t :=
  ((dats T m ρ 0 c).before_in_eq_fetched (1 : Fin 6) rfl (fun _ => rfl) (fun _ _ _ => rfl) (fun t => by rw [after0_1]; unfold Dat.blockOf iblk; rfl) t d).trans
    (by unfold Dat.fetched Dat.blockOf iblk; rfl)

theorem before0_2 (c : Dev nD) (t : Fin (cfgA T).N) (d) : (dats T m ρ 0 c).before (2 : Fin 6) t d = iblk T m ρ c (2 : Fin 6) t :=
  ((dats T m ρ 0 c).before_in_eq_fetched (2 : Fin 6) rfl (fun _ => rfl) (fun _ _ _ => rfl) (fun t => by rw [after0_2]; unfold Dat.blockOf iblk; rfl) t d).trans
    (by unfold Dat.fetched Dat.blockOf iblk; rfl)

theorem before0_3 (c : Dev nD) (t : Fin (cfgA T).N) (d) : (dats T m ρ 0 c).before (3 : Fin 6) t d = iblk T m ρ c (3 : Fin 6) t :=
  ((dats T m ρ 0 c).before_in_eq_fetched (3 : Fin 6) rfl (fun _ => rfl) (fun _ _ _ => rfl) (fun t => by rw [after0_3]; unfold Dat.blockOf iblk; rfl) t d).trans
    (by unfold Dat.fetched Dat.blockOf iblk; rfl)

theorem before0_4 (c : Dev nD) (t : Fin (cfgA T).N) (d) : (dats T m ρ 0 c).before (4 : Fin 6) t d = iblk T m ρ c (4 : Fin 6) t :=
  ((dats T m ρ 0 c).before_in_eq_fetched (4 : Fin 6) rfl (fun _ => rfl) (fun _ _ _ => rfl) (fun t => by rw [after0_4]; unfold Dat.blockOf iblk; rfl) t d).trans
    (by unfold Dat.fetched Dat.blockOf iblk; rfl)

theorem hcarry0_5 (c : Dev nD) : ∀ (t : Fin (cfgA T).N) (ht : t.val ≠ 0), (cfgA T).idle (5 : Fin 6) ((cfgA T).grid.coords t) = true → (cfgA T).fresh (5 : Fin 6) t.val = false →
    (dats T m ρ 0 c).after (5 : Fin 6) t = (dats T m ρ 0 c).after (5 : Fin 6) ⟨t.val - 1, by omega⟩ := by
  intro t ht hi hf
  rw [after0_5, after0_5, traj0_eq]
  by_cases q0 : P0_0 T t
  · obtain ⟨i5, -, -, -, -⟩ := sched0_A T t q0
    rw [i5] at hi; exact absurd hi (by decide)
  · by_cases q1 : P0_1 T t
    · obtain ⟨i5, -, -, -, -, -, -⟩ := sched0_B T t q0 q1
      rw [i5] at hi; exact absurd hi (by decide)
    · obtain ⟨i5, -, -, -, -, -, -⟩ := sched0_C T t q0 q1
      rw [i5] at hi; exact absurd hi (by decide)

theorem before0_5 (c : Dev nD) (t : Fin (cfgA T).N) (d) :
    (dats T m ρ 0 c).before (5 : Fin 6) t d = if (cfgA T).fresh (5 : Fin 6) t.val then d else (prev0 T m ρ c t).1 := by
  rw [(dats T m ρ 0 c).before_out_traj (5 : Fin 6) rfl (fun _ _ => rfl) (hcarry0_5 T m ρ c) t.val t rfl d]
  by_cases hf : (cfgA T).fresh (5 : Fin 6) t.val = true
  · simp only [hf, ↓reduceIte]
  · have h0 : t.val ≠ 0 := fun h0 => hf (by rw [h0]; exact Pipeline.Cfg.fresh_zero _ _)
    rw [Bool.not_eq_true] at hf
    simp only [hf, Bool.false_eq_true, ↓reduceIte, after0_5]; unfold prev0; rw [dif_neg h0]

abbrev bodyAt0 (t : Fin (cfgA T).N) : Prog (TpuEff nD τ sig (Elt Bits) Λ₀ .tc) PUnit :=
  cc0_experts (crd T t) (Memref.whole main_arg0) (Memref.isWhole_whole _) (Memref.whole main_arg1) (Memref.isWhole_whole _) (ms0_0 T t) (hs0_0 T t) (ms0_1 T t) (hs0_1 T t) (ms0_2 T t) (hs0_2 T t) (ms0_3 T t) (hs0_3 T t) (ms0_4 T t) (hs0_4 T t) (ms0_5 T t) (hs0_5 T t) (Memref.whole cc0_scratch0) (Memref.isWhole_whole _) (Memref.whole cc0_scratch1) (Memref.isWhole_whole _)

set_option maxHeartbeats 4000000 in
theorem sound_body (hp : Pinned T m) (c : Dev nD) (t : Fin (cfgA T).N) :
    iprop((dats T m ρ 0 c).Φ t.castSucc ∗ (dats T m ρ 0 c).owesAt () t.castSucc
        ∗ (∃ d, owns (c : Thread nD τ) (ms0_0 T t) fullShare ((dats T m ρ 0 c).before (0 : Fin 6) t d))
        ∗ (∃ d, owns (c : Thread nD τ) (ms0_1 T t) fullShare ((dats T m ρ 0 c).before (1 : Fin 6) t d))
        ∗ (∃ d, owns (c : Thread nD τ) (ms0_2 T t) fullShare ((dats T m ρ 0 c).before (2 : Fin 6) t d))
        ∗ (∃ d, owns (c : Thread nD τ) (ms0_3 T t) fullShare ((dats T m ρ 0 c).before (3 : Fin 6) t d))
        ∗ (∃ d, owns (c : Thread nD τ) (ms0_4 T t) fullShare ((dats T m ρ 0 c).before (4 : Fin 6) t d))
        ∗ (∃ d, owns (c : Thread nD τ) (ms0_5 T t) fullShare ((dats T m ρ 0 c).before (5 : Fin 6) t d)))
      ⊢ wp frame (wpE (defs₀ (F := Bits)) Variants.none c none) Set.univ (bodyAt0 T t) fun _ =>
          iprop((dats T m ρ 0 c).Φ t.succ ∗ (dats T m ρ 0 c).owesAt () t.succ
            ∗ bigSep Finset.univ fun w : Fin (cfgA T).W =>
                match (cfgA T).idle w ((cfgA T).grid.coords t) with
                | true =>
                  match ((cfgA T).win w).flush t with
                  | false => iprop(∃ d, owns (c : Thread nD τ) (((cfgA T).win w).stage ((cfgA T).slots t w)) fullShare ((dats T m ρ 0 c).before w t d))
                  | true => owns (c : Thread nD τ) (((cfgA T).win w).stage ((cfgA T).slots t w)) fullShare ((dats T m ρ 0 c).after w t)
                | false => owns (c : Thread nD τ) (((cfgA T).win w).stage ((cfgA T).slots t w)) fullShare ((dats T m ρ 0 c).after w t)) := by
  rw [bigSep_W0]
  by_cases q0 : P0_0 T t
  · obtain ⟨i5, f5, fr5, sfn0, sfn1⟩ := sched0_A T t q0
    rewrite [i5]
    simp only [before0_0, before0_1, before0_2, before0_3, before0_4, before0_5, after0_0, after0_1, after0_2, after0_3, after0_4, after0_5, f5]
    simp only [fr5, Bool.false_eq_true, ↓reduceIte]
    rewrite [show (dats T m ρ 0 c).Φ t.succ = Phi T m ρ c t.succ from rfl, show (dats T m ρ 0 c).Φ t.castSucc = Phi T m ρ c t.castSucc from rfl,
      show (dats T m ρ 0 c).owesAt () t.succ = (dats T m ρ 0 c).owesAt () t.castSucc from rfl]
    try rewrite [traj0_eq, step0_A T m ρ c t _ q0]
    unfold Phi; simp only [prev0T_castSucc, prev0T_succ, traj0_eq, step0_A T m ρ c t _ q0, Fin.val_castSucc, Fin.val_succ]
    iintro ⟨⟨⟨%a0, %ha0, HS0⟩, ⟨%a1, %ha1, HS1⟩, HT0, HT1⟩, Ho, ⟨%d0, H0⟩, ⟨%d1, H1⟩, ⟨%d2, H2⟩, ⟨%d3, H3⟩, ⟨%d4, H4⟩, ⟨%d5, H5⟩⟩
    iapply ((runA T m ρ c t q0).2.2.2 a0 a1 _)
    isplitl [H0]; · iapply rep_of_owns; iexact H0
    isplitl [H1]; · iapply rep_of_owns; iexact H1
    isplitl [H2]; · iapply rep_of_owns; iexact H2
    isplitl [H3]; · iapply rep_of_owns; iexact H3
    isplitl [H4]; · iapply rep_of_owns; iexact H4
    isplitl [HT0]; · iexact HT0
    isplitl [HT1]; · iexact HT1
    isplitl [H5]; · iexists _; iexact H5
    isplitl [HS0]; · iexact HS0
    isplitl [HS1]; · iexact HS1
    iintro ⟨H0, H1, H2, H3, H4, HT0, HT1, ⟨%e5, H5⟩, HS0, HS1⟩
    isplitl [HS0 HS1 HT0 HT1]
    · isplitl [HS0]
      · iexists _; isplitr; swap
        · iexact HS0
        · ipureintro; intro hn; first | rfl | exact absurd hn (by first | (rw [sfn0]; decide) | decide)
      isplitl [HS1]
      · iexists _; isplitr; swap
        · iexact HS1
        · ipureintro; intro hn; first | rfl | exact absurd hn (by first | (rw [sfn1]; decide) | decide)
      isplitl [HT0]
      · iexact HT0
      iexact HT1
    isplitl [Ho]; · iexact Ho
    isplitl [H0]
    · iapply owns_of_rep; iexact H0
    isplitl [H1]
    · iapply owns_of_rep; iexact H1
    isplitl [H2]
    · iapply owns_of_rep; iexact H2
    isplitl [H3]
    · iapply owns_of_rep; iexact H3
    isplitl [H4]
    · iapply owns_of_rep; iexact H4
    unfold owns; iexists _; isplitr; swap
    · iexact H5
    · ipureintro; exact View.read_writes_of_cover _ _ _ _ _ (cover0_A_5 c _ _ _ _ _ _ _ _ _ _ _ _ _ _ _ _ _ _ _ _ _ _ _)
  · by_cases q1 : P0_1 T t
    · obtain ⟨i5, f5, fr5, sf0, sfn0, sf1, sfn1⟩ := sched0_B T t q0 q1
      rewrite [i5]
      simp only [before0_0, before0_1, before0_2, before0_3, before0_4, before0_5, after0_0, after0_1, after0_2, after0_3, after0_4, after0_5, f5]
      simp only [fr5, Bool.false_eq_true, ↓reduceIte]
      rewrite [show (dats T m ρ 0 c).Φ t.succ = Phi T m ρ c t.succ from rfl, show (dats T m ρ 0 c).Φ t.castSucc = Phi T m ρ c t.castSucc from rfl,
        show (dats T m ρ 0 c).owesAt () t.succ = (dats T m ρ 0 c).owesAt () t.castSucc from rfl]
      try rewrite [traj0_eq, step0_B T m ρ c t _ q0 q1]
      unfold Phi; simp only [prev0T_castSucc, prev0T_succ, traj0_eq, step0_B T m ρ c t _ q0 q1, Fin.val_castSucc, Fin.val_succ]
      simp only [exists_held sf0, exists_held sf1]
      iintro ⟨⟨HS0, HS1, HT0, HT1⟩, Ho, ⟨%d0, H0⟩, ⟨%d1, H1⟩, ⟨%d2, H2⟩, ⟨%d3, H3⟩, ⟨%d4, H4⟩, ⟨%d5, H5⟩⟩
      iapply ((runB T m ρ c t _ _ q0 q1).2.2.2 _)
      isplitl [H0]; · iapply rep_of_owns; iexact H0
      isplitl [H1]; · iapply rep_of_owns; iexact H1
      isplitl [H2]; · iapply rep_of_owns; iexact H2
      isplitl [H3]; · iapply rep_of_owns; iexact H3
      isplitl [H4]; · iapply rep_of_owns; iexact H4
      isplitl [HT0]; · iexact HT0
      isplitl [HT1]; · iexact HT1
      isplitl [H5]; · iexists _; iexact H5
      isplitl [HS0]; · iexact HS0
      isplitl [HS1]; · iexact HS1
      iintro ⟨H0, H1, H2, H3, H4, HT0, HT1, ⟨%e5, H5⟩, HS0, HS1⟩
      isplitl [HS0 HS1 HT0 HT1]
      · isplitl [HS0]
        · iexists _; isplitr; swap
          · iexact HS0
          · ipureintro; intro hn; first | rfl | exact absurd hn (by first | (rw [sfn0]; decide) | decide)
        isplitl [HS1]
        · iexists _; isplitr; swap
          · iexact HS1
          · ipureintro; intro hn; first | rfl | exact absurd hn (by first | (rw [sfn1]; decide) | decide)
        isplitl [HT0]
        · iexact HT0
        iexact HT1
      isplitl [Ho]; · iexact Ho
      isplitl [H0]
      · iapply owns_of_rep; iexact H0
      isplitl [H1]
      · iapply owns_of_rep; iexact H1
      isplitl [H2]
      · iapply owns_of_rep; iexact H2
      isplitl [H3]
      · iapply owns_of_rep; iexact H3
      isplitl [H4]
      · iapply owns_of_rep; iexact H4
      unfold owns; iexists _; isplitr; swap
      · iexact H5
      · ipureintro; exact View.read_writes_of_cover _ _ _ _ _ (cover0_B_5 c _ _ _ _ _ _ _ _ _ _ _ _ _ _ _ _ _ _ _ _ _ _ _ _ _)
    · obtain ⟨i5, f5, fr5, sf0, sfn0, sf1, sfn1⟩ := sched0_C T t q0 q1
      rewrite [i5]
      simp only [before0_0, before0_1, before0_2, before0_3, before0_4, before0_5, after0_0, after0_1, after0_2, after0_3, after0_4, after0_5, f5]
      simp only [fr5, Bool.false_eq_true, ↓reduceIte]
      rewrite [show (dats T m ρ 0 c).Φ t.succ = Phi T m ρ c t.succ from rfl, show (dats T m ρ 0 c).Φ t.castSucc = Phi T m ρ c t.castSucc from rfl,
        show (dats T m ρ 0 c).owesAt () t.succ = (dats T m ρ 0 c).owesAt () t.castSucc from rfl]
      try rewrite [traj0_eq, step0_C T m ρ c t _ q0 q1]
      unfold Phi; simp only [prev0T_castSucc, prev0T_succ, traj0_eq, step0_C T m ρ c t _ q0 q1, Fin.val_castSucc, Fin.val_succ]
      simp only [exists_held sf0, exists_held sf1]
      iintro ⟨⟨HS0, HS1, HT0, HT1⟩, Ho, ⟨%d0, H0⟩, ⟨%d1, H1⟩, ⟨%d2, H2⟩, ⟨%d3, H3⟩, ⟨%d4, H4⟩, ⟨%d5, H5⟩⟩
      iapply ((runC T m ρ c t _ _ q0 q1).2.2.2 _)
      isplitl [H0]; · iapply rep_of_owns; iexact H0
      isplitl [H1]; · iapply rep_of_owns; iexact H1
      isplitl [H2]; · iapply rep_of_owns; iexact H2
      isplitl [H3]; · iapply rep_of_owns; iexact H3
      isplitl [H4]; · iapply rep_of_owns; iexact H4
      isplitl [HT0]; · iexact HT0
      isplitl [HT1]; · iexact HT1
      isplitl [H5]; · iexists _; iexact H5
      isplitl [HS0]; · iexact HS0
      isplitl [HS1]; · iexact HS1
      iintro ⟨H0, H1, H2, H3, H4, HT0, HT1, ⟨%e5, H5⟩, HS0, HS1⟩
      isplitl [HS0 HS1 HT0 HT1]
      · isplitl [HS0]
        · iexists _; isplitr; swap
          · iexact HS0
          · ipureintro; intro hn; first | rfl | exact absurd hn (by first | (rw [sfn0]; decide) | decide)
        isplitl [HS1]
        · iexists _; isplitr; swap
          · iexact HS1
          · ipureintro; intro hn; first | rfl | exact absurd hn (by first | (rw [sfn1]; decide) | decide)
        isplitl [HT0]
        · iexact HT0
        iexact HT1
      isplitl [Ho]; · iexact Ho
      isplitl [H0]
      · iapply owns_of_rep; iexact H0
      isplitl [H1]
      · iapply owns_of_rep; iexact H1
      isplitl [H2]
      · iapply owns_of_rep; iexact H2
      isplitl [H3]
      · iapply owns_of_rep; iexact H3
      isplitl [H4]
      · iapply owns_of_rep; iexact H4
      unfold owns; iexists _; isplitr; swap
      · iexact H5
      · ipureintro; exact View.read_writes_of_cover _ _ _ _ _ (cover0_C_5 c _ _ _ _ _ _ _ _ _ _ _ _ _ _ _ _ _ _ _ _ _ _ _ _ _)

theorem body_obligation (hp : Pinned T m) (c : Dev nD) : BodyObligation (dats T m ρ 0 c) (defs₀ (F := Bits)) Variants.none () Set.univ := fun t => by
  rw [bigSep_W0]
  exact sound_body T m ρ hp c t

/-- The ghost state at launch. -/
def u₀ : UR sig nD τ :=
  initOf (Pipeline.cells (pcs T) ((launch0 (F := Bits)).cellOf_inj fun _ => adm T))
    (Pipeline.launchToks (pcs T) ((launch0 (F := Bits)).cellOf_inj fun _ => adm T))

theorem share_eq (c : Dev nD) (w : Fin (cfgA T).W) : (dats T m ρ 0 c).share w = fullShare := by unfold Dat.share; split <;> rfl

theorem prefHeld_eq (c : Dev nD) (q : Fin 2 → PosShare TreeShare) (v : pre0.Contents (Elt Bits)) :
    (Pipeline.prefHeld (Ix := Unit) (Name := ℕ) (U := UR sig nD τ) (Lvl := ℕ) pre0 c q v : sProp 𝕄)
      = iprop((((c : Thread nD τ).loc main_arg0) ↦{q 0} v 0) ∗ (((c : Thread nD τ).loc main_arg1) ↦{q 1} v 1)) := by
  unfold Pipeline.prefHeld
  rw [show (Finset.univ : Finset (Fin 2)) = insert (0 : Fin 2) {(1 : Fin 2)} from by decide,
    bigSep_insert (by decide), bigSep_singleton]
  rfl

theorem phi0_intro (c : Dev nD) :
    iprop(BI.emp ∗ Pipeline.prefHeld pre0 c (fun _ => fullShare.right) (adm T).1 ∗ Pipeline.scopedRest spec0 c) ⊢ (dats T m ρ 0 c).Φ 0 := by
  rw [prefHeld_eq, scopedRest0_eq, show (dats T m ρ 0 c).Φ 0 = Phi T m ρ c 0 from rfl]
  unfold Phi
  iintro ⟨-, ⟨HT0, HT1⟩, ⟨%a0, HS0⟩, ⟨%a1, HS1⟩⟩
  isplitl [HS0]
  · iexists a0; isplitr; swap
    · iexact HS0
    · ipureintro; intro h; exact absurd (h.symm.trans (show sfresh0_0 T 0 = true from rfl)) Bool.false_ne_true
  isplitl [HS1]
  · iexists a1; isplitr; swap
    · iexact HS1
    · ipureintro; intro h; exact absurd (h.symm.trans (show sfresh0_1 T 0 = true from rfl)) Bool.false_ne_true
  isplitl [HT0]
  · iexact HT0
  iexact HT1

theorem phiN_exit (c : Dev nD) : (dats T m ρ 0 c).Φ (Fin.last (cfgA T).N) ⊢ iprop(BI.emp ∗ Pipeline.scopedRest spec0 c) := by
  rw [scopedRest0_eq, show (dats T m ρ 0 c).Φ (Fin.last (cfgA T).N) = Phi T m ρ c (Fin.last _) from rfl]
  unfold Phi
  iintro ⟨⟨%a0, -, HS0⟩, ⟨%a1, -, HS1⟩, -, -⟩
  isplitr; · iempintro
  isplitl [HS0]
  · iexists a0; iexact HS0
  iexists a1; iexact HS1

/-- What the run leaves: every array as the pipeline leaves it, the tables as they were. -/
def QC : PUnit × MemSt nD τ sig (Elt Bits) → Prop := fun r =>
  ∀ c : Dev nD, (∀ w : Fin (cfgA T).W, r.2.mem (((cfgA T).win w).arr.view.loc (c : Thread nD τ)) = (dats T m ρ 0 c).arrAt w (cfgA T).N)
    ∧ ∀ j, r.2.mem ((c : Thread nD τ).loc (pre0.ref j)) = (adm T).1 j

theorem V_pre (hp : Pinned T m) (c : Dev nD) (j : Fin 2) : m ((c : Thread nD τ).loc (pre0.ref j)) = (adm T).1 j := by
  fin_cases j
  · exact hp.1 c
  · exact hp.2 c

set_option backward.isDefEq.respectTransparency.types false in
set_option maxHeartbeats 4000000 in
theorem run_main_quiescent (hp : Pinned T m) : θ_run (defs (F := Bits)) (onTc (τ := τ) (main (F := Bits))) (s₀ m ρ) (fun r => QC T m ρ r ∧ r.2.sem = fun _ => 0) :=
  Pipeline.θ_run_region_noSem_pf_quiescent pcfgs (fun _ => adm T) (dats T m ρ) () ((launch0 (F := Bits)).cellOf_inj fun _ => adm T) (0 : Fin 1)
    (launch0 (F := Bits)).win.to₀ (launch0 (F := Bits)).pre EP defs₀ Variants.none m ρ main
    (hbody := fun c => (body_obligation T m ρ hp c).loose) (hne := (launch0 (F := Bits)).block_pos)
    (harr := (launch0 (F := Bits)).arr_whole) (hstage := (launch0 (F := Bits)).stage_whole) (howed := fun _ _ => rfl)
    (u₀ := u₀ T) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs T) (dats T m ρ) 0 (launch0 (F := Bits)).win.arr_inj c (launch0 (F := Bits)).arr_whole
      (share_eq T m ρ c) _ _ fun _ => rfl)
    (hpf := V_pre T m hp)
    (X := fun _ => iprop(emp)) (Y := fun _ => iprop(emp)) (Z := fun _ => iprop(emp))
    (hX := fun c => by rw [unscopedRestP0_eq]; iintro -; isplitr <;> iempintro)
    (hin := phi0_intro T m ρ)
    (hout := phiN_exit T m ρ)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

theorem run_main (hp : Pinned T m) : θ_run (defs (F := Bits)) (onTc (τ := τ) (main (F := Bits))) (s₀ m ρ) (QC T m ρ) :=
  (θ_run defs _ _).mono (fun _ h => h.1) (run_main_quiescent T m ρ hp)

theorem unchanged (hp : Pinned T m) :
    θ_run (defs (F := Bits)) (onTc (τ := τ) (main (F := Bits))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).2 0).trans (hp.1 c).symm, ((h c).2 1).trans (hp.2 c).symm, ((h c).1 (0 : Fin 6)).trans ((dats T m ρ 0 c).arrAt_in (0 : Fin 6) rfl _), ((h c).1 (1 : Fin 6)).trans ((dats T m ρ 0 c).arrAt_in (1 : Fin 6) rfl _), ((h c).1 (2 : Fin 6)).trans ((dats T m ρ 0 c).arrAt_in (2 : Fin 6) rfl _), ((h c).1 (3 : Fin 6)).trans ((dats T m ρ 0 c).arrAt_in (3 : Fin 6) rfl _), ((h c).1 (4 : Fin 6)).trans ((dats T m ρ 0 c).arrAt_in (4 : Fin 6) rfl _)⟩) (run_main T m ρ hp)

/-- The frame: it ends without fault, the arguments unchanged, every counter at zero. -/
theorem frame (hp : Pinned T m) :
    θ_run (defs (F := Bits)) (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged T m ρ hp) ((θ_run defs _ _).mono (fun _ h => h.2) (run_main_quiescent T m ρ hp))

end Cert.Kernel2.Routed

end
-- ==== Proof.Experts.Bits.Pinned.lean ====
/- The routing in memory, at machine floats. -/
module

public import proofs.«01_k».proof.Proof.Experts.Bits.Frame
public import proofs.«01_k».proof.Proof.Experts.Routing
public import Idealize.ShloMosaic.Lib.ValueIdx

@[expose] public section

set_option maxRecDepth 16384

noncomputable section

namespace Cert.Kernel2.Routed

open Cert.Kernel2 Cert.Kernel2.Gen
open Idealize.ShloMosaic Idealize.ShloMosaic.TcCoe Idealize.SL.Sem

/-- The first core. -/
abbrev core0 : Dev nD := ⟨0, by decide⟩

theorem core_eq (c : Dev nD) : c = core0 := Fin.ext (by have : c.val < 1 := c.isLt; show c.val = 0; omega)

theorem one_index (i : S1.Idx) : i = ix1 (0 : Fin 1) := by
  funext a
  match a with
  | ⟨0, _⟩ => exact Subsingleton.elim (α := Fin 1) _ _

/-- The routing precondition of the arguments in memory. -/
abbrev Routing (m : (ℓ : Loc nD τ sig) → Buf (Elt Bits) ℓ) : Prop := ∀ c : Dev nD,
  Cert.Pre_routed.fn (F := Bits) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) = fun _ => 1#1

theorem routing_ranges (m : (ℓ : Loc nD τ sig) → Buf (Elt Bits) ℓ) (h : Routing m) (c : Dev nD) :
    (∀ i : S290.Idx, (show BitVec 32 from m ((c.tc : Thread nD τ).loc main_arg0) i).toNat < 32)
      ∧ ∀ i : S1.Idx, 1 ≤ (show BitVec 32 from m ((c.tc : Thread nD τ).loc main_arg1) i).toNat ∧ (show BitVec 32 from m ((c.tc : Thread nD τ).loc main_arg1) i).toNat < 2147483648 :=
  Cert.Pre_routed.Value.ranges (F := Bits) _ _ _ _ _ _ _ (h c)

/-- The routing that memory holds. -/
def tablesOf (m : (ℓ : Loc nD τ sig) → Buf (Elt Bits) ℓ) (h : Routing m) : Tables :=
  ⟨m ((core0.tc : Thread nD τ).loc main_arg0), m ((core0.tc : Thread nD τ).loc main_arg1) (ix1 (0 : Fin 1)), (routing_ranges m h core0).1, (routing_ranges m h core0).2 _⟩

theorem pinned (m : (ℓ : Loc nD τ sig) → Buf (Elt Bits) ℓ) (h : Routing m) : Pinned (tablesOf m h) m := by
  refine ⟨fun c => ?_, fun c => ?_⟩
  · rw [core_eq c]; rfl
  · rw [core_eq c]
    exact funext fun i => congrArg (m ((core0.tc : Thread nD τ).loc main_arg1)) (one_index i)

end Cert.Kernel2.Routed

end
-- ==== Proof.Steps.lean ====
/- The attention kernel's inner loop as plain functions: a block of keys, a block of scores, one online-softmax step over a
   block, and the running state after `n` blocks. The payloads the kernel's loop stores are these functions. -/
module

public import proofs.«01_k».proof.Proof.Gen.KernelIdeal.Loops
public import Idealize.ShloMosaic.Lib.Pipeline.ValueKit
public import Idealize.ShloMosaic.Lib.VecWindow

@[expose] public section

set_option maxRecDepth 16384

noncomputable section

namespace Cert.KernelIdeal.Value

open Cert.KernelIdeal Cert.KernelIdeal.Gen Idealize.ShloMosaic Idealize.ShloMosaic.TcCoe Idealize.SL.Sem

variable {F : FTy → Type} [FloatOps F]

/-- Rows `512 n … 512 n + 511` of a staged key (or bias) array. -/
def rowsAt (x : Vec F S1x8192x128 .bf16) (n : ℕ) : Vec F S1x512x128 .bf16 :=
  fun j => x (ix3 (n0 := 1) (n1 := 8192) (n2 := 128) (0 : Fin 1) ⟨(512 * n + (j 1).val) % 8192, Nat.mod_lt _ (by decide)⟩ (j 2))

/-- Block `n` of the staged transposed values. -/
def valsAt (x : Vec F S16x128x512 .bf16) (n : ℕ) : Vec F S1x128x512 .bf16 :=
  fun j => x (ix3 (n0 := 16) (n1 := 128) (n2 := 512) ⟨n % 16, Nat.mod_lt _ (by decide)⟩ (j 1) (j 2))

/-- The scores of key block `n` against the stacked queries `q2`. -/
def scoresAt (q2 : FVec F S1024x256 .bf16) (k kb : Vec F S1x8192x128 .bf16) (n : ℕ) : FVec F S512x1024 .f32 :=
  k0_pay14 q2 (rowsAt k n) (rowsAt kb n)

/-- The running state: the accumulator (its rows 128 and up hold the normaliser) and the running maximum. -/
abbrev St (F : FTy → Type) : Type := Vec F S144x1024 .f32 × Vec F S1x1024 .f32

/-- One online-softmax step over a block of values `v` with scores `s`. -/
def step (one : FVec F S16x512 .bf16) (v : Vec F S1x128x512 .bf16) (s : Vec F S512x1024 .f32) (st : St F) : St F :=
  (k0_pay16 one v s st.2 st.1, k0_pay15 s st.2)

/-- The state after the first `n` blocks, none of them masked. -/
def stateAt (one : FVec F S16x512 .bf16) (q2 : FVec F S1024x256 .bf16) (k kb : Vec F S1x8192x128 .bf16) (v : Vec F S16x128x512 .bf16)
    (st : St F) : ℕ → St F
  | 0 => st
  | n + 1 => step one (valsAt v n) (scoresAt q2 k kb n) (stateAt one q2 k kb v st n)

/-- The state at the end of query block `n`: the first `n` key blocks as they are, block `n` under the causal mask. -/
def lastAt (q qb : Vec F S1x512x128 .bf16) (k kb : Vec F S1x8192x128 .bf16) (v : Vec F S16x128x512 .bf16) (n : ℕ) : St F :=
  step k0_pay38 (valsAt v n) (k0_pay1 (scoresAt (k0_pay37 q qb) k kb n))
    (stateAt k0_pay38 (k0_pay37 q qb) k kb v (k0_pay40, k0_pay39) n)

/-- What a softmax pair of heads writes for query block `n`. -/
def foxOut (q qb : Vec F S1x512x128 .bf16) (k kb : Vec F S1x8192x128 .bf16) (v : Vec F S16x128x512 .bf16) (n : ℕ) :
    Vec F S1x512x128 .bf16 := k0_pay12 (lastAt q qb k kb v n).1

/-- What a differential pair of heads writes for query block `n`. -/
def diffOut (lam : Vec F S1 .f32) (q qb : Vec F S1x512x128 .bf16) (k kb : Vec F S1x8192x128 .bf16) (v : Vec F S16x128x512 .bf16)
    (g : Vec F S1x128 .f32) (n : ℕ) : Vec F S1x512x128 .bf16 := k0_pay13 (lastAt q qb k kb v n).1 (lam (ix1 (0 : Fin 1))) g

/-! ## The payloads are these functions -/

theorem pay17_eq (x : FVec F S144x1024 .f32) : k0_pay17 x = x := shapeCast_self _ _
theorem pay18_eq (x : FVec F S1x1024 .f32) : k0_pay18 x = x := shapeCast_self _ _
theorem pay44_eq (x : FVec F S1x1024 .f32) : k0_pay44 x = x := shapeCast_self _ _
theorem pay5_eq (x : FVec F S1x1024 .f32) : k0_pay5 x = x := shapeCast_self _ _
theorem pay42_eq (x : FVec F S512x1024 .f32) : k0_pay42 x = x := shapeCast_self _ _
theorem pay19_eq (q2 : FVec F S1024x256 .bf16) (a b : Vec F S1x512x128 .bf16) : k0_pay19 q2 a b = k0_pay14 q2 a b := rfl
theorem pay34_eq (q2 : FVec F S1024x256 .bf16) (a b : Vec F S1x512x128 .bf16) : k0_pay34 q2 a b = k0_pay14 q2 a b := rfl
theorem pay41_eq (a b c d : Vec F S1x512x128 .bf16) : k0_pay41 a b c d = k0_pay14 (k0_pay37 a b) c d := (shapeCast_self _ _).symm
theorem pay21_eq (s : Vec F S512x1024 .f32) (m : Vec F S1x1024 .f32) : k0_pay21 s m = k0_pay15 s m := rfl
theorem pay35_eq (s : Vec F S512x1024 .f32) (m : Vec F S1x1024 .f32) : k0_pay35 s m = k0_pay15 s m := rfl
theorem pay36_eq (one : FVec F S16x512 .bf16) (v : Vec F S1x128x512 .bf16) (s : Vec F S512x1024 .f32) (m : Vec F S1x1024 .f32)
    (a : Vec F S144x1024 .f32) : k0_pay36 one v s m a = k0_pay16 one v s m a := shapeCast_self _ _
theorem pay43_eq (one : FVec F S16x512 .bf16) (v : Vec F S1x128x512 .bf16) (s : Vec F S512x1024 .f32) (m : Vec F S1x1024 .f32)
    (a : Vec F S144x1024 .f32) :
    k0_pay43 (k0_pay20 one v) s (k0_pay22 s m) (k0_pay23 s m) a = k0_pay16 one v s m a := shapeCast_self _ _
/-- The masked steps are plain steps over masked scores. -/
theorem pay3_eq (one : FVec F S16x512 .bf16) (v : Vec F S1x128x512 .bf16) (s : Vec F S512x1024 .f32) (m : Vec F S1x1024 .f32)
    (a : Vec F S144x1024 .f32) : k0_pay3 one v s m a = k0_pay16 one v (k0_pay1 s) m a := shapeCast_self _ _
theorem pay4_eq (s : Vec F S512x1024 .f32) (m : Vec F S1x1024 .f32) : k0_pay4 s m = k0_pay15 (k0_pay1 s) m := shapeCast_self _ _
theorem pay8_eq (one : FVec F S16x512 .bf16) (v : Vec F S1x128x512 .bf16) (s : Vec F S512x1024 .f32) (m : Vec F S1x1024 .f32)
    (a : Vec F S144x1024 .f32) : k0_pay8 one v s m a = k0_pay16 one v (k0_pay1 s) m a := shapeCast_self _ _
theorem pay9_eq (s : Vec F S512x1024 .f32) (m : Vec F S1x1024 .f32) : k0_pay9 s m = k0_pay15 (k0_pay1 s) m := shapeCast_self _ _

/-! ## The offsets of the loads -/

theorem trips_le (i : grid0.Coords) : (k0_t1_loop i).trips ≤ 7 := (k0_t1_abs i).2.1

theorem off1_1 (i : grid0.Coords) (k : Fin (k0_t1_loop i).trips) : k0_off1 i k 1#32 = ![0, 512 * (2 * k.val + 1), 0] :=
  congrArg (fun z => ![0, z, 0]) ((by decide +kernel : ∀ n : Fin 7, (Scalar.indexCast (Scalar.muli (Scalar.addi (Scalar.muli 2#32 (Scf.iv 0#32 1#32 n.val)) 1#32) 512#32)).toNat = 512 * (2 * n.val + 1)) ⟨k.val, k.isLt.trans_le (trips_le i)⟩)

theorem off1_2 (i : grid0.Coords) (k : Fin (k0_t1_loop i).trips) : k0_off1 i k 2#32 = ![0, 512 * (2 * k.val + 2), 0] :=
  congrArg (fun z => ![0, z, 0]) ((by decide +kernel : ∀ n : Fin 7, (Scalar.indexCast (Scalar.muli (Scalar.addi (Scalar.muli 2#32 (Scf.iv 0#32 1#32 n.val)) 2#32) 512#32)).toNat = 512 * (2 * n.val + 2)) ⟨k.val, k.isLt.trans_le (trips_le i)⟩)

theorem off2_eq (i : grid0.Coords) (k : Fin (k0_t1_loop i).trips) : k0_off2 i k = ![2 * k.val, 0, 0] :=
  congrArg (fun z => ![z, 0, 0]) ((by decide +kernel : ∀ n : Fin 7, (Scalar.indexCast (Scalar.muli 2#32 (Scf.iv 0#32 1#32 n.val))).toNat = 2 * n.val) ⟨k.val, k.isLt.trans_le (trips_le i)⟩)

theorem off3_eq (i : grid0.Coords) (k : Fin (k0_t1_loop i).trips) : k0_off3 i k = ![2 * k.val + 1, 0, 0] :=
  congrArg (fun z => ![z, 0, 0]) ((by decide +kernel : ∀ n : Fin 7, (Scalar.indexCast (Scalar.addi (Scalar.muli 2#32 (Scf.iv 0#32 1#32 n.val)) 1#32)).toNat = 2 * n.val + 1) ⟨k.val, k.isLt.trans_le (trips_le i)⟩)

/-- A load of 512 rows at row `512 n`. -/
theorem window_rows (x : Vec F S1x8192x128 .bf16) {off : Fin 3 → ℕ} (inb : ∀ a, off a + S1x512x128.size a ≤ S1x8192x128.size a) (n : ℕ)
    (h : off = ![0, 512 * n, 0]) : VecWindow.window (s := S1x8192x128) x off S1x512x128.size inb = rowsAt x n := by
  subst h
  funext j
  have h1 : 512 * n + 512 ≤ 8192 := inb 1
  refine congrArg x (funext fun a => Fin.ext ?_)
  have hj : (j 1).val < 512 := (j 1).isLt
  fin_cases a
  · show 0 + 1 * (j 0).val = 0
    have : (j 0).val < 1 := (j 0).isLt
    omega
  · show 512 * n + 1 * (j 1).val = (512 * n + (j 1).val) % 8192
    omega
  · show 0 + 1 * (j 2).val = (j 2).val
    omega

/-- A load of one block of the values. -/
theorem window_vals (x : Vec F S16x128x512 .bf16) {off : Fin 3 → ℕ} (inb : ∀ a, off a + S1x128x512.size a ≤ S16x128x512.size a) (n : ℕ)
    (h : off = ![n, 0, 0]) : VecWindow.window (s := S16x128x512) x off S1x128x512.size inb = valsAt x n := by
  subst h
  funext j
  have h1 : n + 1 ≤ 16 := inb 0
  refine congrArg x (funext fun a => Fin.ext ?_)
  have hj : (j 0).val < 1 := (j 0).isLt
  fin_cases a
  · show n + 1 * (j 0).val = n % 16
    omega
  · show 0 + 1 * (j 1).val = (j 1).val
    omega
  · show 0 + 1 * (j 2).val = (j 2).val
    omega

/-! ## Whole-buffer loads and stores, with the sizes written out as the kernel's rectangles write them -/

section whole
variable {sig' : RefSig} {κ : Kind} {sp : Space} {e : EltTy} {n0 n1 : ℕ} {Val : EltTy → Type}

theorem read_writes_whole (v : View sig' κ sp ⟨2, ![n0, n1]⟩ e) (f : v.ty.Contents Val) {off : Fin 2 → ℕ}
    (inb : ∀ a, off a + (![n0, n1] : Fin 2 → ℕ) a ≤ (![n0, n1] : Fin 2 → ℕ) a)
    (w : (Rect.unit (s := ⟨2, ![n0, n1]⟩) off ![n0, n1] inb).shape.Idx → Val e) (L : List (View.Piece Val ⟨2, ![n0, n1]⟩ e)) :
    v.read Val (v.writes Val f (⟨Rect.unit off ![n0, n1] inb, w⟩ :: L)) = w := View.read_writes_full v f inb w L

theorem readCov_whole [∀ e, Nonempty (Val e)] (v : View sig' κ sp ⟨2, ![n0, n1]⟩ e) {off off' : Fin 2 → ℕ}
    (inb : ∀ a, off a + (![n0, n1] : Fin 2 → ℕ) a ≤ (![n0, n1] : Fin 2 → ℕ) a)
    (inb' : ∀ a, off' a + (![n0, n1] : Fin 2 → ℕ) a ≤ (![n0, n1] : Fin 2 → ℕ) a)
    (w : (Rect.unit (s := ⟨2, ![n0, n1]⟩) off' ![n0, n1] inb').shape.Idx → Val e) (L : List (View.Piece Val ⟨2, ![n0, n1]⟩ e)) :
    v.readCov (⟨Rect.unit off' ![n0, n1] inb', w⟩ :: L) (Rect.unit off ![n0, n1] inb).toLoadRect = w :=
  View.readCov_full v inb inb' w L

theorem readAt_whole (v : View sig' κ sp ⟨2, ![n0, n1]⟩ e) (f : v.ty.Contents Val) {off : Fin 2 → ℕ}
    (inb : ∀ a, off a + (![n0, n1] : Fin 2 → ℕ) a ≤ (![n0, n1] : Fin 2 → ℕ) a) :
    v.readAt Val (Rect.unit (s := ⟨2, ![n0, n1]⟩) off ![n0, n1] inb).toLoadRect f = v.read Val f := View.readAt_full v f inb

theorem readCov_append [∀ e, Nonempty (Val e)] (v : View sig' κ sp ⟨2, ![n0, n1]⟩ e) {off : Fin 2 → ℕ}
    (inb : ∀ a, off a + (![n0, n1] : Fin 2 → ℕ) a ≤ (![n0, n1] : Fin 2 → ℕ) a) (A B : List (View.Piece Val ⟨2, ![n0, n1]⟩ e)) :
    v.readCov (A ++ B) (Rect.unit off ![n0, n1] inb).toLoadRect = v.read Val (v.writes Val (v.writes Val v.junk B) A) := by
  rw [← View.writes_append]
  exact View.readAt_full v (v.writes Val v.junk (A ++ B)) inb

end whole

theorem readAt_rows (v : Memref sig .tc .vmem S1x8192x128 .bf16) (hv : v.IsWhole) (x : Vec F S1x8192x128 .bf16) {off : Fin 3 → ℕ}
    (inb : ∀ a, off a + S1x512x128.size a ≤ S1x8192x128.size a) (n : ℕ) (h : off = ![0, 512 * n, 0]) :
    v.view.readAt (Elt F) (Rect.unit (s := S1x8192x128) off S1x512x128.size inb).toLoadRect (hv.unread x) = rowsAt x n := by
  rw [View.readAt_unit v.view _ inb rfl inb, hv.read_unread]
  exact window_rows x inb n h

theorem readAt_vals (v : Memref sig .tc .vmem S16x128x512 .bf16) (hv : v.IsWhole) (x : Vec F S16x128x512 .bf16) {off : Fin 3 → ℕ}
    (inb : ∀ a, off a + S1x128x512.size a ≤ S16x128x512.size a) (n : ℕ) (h : off = ![n, 0, 0]) :
    v.view.readAt (Elt F) (Rect.unit (s := S16x128x512) off S1x128x512.size inb).toLoadRect (hv.unread x) = valsAt x n := by
  rw [View.readAt_unit v.view _ inb rfl inb, hv.read_unread]
  exact window_vals x inb n h

end Cert.KernelIdeal.Value

end
-- ==== Proof.Trip.lean ====
/- What one trip of the kernel's loop, and then the whole loop, leaves in the scratch buffers: two online-softmax steps a trip. -/
module

public import proofs.«01_k».proof.Proof.Steps

@[expose] public section

set_option maxRecDepth 16384

noncomputable section

namespace Cert.KernelIdeal.Value

open Cert.KernelIdeal Cert.KernelIdeal.Gen Idealize.ShloMosaic Idealize.ShloMosaic.TcCoe Idealize.SL.Sem

variable {F : FTy → Type} [FloatOps F]

section
variable (𝒱 : Variants) (c : Dev nD) (bd : Option 𝒱.V) (i : grid0.Coords)
    (arg3 : Memref sig .tc .smem S1 .f32) (harg3 : arg3.IsWhole) (arg4 : Memref sig .tc .vmem S1x512x128 .bf16) (harg4 : arg4.IsWhole)
    (arg5 : Memref sig .tc .vmem S1x512x128 .bf16) (harg5 : arg5.IsWhole) (arg6 : Memref sig .tc .vmem S1x8192x128 .bf16) (harg6 : arg6.IsWhole)
    (arg7 : Memref sig .tc .vmem S1x8192x128 .bf16) (harg7 : arg7.IsWhole) (arg8 : Memref sig .tc .vmem S16x128x512 .bf16) (harg8 : arg8.IsWhole)
    (arg9 : Memref sig .tc .vmem S1x128 .f32) (harg9 : arg9.IsWhole) (arg10 : Memref sig .tc .vmem S1x512x128 .bf16) (harg10 : arg10.IsWhole)
    (arg11 : Memref sig .tc .vmem S144x1024 .f32) (harg11 : arg11.IsWhole) (arg12 : Memref sig .tc .vmem S1x1024 .f32) (harg12 : arg12.IsWhole)
    (arg13 : Memref sig .tc .vmem S512x1024 .f32) (harg13 : arg13.IsWhole) (arg14 : Memref sig .tc .vmem S512x1024 .f32) (harg14 : arg14.IsWhole)
    (arg2 : BitVec 32) (q2 : FVec F S1024x256 .bf16) (one : FVec F S16x512 .bf16) (s0 : FVec F S512x1024 .f32)
    (x6 x7 : Vec F S1x8192x128 .bf16) (x8 : Vec F S16x128x512 .bf16)

set_option maxHeartbeats 2000000 in
/-- One trip: block `2k` with the scores found in the first score buffer, block `2k + 1` with scores computed in the trip, and the
    scores of block `2k + 2` left behind. -/
theorem trip_read (k : Fin (k0_t1_loop i).trips)
    (f11 : BufTy.Contents (Elt F) arg11.view.ty) (f12 : BufTy.Contents (Elt F) arg12.view.ty)
    (f13 : BufTy.Contents (Elt F) arg13.view.ty) (f14 : BufTy.Contents (Elt F) arg14.view.ty) :
    (arg11.view.read (Elt F) (arg11.view.writes (Elt F) f11 ((trip_k0_t1 (F := F) 𝒱 c bd i arg3 harg3 arg4 harg4 arg5 harg5 arg6 harg6 arg7 harg7 arg8 harg8 arg9 harg9 arg10 harg10 arg11 harg11 arg12 harg12 arg13 harg13 arg14 harg14 arg2 q2 one s0 (harg6.unread x6) (harg7.unread x7) (harg8.unread x8) k).1 f11 f12 f13 f14)),
      arg12.view.read (Elt F) (arg12.view.writes (Elt F) f12 ((trip_k0_t1 (F := F) 𝒱 c bd i arg3 harg3 arg4 harg4 arg5 harg5 arg6 harg6 arg7 harg7 arg8 harg8 arg9 harg9 arg10 harg10 arg11 harg11 arg12 harg12 arg13 harg13 arg14 harg14 arg2 q2 one s0 (harg6.unread x6) (harg7.unread x7) (harg8.unread x8) k).2.1 f11 f12 f13 f14)))
      = step one (valsAt x8 (2 * k.val + 1)) (scoresAt q2 x6 x7 (2 * k.val + 1))
          (step one (valsAt x8 (2 * k.val)) (arg13.view.read (Elt F) f13) (arg11.view.read (Elt F) f11, arg12.view.read (Elt F) f12))
    ∧ arg13.view.read (Elt F) (arg13.view.writes (Elt F) f13 ((trip_k0_t1 (F := F) 𝒱 c bd i arg3 harg3 arg4 harg4 arg5 harg5 arg6 harg6 arg7 harg7 arg8 harg8 arg9 harg9 arg10 harg10 arg11 harg11 arg12 harg12 arg13 harg13 arg14 harg14 arg2 q2 one s0 (harg6.unread x6) (harg7.unread x7) (harg8.unread x8) k).2.2.1 f11 f12 f13 f14))
      = scoresAt q2 x6 x7 (2 * k.val + 2) := by
  have e61 := readAt_rows arg6 harg6 x6 (k0_off1_inb i k 0) _ (off1_1 i k)
  have e62 := readAt_rows arg6 harg6 x6 (k0_off1_inb i k 1) _ (off1_2 i k)
  have e71 := readAt_rows arg7 harg7 x7 (k0_off1_inb i k 0) _ (off1_1 i k)
  have e72 := readAt_rows arg7 harg7 x7 (k0_off1_inb i k 1) _ (off1_2 i k)
  have e81 := readAt_vals arg8 harg8 x8 (k0_off2_inb i k) _ (off2_eq i k)
  have e82 := readAt_vals arg8 harg8 x8 (k0_off3_inb i k) _ (off3_eq i k)
  unfold trip_k0_t1
  dsimp only
  sl_unfold_words
  unfold step scoresAt
  dsimp only
  rw [← e61, ← e62, ← e71, ← e72, ← e81, ← e82]
  simp only [read_writes_whole, readCov_whole, readAt_whole, pay17_eq, pay18_eq, pay44_eq, pay43_eq, pay21_eq, pay19_eq]
  exact ⟨rfl, rfl⟩

/-- The whole loop: before trip `n` the first `2n` blocks are in, and the scores of block `2n` are ready. -/
theorem loop_read (G11 : BufTy.Contents (Elt F) arg11.view.ty) (G12 : BufTy.Contents (Elt F) arg12.view.ty)
    (G13 : BufTy.Contents (Elt F) arg13.view.ty) (G14 : BufTy.Contents (Elt F) arg14.view.ty)
    (h13 : arg13.view.read (Elt F) G13 = scoresAt q2 x6 x7 0) (n : ℕ) (hn : n ≤ (k0_t1_loop i).trips) :
    (arg11.view.read (Elt F) (arg11.view.writes (Elt F) G11 (pb_k0_t1 (F := F) 𝒱 c bd i arg3 harg3 arg4 harg4 arg5 harg5 arg6 harg6 arg7 harg7 arg8 harg8 arg9 harg9 arg10 harg10 arg11 harg11 arg12 harg12 arg13 harg13 arg14 harg14 arg2 q2 one s0 (harg6.unread x6) (harg7.unread x7) (harg8.unread x8) G11 G12 G13 G14 n).1),
      arg12.view.read (Elt F) (arg12.view.writes (Elt F) G12 (pb_k0_t1 (F := F) 𝒱 c bd i arg3 harg3 arg4 harg4 arg5 harg5 arg6 harg6 arg7 harg7 arg8 harg8 arg9 harg9 arg10 harg10 arg11 harg11 arg12 harg12 arg13 harg13 arg14 harg14 arg2 q2 one s0 (harg6.unread x6) (harg7.unread x7) (harg8.unread x8) G11 G12 G13 G14 n).2.1))
      = stateAt one q2 x6 x7 x8 (arg11.view.read (Elt F) G11, arg12.view.read (Elt F) G12) (2 * n)
    ∧ arg13.view.read (Elt F) (arg13.view.writes (Elt F) G13 (pb_k0_t1 (F := F) 𝒱 c bd i arg3 harg3 arg4 harg4 arg5 harg5 arg6 harg6 arg7 harg7 arg8 harg8 arg9 harg9 arg10 harg10 arg11 harg11 arg12 harg12 arg13 harg13 arg14 harg14 arg2 q2 one s0 (harg6.unread x6) (harg7.unread x7) (harg8.unread x8) G11 G12 G13 G14 n).2.2.1)
      = scoresAt q2 x6 x7 (2 * n) := by
  induction n with
  | zero => exact ⟨rfl, h13⟩
  | succ n ih =>
    obtain ⟨ih1, ih2⟩ := ih (by omega)
    have hs := pb_k0_t1_succ (F := F) 𝒱 c bd i arg3 harg3 arg4 harg4 arg5 harg5 arg6 harg6 arg7 harg7 arg8 harg8 arg9 harg9 arg10 harg10 arg11 harg11 arg12 harg12 arg13 harg13 arg14 harg14 arg2 q2 one s0 (harg6.unread x6) (harg7.unread x7) (harg8.unread x8) G11 G12 G13 G14 ⟨n, by omega⟩
    dsimp only at hs
    rw [hs]
    dsimp only
    rw [View.writes_append, View.writes_append, View.writes_append]
    have ht := trip_read 𝒱 c bd i arg3 harg3 arg4 harg4 arg5 harg5 arg6 harg6 arg7 harg7 arg8 harg8 arg9 harg9 arg10 harg10 arg11 harg11 arg12 harg12 arg13 harg13 arg14 harg14 arg2 q2 one s0 x6 x7 x8 ⟨n, by omega⟩ (arg11.view.writes (Elt F) G11 (pb_k0_t1 (F := F) 𝒱 c bd i arg3 harg3 arg4 harg4 arg5 harg5 arg6 harg6 arg7 harg7 arg8 harg8 arg9 harg9 arg10 harg10 arg11 harg11 arg12 harg12 arg13 harg13 arg14 harg14 arg2 q2 one s0 (harg6.unread x6) (harg7.unread x7) (harg8.unread x8) G11 G12 G13 G14 n).1)
      (arg12.view.writes (Elt F) G12 (pb_k0_t1 (F := F) 𝒱 c bd i arg3 harg3 arg4 harg4 arg5 harg5 arg6 harg6 arg7 harg7 arg8 harg8 arg9 harg9 arg10 harg10 arg11 harg11 arg12 harg12 arg13 harg13 arg14 harg14 arg2 q2 one s0 (harg6.unread x6) (harg7.unread x7) (harg8.unread x8) G11 G12 G13 G14 n).2.1) (arg13.view.writes (Elt F) G13 (pb_k0_t1 (F := F) 𝒱 c bd i arg3 harg3 arg4 harg4 arg5 harg5 arg6 harg6 arg7 harg7 arg8 harg8 arg9 harg9 arg10 harg10 arg11 harg11 arg12 harg12 arg13 harg13 arg14 harg14 arg2 q2 one s0 (harg6.unread x6) (harg7.unread x7) (harg8.unread x8) G11 G12 G13 G14 n).2.2.1) (arg14.view.writes (Elt F) G14 (pb_k0_t1 (F := F) 𝒱 c bd i arg3 harg3 arg4 harg4 arg5 harg5 arg6 harg6 arg7 harg7 arg8 harg8 arg9 harg9 arg10 harg10 arg11 harg11 arg12 harg12 arg13 harg13 arg14 harg14 arg2 q2 one s0 (harg6.unread x6) (harg7.unread x7) (harg8.unread x8) G11 G12 G13 G14 n).2.2.2)
    rw [ih1, ih2] at ht
    exact ht

end

theorem trips1 : ∀ t : Fin grid0.N, (k0_t1_loop (grid0.coords t)).trips = t.val % 16 / 2 := by decide +kernel
theorem trips2 : ∀ t : Fin grid0.N, (k0_t2_loop (grid0.coords t)).trips = 0 := by decide +kernel
theorem off7_eq : ∀ t : Fin grid0.N, k0_off7 (grid0.coords t) = ![t.val % 16, 0, 0] := by decide +kernel

end Cert.KernelIdeal.Value

end
-- ==== Proof.RunA.lean ====
/- The kernel's body at the even query blocks of a softmax pair of heads. -/
module

public import proofs.«01_k».proof.Proof.Gen.KernelIdeal.Frame.Runs
public import proofs.«01_k».proof.Proof.Trip

@[expose] public section

set_option maxRecDepth 16384

noncomputable section

namespace Cert.KernelIdeal.Value

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at a point of case A: the output's buffer ends with the rows of attention named in closed form. -/
theorem body_A (c : Dev nD) (i : grid0.Coords)
    (arg3 : Memref sig .tc .smem S1 .f32) (harg3 : arg3.IsWhole) (arg4 : Memref sig .tc .vmem S1x512x128 .bf16) (harg4 : arg4.IsWhole)
    (arg5 : Memref sig .tc .vmem S1x512x128 .bf16) (harg5 : arg5.IsWhole) (arg6 : Memref sig .tc .vmem S1x8192x128 .bf16) (harg6 : arg6.IsWhole)
    (arg7 : Memref sig .tc .vmem S1x8192x128 .bf16) (harg7 : arg7.IsWhole) (arg8 : Memref sig .tc .vmem S16x128x512 .bf16) (harg8 : arg8.IsWhole)
    (arg9 : Memref sig .tc .vmem S1x128 .f32) (harg9 : arg9.IsWhole) (arg10 : Memref sig .tc .vmem S1x512x128 .bf16) (harg10 : arg10.IsWhole)
    (arg11 : Memref sig .tc .vmem S144x1024 .f32) (harg11 : arg11.IsWhole) (arg12 : Memref sig .tc .vmem S1x1024 .f32) (harg12 : arg12.IsWhole)
    (arg13 : Memref sig .tc .vmem S512x1024 .f32) (harg13 : arg13.IsWhole) (arg14 : Memref sig .tc .vmem S512x1024 .f32) (harg14 : arg14.IsWhole)
    (hc0 : cond0_0 i) (hc1 : ¬cond0_1 i) (hc2 : cond0_2 i) (hc3 : ¬cond0_3 i) (n : ℕ)
    (h1 : (k0_t1_loop i).trips = n) (h2 : (k0_t2_loop i).trips = 0) (h7 : k0_off7 i = ![2 * n, 0, 0])
    (x0 : Vec F S1 .f32) (x1 : Vec F S1x512x128 .bf16) (x2 : Vec F S1x512x128 .bf16) (x3 : Vec F S1x8192x128 .bf16) (x4 : Vec F S1x8192x128 .bf16)
    (x5 : Vec F S16x128x512 .bf16) (x6 : Vec F S1x128 .f32)
    (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare (foxOut x1 x2 x3 x4 x5 (2 * n)) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)) -∗ K ⟨⟩))
      ⊢ wp frame (wpE (defs₀ (F := F)) Variants.none c none) E (cc0_prompt_attn i arg3 harg3 arg4 harg4 arg5 harg5 arg6 harg6 arg7 harg7 arg8 harg8 arg9 harg9 arg10 harg10 arg11 harg11 arg12 harg12 arg13 harg13 arg14 harg14) K := by
  simp only [cc0_prompt_attn_eq_skeleton]; unfold cc0_prompt_attn_skel
  simp only [k0_part6_eq_skeleton, k0_part7_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%ds0, %fs0, -, HS0⟩, ⟨%ds1, %fs1, -, HS1⟩, ⟨%ds2, %fs2, -, HS2⟩, ⟨%ds3, %fs3, -, HS3⟩, Hk⟩
  obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6
  sl_exec (disch := first | sl_exact hc0 | sl_exact hc1 | sl_exact hc2 | sl_exact hc3)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr; · ipureintro; exact harg8.read_unread _
    iexact H5
  isplitl [H6]
  · iexists _; isplitr; · ipureintro; exact harg9.read_unread _
    iexact H6
  isplitl [H7]
  · iexists _; isplitr; swap; · iexact H7
    ipureintro
    refine (View.read_writes_full arg10.view f7 _ _ _).trans ?_
    sl_unfold_words
    have h1' : Scf.trips (k0_t1_loop i).lb (k0_t1_loop i).ub (k0_t1_loop i).st = n := h1
    have h2' : Scf.trips (k0_t2_loop i).lb (k0_t2_loop i).ub (k0_t2_loop i).st = 0 := h2
    have e4 : View.readAt (Elt F) arg4.view (Rect.unit ![0, 0, 0] ![1, 512, 128] inb_S1x512x128_S1x512x128_0_0_0).toLoadRect (harg4.unread x1) = x1 :=
      (View.readAt_full arg4.view _ _).trans (harg4.read_unread x1)
    have e5 : View.readAt (Elt F) arg5.view (Rect.unit ![0, 0, 0] ![1, 512, 128] inb_S1x512x128_S1x512x128_0_0_0).toLoadRect (harg5.unread x2) = x2 :=
      (View.readAt_full arg5.view _ _).trans (harg5.read_unread x2)
    have e6 : View.readAt (Elt F) arg6.view (Rect.unit ![0, 0, 0] ![1, 512, 128] inb_S1x8192x128_S1x512x128_0_0_0).toLoadRect (harg6.unread x3) = rowsAt x3 0 :=
      readAt_rows arg6 harg6 x3 _ 0 rfl
    have e7 : View.readAt (Elt F) arg7.view (Rect.unit ![0, 0, 0] ![1, 512, 128] inb_S1x8192x128_S1x512x128_0_0_0).toLoadRect (harg7.unread x4) = rowsAt x4 0 :=
      readAt_rows arg7 harg7 x4 _ 0 rfl
    have e8 := readAt_vals arg8 harg8 x5 (k0_off7_inb i hc0) (2 * n) h7
    simp only [h1', h2', pb_k0_t2.eq_1, List.nil_append, e4, e5, e6, e7, readCov_whole, readCov_append, pay42_eq, pay3_eq, pay5_eq, pay8_eq, pay9_eq, pay36_eq, pay35_eq, pay34_eq]
    have h13 : arg13.view.read (Elt F) (arg13.view.writes (Elt F) arg13.view.junk
        [⟨Rect.unit ![0, 0] ![512, 1024] inb_S512x1024_S512x1024_0_0, k0_pay41 x1 x2 (rowsAt x3 0) (rowsAt x4 0)⟩])
        = scoresAt (k0_pay37 x1 x2) x3 x4 0 := (read_writes_whole arg13.view _ _ _ _).trans (pay41_eq _ _ _ _)
    have hL := loop_read Variants.none c none i arg3 harg3 arg4 harg4 arg5 harg5 arg6 harg6 arg7 harg7 arg8 harg8 arg9 harg9 arg10 harg10 arg11 harg11 arg12 harg12 arg13 harg13 arg14 harg14 (BitVec.ofNat 32 (i 2)) (k0_pay37 x1 x2) k0_pay38
      (k0_pay41 x1 x2 (rowsAt x3 0) (rowsAt x4 0)) x3 x4 x5
      (arg11.view.writes (Elt F) arg11.view.junk [⟨Rect.unit ![0, 0] ![144, 1024] inb_S144x1024_S144x1024_0_0, k0_pay40⟩])
      (arg12.view.writes (Elt F) arg12.view.junk [⟨Rect.unit ![0, 0] ![1, 1024] inb_S1x1024_S1x1024_0_0, k0_pay39⟩])
      _ fs3 h13 n h1.ge
    rw [read_writes_whole, read_writes_whole] at hL
    obtain ⟨hL1, hL13⟩ := hL
    have hL11 := congrArg Prod.fst hL1
    have hL12 := congrArg Prod.snd hL1
    dsimp only at hL11 hL12
    rw [hL11, hL12, hL13]
    unfold foxOut lastAt
    exact congrArg (fun a => k0_pay12 a) (congrArg
      (fun v => k0_pay16 k0_pay38 v (k0_pay1 (scoresAt (k0_pay37 x1 x2) x3 x4 (2 * n))) (stateAt k0_pay38 (k0_pay37 x1 x2) x3 x4 x5 (k0_pay40, k0_pay39) (2 * n)).2 (stateAt k0_pay38 (k0_pay37 x1 x2) x3 x4 x5 (k0_pay40, k0_pay39) (2 * n)).1) e8)
  isplitl [HS0]
  · iexists _, _; isplitr; swap; · iexact HS0
    ipureintro; rfl
  isplitl [HS1]
  · iexists _, _; isplitr; swap; · iexact HS1
    ipureintro; rfl
  isplitl [HS2]
  · iexists _, _; isplitr; swap; · iexact HS2
    ipureintro; rfl
  iexists _, _; isplitr; swap; · iexact HS3
  ipureintro; rfl

end Cert.KernelIdeal.Value

end
-- ==== Proof.RunB.lean ====
/- The kernel's body at the odd query blocks of a softmax pair of heads. -/
module

public import proofs.«01_k».proof.Proof.RunA

@[expose] public section

set_option maxRecDepth 16384

noncomputable section

namespace Cert.KernelIdeal.Value

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at a point of case B: the output's buffer ends with the rows of attention named in closed form. -/
theorem body_B (c : Dev nD) (i : grid0.Coords)
    (arg3 : Memref sig .tc .smem S1 .f32) (harg3 : arg3.IsWhole) (arg4 : Memref sig .tc .vmem S1x512x128 .bf16) (harg4 : arg4.IsWhole)
    (arg5 : Memref sig .tc .vmem S1x512x128 .bf16) (harg5 : arg5.IsWhole) (arg6 : Memref sig .tc .vmem S1x8192x128 .bf16) (harg6 : arg6.IsWhole)
    (arg7 : Memref sig .tc .vmem S1x8192x128 .bf16) (harg7 : arg7.IsWhole) (arg8 : Memref sig .tc .vmem S16x128x512 .bf16) (harg8 : arg8.IsWhole)
    (arg9 : Memref sig .tc .vmem S1x128 .f32) (harg9 : arg9.IsWhole) (arg10 : Memref sig .tc .vmem S1x512x128 .bf16) (harg10 : arg10.IsWhole)
    (arg11 : Memref sig .tc .vmem S144x1024 .f32) (harg11 : arg11.IsWhole) (arg12 : Memref sig .tc .vmem S1x1024 .f32) (harg12 : arg12.IsWhole)
    (arg13 : Memref sig .tc .vmem S512x1024 .f32) (harg13 : arg13.IsWhole) (arg14 : Memref sig .tc .vmem S512x1024 .f32) (harg14 : arg14.IsWhole)
    (hc0 : ¬cond0_0 i) (hc1 : cond0_1 i) (hc2 : cond0_2 i) (hc3 : ¬cond0_3 i) (n : ℕ)
    (h1 : (k0_t1_loop i).trips = n) (h2 : (k0_t2_loop i).trips = 0) (h8 : k0_off8 i = ![0, 512 * (2 * n + 1), 0]) (h9 : k0_off9 i = ![2 * n, 0, 0]) (h10 : k0_off10 i = ![2 * n + 1, 0, 0])
    (x0 : Vec F S1 .f32) (x1 : Vec F S1x512x128 .bf16) (x2 : Vec F S1x512x128 .bf16) (x3 : Vec F S1x8192x128 .bf16) (x4 : Vec F S1x8192x128 .bf16)
    (x5 : Vec F S16x128x512 .bf16) (x6 : Vec F S1x128 .f32)
    (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare (foxOut x1 x2 x3 x4 x5 (2 * n + 1)) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)) -∗ K ⟨⟩))
      ⊢ wp frame (wpE (defs₀ (F := F)) Variants.none c none) E (cc0_prompt_attn i arg3 harg3 arg4 harg4 arg5 harg5 arg6 harg6 arg7 harg7 arg8 harg8 arg9 harg9 arg10 harg10 arg11 harg11 arg12 harg12 arg13 harg13 arg14 harg14) K := by
  simp only [cc0_prompt_attn_eq_skeleton]; unfold cc0_prompt_attn_skel
  simp only [k0_part6_eq_skeleton, k0_part7_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%ds0, %fs0, -, HS0⟩, ⟨%ds1, %fs1, -, HS1⟩, ⟨%ds2, %fs2, -, HS2⟩, ⟨%ds3, %fs3, -, HS3⟩, Hk⟩
  obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6
  sl_exec (disch := first | sl_exact hc0 | sl_exact hc1 | sl_exact hc2 | sl_exact hc3)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr; · ipureintro; exact harg8.read_unread _
    iexact H5
  isplitl [H6]
  · iexists _; isplitr; · ipureintro; exact harg9.read_unread _
    iexact H6
  isplitl [H7]
  · iexists _; isplitr; swap; · iexact H7
    ipureintro
    refine (View.read_writes_full arg10.view f7 _ _ _).trans ?_
    sl_unfold_words
    have h1' : Scf.trips (k0_t1_loop i).lb (k0_t1_loop i).ub (k0_t1_loop i).st = n := h1
    have h2' : Scf.trips (k0_t2_loop i).lb (k0_t2_loop i).ub (k0_t2_loop i).st = 0 := h2
    have e4 : View.readAt (Elt F) arg4.view (Rect.unit ![0, 0, 0] ![1, 512, 128] inb_S1x512x128_S1x512x128_0_0_0).toLoadRect (harg4.unread x1) = x1 :=
      (View.readAt_full arg4.view _ _).trans (harg4.read_unread x1)
    have e5 : View.readAt (Elt F) arg5.view (Rect.unit ![0, 0, 0] ![1, 512, 128] inb_S1x512x128_S1x512x128_0_0_0).toLoadRect (harg5.unread x2) = x2 :=
      (View.readAt_full arg5.view _ _).trans (harg5.read_unread x2)
    have e6 : View.readAt (Elt F) arg6.view (Rect.unit ![0, 0, 0] ![1, 512, 128] inb_S1x8192x128_S1x512x128_0_0_0).toLoadRect (harg6.unread x3) = rowsAt x3 0 :=
      readAt_rows arg6 harg6 x3 _ 0 rfl
    have e7 : View.readAt (Elt F) arg7.view (Rect.unit ![0, 0, 0] ![1, 512, 128] inb_S1x8192x128_S1x512x128_0_0_0).toLoadRect (harg7.unread x4) = rowsAt x4 0 :=
      readAt_rows arg7 harg7 x4 _ 0 rfl
    have e61 := readAt_rows arg6 harg6 x3 (k0_off8_inb i hc1) (2 * n + 1) h8
    have e71 := readAt_rows arg7 harg7 x4 (k0_off8_inb i hc1) (2 * n + 1) h8
    have e80 := readAt_vals arg8 harg8 x5 (k0_off9_inb i hc1) (2 * n) h9
    have e81 := readAt_vals arg8 harg8 x5 (k0_off10_inb i hc1) (2 * n + 1) h10
    simp only [h1', h2', pb_k0_t2.eq_1, List.nil_append, e4, e5, e6, e7, readCov_whole, readCov_append, pay42_eq, pay3_eq, pay5_eq, pay8_eq, pay9_eq, pay36_eq, pay35_eq, pay34_eq]
    have h13 : arg13.view.read (Elt F) (arg13.view.writes (Elt F) arg13.view.junk
        [⟨Rect.unit ![0, 0] ![512, 1024] inb_S512x1024_S512x1024_0_0, k0_pay41 x1 x2 (rowsAt x3 0) (rowsAt x4 0)⟩])
        = scoresAt (k0_pay37 x1 x2) x3 x4 0 := (read_writes_whole arg13.view _ _ _ _).trans (pay41_eq _ _ _ _)
    have hL := loop_read Variants.none c none i arg3 harg3 arg4 harg4 arg5 harg5 arg6 harg6 arg7 harg7 arg8 harg8 arg9 harg9 arg10 harg10 arg11 harg11 arg12 harg12 arg13 harg13 arg14 harg14 (BitVec.ofNat 32 (i 2)) (k0_pay37 x1 x2) k0_pay38
      (k0_pay41 x1 x2 (rowsAt x3 0) (rowsAt x4 0)) x3 x4 x5
      (arg11.view.writes (Elt F) arg11.view.junk [⟨Rect.unit ![0, 0] ![144, 1024] inb_S144x1024_S144x1024_0_0, k0_pay40⟩])
      (arg12.view.writes (Elt F) arg12.view.junk [⟨Rect.unit ![0, 0] ![1, 1024] inb_S1x1024_S1x1024_0_0, k0_pay39⟩])
      _ fs3 h13 n h1.ge
    rw [read_writes_whole, read_writes_whole] at hL
    obtain ⟨hL1, hL13⟩ := hL
    have hL11 := congrArg Prod.fst hL1
    have hL12 := congrArg Prod.snd hL1
    dsimp only at hL11 hL12
    rw [hL11, hL12, hL13]
    unfold foxOut lastAt
    have es : k0_pay14 (k0_pay37 x1 x2)
        (arg6.view.readAt (Elt F) (Rect.unit (s := S1x8192x128) (k0_off8 i) S1x512x128.size (k0_off8_inb i hc1)).toLoadRect (harg6.unread x3))
        (arg7.view.readAt (Elt F) (Rect.unit (s := S1x8192x128) (k0_off8 i) S1x512x128.size (k0_off8_inb i hc1)).toLoadRect (harg7.unread x4))
        = scoresAt (k0_pay37 x1 x2) x3 x4 (2 * n + 1) := by
      rw [e61, e71]; rfl
    have key : ∀ v1 s v0, v1 = valsAt x5 (2 * n + 1) → s = scoresAt (k0_pay37 x1 x2) x3 x4 (2 * n + 1) → v0 = valsAt x5 (2 * n) →
        k0_pay16 k0_pay38 v1 (k0_pay1 s)
          (k0_pay15 (scoresAt (k0_pay37 x1 x2) x3 x4 (2 * n)) (stateAt k0_pay38 (k0_pay37 x1 x2) x3 x4 x5 (k0_pay40, k0_pay39) (2 * n)).2)
          (k0_pay16 k0_pay38 v0 (scoresAt (k0_pay37 x1 x2) x3 x4 (2 * n))
            (stateAt k0_pay38 (k0_pay37 x1 x2) x3 x4 x5 (k0_pay40, k0_pay39) (2 * n)).2
            (stateAt k0_pay38 (k0_pay37 x1 x2) x3 x4 x5 (k0_pay40, k0_pay39) (2 * n)).1)
        = (step k0_pay38 (valsAt x5 (2 * n + 1)) (k0_pay1 (scoresAt (k0_pay37 x1 x2) x3 x4 (2 * n + 1)))
            (stateAt k0_pay38 (k0_pay37 x1 x2) x3 x4 x5 (k0_pay40, k0_pay39) (2 * n + 1))).1 := by
      rintro _ _ _ rfl rfl rfl; rfl
    exact congrArg (fun a => k0_pay12 a) (key _ _ _ e81 es e80)
  isplitl [HS0]
  · iexists _, _; isplitr; swap; · iexact HS0
    ipureintro; rfl
  isplitl [HS1]
  · iexists _, _; isplitr; swap; · iexact HS1
    ipureintro; rfl
  isplitl [HS2]
  · iexists _, _; isplitr; swap; · iexact HS2
    ipureintro; rfl
  iexists _, _; isplitr; swap; · iexact HS3
  ipureintro; rfl

end Cert.KernelIdeal.Value

end
-- ==== Proof.RunC.lean ====
/- The kernel's body at the even query blocks of a differential pair of heads. -/
module

public import proofs.«01_k».proof.Proof.RunB

@[expose] public section

set_option maxRecDepth 16384

noncomputable section

namespace Cert.KernelIdeal.Value

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at a point of case C: the output's buffer ends with the rows of attention named in closed form. -/
theorem body_C (c : Dev nD) (i : grid0.Coords)
    (arg3 : Memref sig .tc .smem S1 .f32) (harg3 : arg3.IsWhole) (arg4 : Memref sig .tc .vmem S1x512x128 .bf16) (harg4 : arg4.IsWhole)
    (arg5 : Memref sig .tc .vmem S1x512x128 .bf16) (harg5 : arg5.IsWhole) (arg6 : Memref sig .tc .vmem S1x8192x128 .bf16) (harg6 : arg6.IsWhole)
    (arg7 : Memref sig .tc .vmem S1x8192x128 .bf16) (harg7 : arg7.IsWhole) (arg8 : Memref sig .tc .vmem S16x128x512 .bf16) (harg8 : arg8.IsWhole)
    (arg9 : Memref sig .tc .vmem S1x128 .f32) (harg9 : arg9.IsWhole) (arg10 : Memref sig .tc .vmem S1x512x128 .bf16) (harg10 : arg10.IsWhole)
    (arg11 : Memref sig .tc .vmem S144x1024 .f32) (harg11 : arg11.IsWhole) (arg12 : Memref sig .tc .vmem S1x1024 .f32) (harg12 : arg12.IsWhole)
    (arg13 : Memref sig .tc .vmem S512x1024 .f32) (harg13 : arg13.IsWhole) (arg14 : Memref sig .tc .vmem S512x1024 .f32) (harg14 : arg14.IsWhole)
    (hc0 : cond0_0 i) (hc1 : ¬cond0_1 i) (hc2 : ¬cond0_2 i) (hc3 : cond0_3 i) (n : ℕ)
    (h1 : (k0_t1_loop i).trips = n) (h2 : (k0_t2_loop i).trips = 0) (h7 : k0_off7 i = ![2 * n, 0, 0])
    (x0 : Vec F S1 .f32) (x1 : Vec F S1x512x128 .bf16) (x2 : Vec F S1x512x128 .bf16) (x3 : Vec F S1x8192x128 .bf16) (x4 : Vec F S1x8192x128 .bf16)
    (x5 : Vec F S16x128x512 .bf16) (x6 : Vec F S1x128 .f32)
    (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare (diffOut x0 x1 x2 x3 x4 x5 x6 (2 * n)) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)) -∗ K ⟨⟩))
      ⊢ wp frame (wpE (defs₀ (F := F)) Variants.none c none) E (cc0_prompt_attn i arg3 harg3 arg4 harg4 arg5 harg5 arg6 harg6 arg7 harg7 arg8 harg8 arg9 harg9 arg10 harg10 arg11 harg11 arg12 harg12 arg13 harg13 arg14 harg14) K := by
  simp only [cc0_prompt_attn_eq_skeleton]; unfold cc0_prompt_attn_skel
  simp only [k0_part6_eq_skeleton, k0_part7_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%ds0, %fs0, -, HS0⟩, ⟨%ds1, %fs1, -, HS1⟩, ⟨%ds2, %fs2, -, HS2⟩, ⟨%ds3, %fs3, -, HS3⟩, Hk⟩
  obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6
  sl_exec (disch := first | sl_exact hc0 | sl_exact hc1 | sl_exact hc2 | sl_exact hc3)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr; · ipureintro; exact harg8.read_unread _
    iexact H5
  isplitl [H6]
  · iexists _; isplitr; · ipureintro; exact harg9.read_unread _
    iexact H6
  isplitl [H7]
  · iexists _; isplitr; swap; · iexact H7
    ipureintro
    refine (View.read_writes_full arg10.view f7 _ _ _).trans ?_
    sl_unfold_words
    have h1' : Scf.trips (k0_t1_loop i).lb (k0_t1_loop i).ub (k0_t1_loop i).st = n := h1
    have h2' : Scf.trips (k0_t2_loop i).lb (k0_t2_loop i).ub (k0_t2_loop i).st = 0 := h2
    have e4 : View.readAt (Elt F) arg4.view (Rect.unit ![0, 0, 0] ![1, 512, 128] inb_S1x512x128_S1x512x128_0_0_0).toLoadRect (harg4.unread x1) = x1 :=
      (View.readAt_full arg4.view _ _).trans (harg4.read_unread x1)
    have e5 : View.readAt (Elt F) arg5.view (Rect.unit ![0, 0, 0] ![1, 512, 128] inb_S1x512x128_S1x512x128_0_0_0).toLoadRect (harg5.unread x2) = x2 :=
      (View.readAt_full arg5.view _ _).trans (harg5.read_unread x2)
    have e6 : View.readAt (Elt F) arg6.view (Rect.unit ![0, 0, 0] ![1, 512, 128] inb_S1x8192x128_S1x512x128_0_0_0).toLoadRect (harg6.unread x3) = rowsAt x3 0 :=
      readAt_rows arg6 harg6 x3 _ 0 rfl
    have e7 : View.readAt (Elt F) arg7.view (Rect.unit ![0, 0, 0] ![1, 512, 128] inb_S1x8192x128_S1x512x128_0_0_0).toLoadRect (harg7.unread x4) = rowsAt x4 0 :=
      readAt_rows arg7 harg7 x4 _ 0 rfl
    have e8 := readAt_vals arg8 harg8 x5 (k0_off7_inb i hc0) (2 * n) h7
    have e9 : View.readAt (Elt F) arg9.view (Rect.unit ![0, 0] ![1, 128] inb_S1x128_S1x128_0_0).toLoadRect (harg9.unread x6) = x6 :=
      (View.readAt_full arg9.view _ _).trans (harg9.read_unread x6)
    simp only [h1', h2', pb_k0_t2.eq_1, List.nil_append, e4, e5, e6, e7, e9, readCov_whole, readCov_append, pay42_eq, pay3_eq, pay5_eq, pay8_eq, pay9_eq, pay36_eq, pay35_eq, pay34_eq]
    have h13 : arg13.view.read (Elt F) (arg13.view.writes (Elt F) arg13.view.junk
        [⟨Rect.unit ![0, 0] ![512, 1024] inb_S512x1024_S512x1024_0_0, k0_pay41 x1 x2 (rowsAt x3 0) (rowsAt x4 0)⟩])
        = scoresAt (k0_pay37 x1 x2) x3 x4 0 := (read_writes_whole arg13.view _ _ _ _).trans (pay41_eq _ _ _ _)
    have hL := loop_read Variants.none c none i arg3 harg3 arg4 harg4 arg5 harg5 arg6 harg6 arg7 harg7 arg8 harg8 arg9 harg9 arg10 harg10 arg11 harg11 arg12 harg12 arg13 harg13 arg14 harg14 (BitVec.ofNat 32 (i 2)) (k0_pay37 x1 x2) k0_pay38
      (k0_pay41 x1 x2 (rowsAt x3 0) (rowsAt x4 0)) x3 x4 x5
      (arg11.view.writes (Elt F) arg11.view.junk [⟨Rect.unit ![0, 0] ![144, 1024] inb_S144x1024_S144x1024_0_0, k0_pay40⟩])
      (arg12.view.writes (Elt F) arg12.view.junk [⟨Rect.unit ![0, 0] ![1, 1024] inb_S1x1024_S1x1024_0_0, k0_pay39⟩])
      _ fs3 h13 n h1.ge
    rw [read_writes_whole, read_writes_whole] at hL
    obtain ⟨hL1, hL13⟩ := hL
    have hL11 := congrArg Prod.fst hL1
    have hL12 := congrArg Prod.snd hL1
    dsimp only at hL11 hL12
    rw [hL11, hL12, hL13]
    unfold diffOut lastAt
    have e3 : View.readAt (Elt F) arg3.view (Rect.unit ![0] ![1] inb_S1_S1_0).toLoadRect (harg3.unread x0) = x0 :=
      (View.readAt_full arg3.view _ _).trans (harg3.read_unread x0)
    have hj : ∀ j : S1.Idx, j = ix1 (0 : Fin 1) := fun j => funext fun a => Fin.ext (by
      fin_cases a
      show (j 0).val = 0
      have : (j 0).val < 1 := (j 0).isLt
      omega)
    rw [e3, hj (Shape.Idx.first _)]
    exact congrArg (fun a => k0_pay13 a (x0 (ix1 (0 : Fin 1))) x6) (congrArg
      (fun v => k0_pay16 k0_pay38 v (k0_pay1 (scoresAt (k0_pay37 x1 x2) x3 x4 (2 * n))) (stateAt k0_pay38 (k0_pay37 x1 x2) x3 x4 x5 (k0_pay40, k0_pay39) (2 * n)).2 (stateAt k0_pay38 (k0_pay37 x1 x2) x3 x4 x5 (k0_pay40, k0_pay39) (2 * n)).1) e8)
  isplitl [HS0]
  · iexists _, _; isplitr; swap; · iexact HS0
    ipureintro; rfl
  isplitl [HS1]
  · iexists _, _; isplitr; swap; · iexact HS1
    ipureintro; rfl
  isplitl [HS2]
  · iexists _, _; isplitr; swap; · iexact HS2
    ipureintro; rfl
  iexists _, _; isplitr; swap; · iexact HS3
  ipureintro; rfl

end Cert.KernelIdeal.Value

end
-- ==== Proof.RunD.lean ====
/- The kernel's body at the odd query blocks of a differential pair of heads. -/
module

public import proofs.«01_k».proof.Proof.RunC

@[expose] public section

set_option maxRecDepth 16384

noncomputable section

namespace Cert.KernelIdeal.Value

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at a point of case D: the output's buffer ends with the rows of attention named in closed form. -/
theorem body_D (c : Dev nD) (i : grid0.Coords)
    (arg3 : Memref sig .tc .smem S1 .f32) (harg3 : arg3.IsWhole) (arg4 : Memref sig .tc .vmem S1x512x128 .bf16) (harg4 : arg4.IsWhole)
    (arg5 : Memref sig .tc .vmem S1x512x128 .bf16) (harg5 : arg5.IsWhole) (arg6 : Memref sig .tc .vmem S1x8192x128 .bf16) (harg6 : arg6.IsWhole)
    (arg7 : Memref sig .tc .vmem S1x8192x128 .bf16) (harg7 : arg7.IsWhole) (arg8 : Memref sig .tc .vmem S16x128x512 .bf16) (harg8 : arg8.IsWhole)
    (arg9 : Memref sig .tc .vmem S1x128 .f32) (harg9 : arg9.IsWhole) (arg10 : Memref sig .tc .vmem S1x512x128 .bf16) (harg10 : arg10.IsWhole)
    (arg11 : Memref sig .tc .vmem S144x1024 .f32) (harg11 : arg11.IsWhole) (arg12 : Memref sig .tc .vmem S1x1024 .f32) (harg12 : arg12.IsWhole)
    (arg13 : Memref sig .tc .vmem S512x1024 .f32) (harg13 : arg13.IsWhole) (arg14 : Memref sig .tc .vmem S512x1024 .f32) (harg14 : arg14.IsWhole)
    (hc0 : ¬cond0_0 i) (hc1 : cond0_1 i) (hc2 : ¬cond0_2 i) (hc3 : cond0_3 i) (n : ℕ)
    (h1 : (k0_t1_loop i).trips = n) (h2 : (k0_t2_loop i).trips = 0) (h8 : k0_off8 i = ![0, 512 * (2 * n + 1), 0]) (h9 : k0_off9 i = ![2 * n, 0, 0]) (h10 : k0_off10 i = ![2 * n + 1, 0, 0])
    (x0 : Vec F S1 .f32) (x1 : Vec F S1x512x128 .bf16) (x2 : Vec F S1x512x128 .bf16) (x3 : Vec F S1x8192x128 .bf16) (x4 : Vec F S1x8192x128 .bf16)
    (x5 : Vec F S16x128x512 .bf16) (x6 : Vec F S1x128 .f32)
    (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare (diffOut x0 x1 x2 x3 x4 x5 x6 (2 * n + 1)) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)) -∗ K ⟨⟩))
      ⊢ wp frame (wpE (defs₀ (F := F)) Variants.none c none) E (cc0_prompt_attn i arg3 harg3 arg4 harg4 arg5 harg5 arg6 harg6 arg7 harg7 arg8 harg8 arg9 harg9 arg10 harg10 arg11 harg11 arg12 harg12 arg13 harg13 arg14 harg14) K := by
  simp only [cc0_prompt_attn_eq_skeleton]; unfold cc0_prompt_attn_skel
  simp only [k0_part6_eq_skeleton, k0_part7_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%ds0, %fs0, -, HS0⟩, ⟨%ds1, %fs1, -, HS1⟩, ⟨%ds2, %fs2, -, HS2⟩, ⟨%ds3, %fs3, -, HS3⟩, Hk⟩
  obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6
  sl_exec (disch := first | sl_exact hc0 | sl_exact hc1 | sl_exact hc2 | sl_exact hc3)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr; · ipureintro; exact harg8.read_unread _
    iexact H5
  isplitl [H6]
  · iexists _; isplitr; · ipureintro; exact harg9.read_unread _
    iexact H6
  isplitl [H7]
  · iexists _; isplitr; swap; · iexact H7
    ipureintro
    refine (View.read_writes_full arg10.view f7 _ _ _).trans ?_
    sl_unfold_words
    have h1' : Scf.trips (k0_t1_loop i).lb (k0_t1_loop i).ub (k0_t1_loop i).st = n := h1
    have h2' : Scf.trips (k0_t2_loop i).lb (k0_t2_loop i).ub (k0_t2_loop i).st = 0 := h2
    have e4 : View.readAt (Elt F) arg4.view (Rect.unit ![0, 0, 0] ![1, 512, 128] inb_S1x512x128_S1x512x128_0_0_0).toLoadRect (harg4.unread x1) = x1 :=
      (View.readAt_full arg4.view _ _).trans (harg4.read_unread x1)
    have e5 : View.readAt (Elt F) arg5.view (Rect.unit ![0, 0, 0] ![1, 512, 128] inb_S1x512x128_S1x512x128_0_0_0).toLoadRect (harg5.unread x2) = x2 :=
      (View.readAt_full arg5.view _ _).trans (harg5.read_unread x2)
    have e6 : View.readAt (Elt F) arg6.view (Rect.unit ![0, 0, 0] ![1, 512, 128] inb_S1x8192x128_S1x512x128_0_0_0).toLoadRect (harg6.unread x3) = rowsAt x3 0 :=
      readAt_rows arg6 harg6 x3 _ 0 rfl
    have e7 : View.readAt (Elt F) arg7.view (Rect.unit ![0, 0, 0] ![1, 512, 128] inb_S1x8192x128_S1x512x128_0_0_0).toLoadRect (harg7.unread x4) = rowsAt x4 0 :=
      readAt_rows arg7 harg7 x4 _ 0 rfl
    have e61 := readAt_rows arg6 harg6 x3 (k0_off8_inb i hc1) (2 * n + 1) h8
    have e71 := readAt_rows arg7 harg7 x4 (k0_off8_inb i hc1) (2 * n + 1) h8
    have e80 := readAt_vals arg8 harg8 x5 (k0_off9_inb i hc1) (2 * n) h9
    have e81 := readAt_vals arg8 harg8 x5 (k0_off10_inb i hc1) (2 * n + 1) h10
    have e9 : View.readAt (Elt F) arg9.view (Rect.unit ![0, 0] ![1, 128] inb_S1x128_S1x128_0_0).toLoadRect (harg9.unread x6) = x6 :=
      (View.readAt_full arg9.view _ _).trans (harg9.read_unread x6)
    simp only [h1', h2', pb_k0_t2.eq_1, List.nil_append, e4, e5, e6, e7, e9, readCov_whole, readCov_append, pay42_eq, pay3_eq, pay5_eq, pay8_eq, pay9_eq, pay36_eq, pay35_eq, pay34_eq]
    have h13 : arg13.view.read (Elt F) (arg13.view.writes (Elt F) arg13.view.junk
        [⟨Rect.unit ![0, 0] ![512, 1024] inb_S512x1024_S512x1024_0_0, k0_pay41 x1 x2 (rowsAt x3 0) (rowsAt x4 0)⟩])
        = scoresAt (k0_pay37 x1 x2) x3 x4 0 := (read_writes_whole arg13.view _ _ _ _).trans (pay41_eq _ _ _ _)
    have hL := loop_read Variants.none c none i arg3 harg3 arg4 harg4 arg5 harg5 arg6 harg6 arg7 harg7 arg8 harg8 arg9 harg9 arg10 harg10 arg11 harg11 arg12 harg12 arg13 harg13 arg14 harg14 (BitVec.ofNat 32 (i 2)) (k0_pay37 x1 x2) k0_pay38
      (k0_pay41 x1 x2 (rowsAt x3 0) (rowsAt x4 0)) x3 x4 x5
      (arg11.view.writes (Elt F) arg11.view.junk [⟨Rect.unit ![0, 0] ![144, 1024] inb_S144x1024_S144x1024_0_0, k0_pay40⟩])
      (arg12.view.writes (Elt F) arg12.view.junk [⟨Rect.unit ![0, 0] ![1, 1024] inb_S1x1024_S1x1024_0_0, k0_pay39⟩])
      _ fs3 h13 n h1.ge
    rw [read_writes_whole, read_writes_whole] at hL
    obtain ⟨hL1, hL13⟩ := hL
    have hL11 := congrArg Prod.fst hL1
    have hL12 := congrArg Prod.snd hL1
    dsimp only at hL11 hL12
    rw [hL11, hL12, hL13]
    unfold diffOut lastAt
    have e3 : View.readAt (Elt F) arg3.view (Rect.unit ![0] ![1] inb_S1_S1_0).toLoadRect (harg3.unread x0) = x0 :=
      (View.readAt_full arg3.view _ _).trans (harg3.read_unread x0)
    have hj : ∀ j : S1.Idx, j = ix1 (0 : Fin 1) := fun j => funext fun a => Fin.ext (by
      fin_cases a
      show (j 0).val = 0
      have : (j 0).val < 1 := (j 0).isLt
      omega)
    rw [e3, hj (Shape.Idx.first _)]
    have es : k0_pay14 (k0_pay37 x1 x2)
        (arg6.view.readAt (Elt F) (Rect.unit (s := S1x8192x128) (k0_off8 i) S1x512x128.size (k0_off8_inb i hc1)).toLoadRect (harg6.unread x3))
        (arg7.view.readAt (Elt F) (Rect.unit (s := S1x8192x128) (k0_off8 i) S1x512x128.size (k0_off8_inb i hc1)).toLoadRect (harg7.unread x4))
        = scoresAt (k0_pay37 x1 x2) x3 x4 (2 * n + 1) := by
      rw [e61, e71]; rfl
    have key : ∀ v1 s v0, v1 = valsAt x5 (2 * n + 1) → s = scoresAt (k0_pay37 x1 x2) x3 x4 (2 * n + 1) → v0 = valsAt x5 (2 * n) →
        k0_pay16 k0_pay38 v1 (k0_pay1 s)
          (k0_pay15 (scoresAt (k0_pay37 x1 x2) x3 x4 (2 * n)) (stateAt k0_pay38 (k0_pay37 x1 x2) x3 x4 x5 (k0_pay40, k0_pay39) (2 * n)).2)
          (k0_pay16 k0_pay38 v0 (scoresAt (k0_pay37 x1 x2) x3 x4 (2 * n))
            (stateAt k0_pay38 (k0_pay37 x1 x2) x3 x4 x5 (k0_pay40, k0_pay39) (2 * n)).2
            (stateAt k0_pay38 (k0_pay37 x1 x2) x3 x4 x5 (k0_pay40, k0_pay39) (2 * n)).1)
        = (step k0_pay38 (valsAt x5 (2 * n + 1)) (k0_pay1 (scoresAt (k0_pay37 x1 x2) x3 x4 (2 * n + 1)))
            (stateAt k0_pay38 (k0_pay37 x1 x2) x3 x4 x5 (k0_pay40, k0_pay39) (2 * n + 1))).1 := by
      rintro _ _ _ rfl rfl rfl; rfl
    exact congrArg (fun a => k0_pay13 a (x0 (ix1 (0 : Fin 1))) x6) (key _ _ _ e81 es e80)
  isplitl [HS0]
  · iexists _, _; isplitr; swap; · iexact HS0
    ipureintro; rfl
  isplitl [HS1]
  · iexists _, _; isplitr; swap; · iexact HS1
    ipureintro; rfl
  isplitl [HS2]
  · iexists _, _; isplitr; swap; · iexact HS2
    ipureintro; rfl
  iexists _, _; isplitr; swap; · iexact HS3
  ipureintro; rfl

end Cert.KernelIdeal.Value

end
-- ==== Proof.Frame.lean ====
/- The frame of the attention kernel with what every grid point writes back named in closed form: the pipeline's proof data, the body at every point, the run, and the frame claim. -/
module

public import proofs.«01_k».proof.Proof.RunD
public import Idealize.ShloMosaic.Lib.Claim
public import Idealize.ShloMosaic.Lib.Pipeline.Value

@[expose] public section

set_option maxRecDepth 16384

noncomputable section

namespace Cert.KernelIdeal.Value

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- What the kernel writes back at grid point `t`, from its input blocks: query block `t % 16` of the pair of heads `t / 16 % 8`. -/
def outOf (t : ℕ) (x0 : Vec F S1 .f32) (x1 : Vec F S1x512x128 .bf16) (x2 : Vec F S1x512x128 .bf16) (x3 : Vec F S1x8192x128 .bf16) (x4 : Vec F S1x8192x128 .bf16) (x5 : Vec F S16x128x512 .bf16) (x6 : Vec F S1x128 .f32) : Vec F S1x512x128 .bf16 :=
  if t / 16 % 8 ≤ 3 then foxOut x1 x2 x3 x4 x5 (t % 16) else diffOut x0 x1 x2 x3 x4 x5 x6 (t % 16)

theorem off7_at : ∀ t : Fin grid0.N, t.val % 2 = 0 → k0_off7 (grid0.coords t) = ![2 * (t.val % 16 / 2), 0, 0] := by decide +kernel
theorem off8_at : ∀ t : Fin grid0.N, t.val % 2 = 1 → k0_off8 (grid0.coords t) = ![0, 512 * (2 * (t.val % 16 / 2) + 1), 0] := by decide +kernel
theorem off9_at : ∀ t : Fin grid0.N, t.val % 2 = 1 → k0_off9 (grid0.coords t) = ![2 * (t.val % 16 / 2), 0, 0] := by decide +kernel
theorem off10_at : ∀ t : Fin grid0.N, t.val % 2 = 1 → k0_off10 (grid0.coords t) = ![2 * (t.val % 16 / 2) + 1, 0, 0] := by decide +kernel

/-- The body at any grid point. -/
theorem body_at (c : Dev nD) (t : Fin cfg0.N)
    (arg3 : Memref sig .tc .smem S1 .f32) (harg3 : arg3.IsWhole) (arg4 : Memref sig .tc .vmem S1x512x128 .bf16) (harg4 : arg4.IsWhole)
    (arg5 : Memref sig .tc .vmem S1x512x128 .bf16) (harg5 : arg5.IsWhole) (arg6 : Memref sig .tc .vmem S1x8192x128 .bf16) (harg6 : arg6.IsWhole)
    (arg7 : Memref sig .tc .vmem S1x8192x128 .bf16) (harg7 : arg7.IsWhole) (arg8 : Memref sig .tc .vmem S16x128x512 .bf16) (harg8 : arg8.IsWhole)
    (arg9 : Memref sig .tc .vmem S1x128 .f32) (harg9 : arg9.IsWhole) (arg10 : Memref sig .tc .vmem S1x512x128 .bf16) (harg10 : arg10.IsWhole)
    (arg11 : Memref sig .tc .vmem S144x1024 .f32) (harg11 : arg11.IsWhole) (arg12 : Memref sig .tc .vmem S1x1024 .f32) (harg12 : arg12.IsWhole)
    (arg13 : Memref sig .tc .vmem S512x1024 .f32) (harg13 : arg13.IsWhole) (arg14 : Memref sig .tc .vmem S512x1024 .f32) (harg14 : arg14.IsWhole)
    (x0 : Vec F S1 .f32) (x1 : Vec F S1x512x128 .bf16) (x2 : Vec F S1x512x128 .bf16) (x3 : Vec F S1x8192x128 .bf16) (x4 : Vec F S1x8192x128 .bf16)
    (x5 : Vec F S16x128x512 .bf16) (x6 : Vec F S1x128 .f32)
    (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare (outOf t.val x0 x1 x2 x3 x4 x5 x6) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)) -∗ K ⟨⟩))
      ⊢ wp frame (wpE (defs₀ (F := F)) Variants.none c none) E (cc0_prompt_attn (grid0.coords t) arg3 harg3 arg4 harg4 arg5 harg5 arg6 harg6 arg7 harg7 arg8 harg8 arg9 harg9 arg10 harg10 arg11 harg11 arg12 harg12 arg13 harg13 arg14 harg14) K := by
  have hN : t.val < 256 := lt_of_lt_of_eq t.isLt (show cfg0.N = 256 from N_0)
  have hc0 := hcond0_0 t
  have hc1 := hcond0_1 t
  have hc2 := hcond0_2 t
  have hc3 := hcond0_3 t
  have ht1 := trips1 t
  have ht2 := trips2 t
  unfold outOf
  by_cases h0 : t.val % 2 = 0
  · have e : t.val % 16 = 2 * (t.val % 16 / 2) := by omega
    by_cases h2 : t.val / 16 % 8 ≤ 3
    · rw [if_pos h2, e]
      exact body_A c (grid0.coords t) arg3 harg3 arg4 harg4 arg5 harg5 arg6 harg6 arg7 harg7 arg8 harg8 arg9 harg9 arg10 harg10 arg11 harg11 arg12 harg12 arg13 harg13 arg14 harg14 (hc0.mpr h0) (fun h => absurd (hc1.mp h) (by omega)) (hc2.mpr h2)
        (fun h => absurd (hc3.mp h) (by omega)) _ ht1 ht2 (off7_at t h0) x0 x1 x2 x3 x4 x5 x6 E K
    · rw [if_neg h2, e]
      exact body_C c (grid0.coords t) arg3 harg3 arg4 harg4 arg5 harg5 arg6 harg6 arg7 harg7 arg8 harg8 arg9 harg9 arg10 harg10 arg11 harg11 arg12 harg12 arg13 harg13 arg14 harg14 (hc0.mpr h0) (fun h => absurd (hc1.mp h) (by omega)) (fun h => h2 (hc2.mp h))
        (hc3.mpr (by omega)) _ ht1 ht2 (off7_at t h0) x0 x1 x2 x3 x4 x5 x6 E K
  · have h1 : t.val % 2 = 1 := by omega
    have e : t.val % 16 = 2 * (t.val % 16 / 2) + 1 := by omega
    by_cases h2 : t.val / 16 % 8 ≤ 3
    · rw [if_pos h2, e]
      exact body_B c (grid0.coords t) arg3 harg3 arg4 harg4 arg5 harg5 arg6 harg6 arg7 harg7 arg8 harg8 arg9 harg9 arg10 harg10 arg11 harg11 arg12 harg12 arg13 harg13 arg14 harg14 (fun h => h0 (hc0.mp h)) (hc1.mpr h1) (hc2.mpr h2)
        (fun h => absurd (hc3.mp h) (by omega)) _ ht1 ht2 (off8_at t h1) (off9_at t h1) (off10_at t h1) x0 x1 x2 x3 x4 x5 x6 E K
    · rw [if_neg h2, e]
      exact body_D c (grid0.coords t) arg3 harg3 arg4 harg4 arg5 harg5 arg6 harg6 arg7 harg7 arg8 harg8 arg9 harg9 arg10 harg10 arg11 harg11 arg12 harg12 arg13 harg13 arg14 harg14 (fun h => h0 (hc0.mp h)) (hc1.mpr h1) (fun h => h2 (hc2.mp h))
        (hc3.mpr (by omega)) _ ht1 ht2 (off8_at t h1) (off9_at t h1) (off10_at t h1) x0 x1 x2 x3 x4 x5 x6 E K

variable (m : (ℓ : Loc nD τ sig) → Buf (Elt F) ℓ) (ρ : Dev nD → PrngReg)

/-- What the output's staging buffer holds after the body at point `t`. -/
def outAt (c : Dev nD) (t : Fin cfg0.N) : Vec F S1x512x128 .bf16 :=
  outOf t.val (iblk m c 0 t) (iblk m c 1 t) (iblk m c 2 t) (iblk m c 3 t) (iblk m c 4 t) (iblk m c 5 t) (iblk m c 6 t)

/-- The pipeline's proof data on core `c`: each input's buffer at its block, the output's at `outAt`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => outAt m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = outAt m c t := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d

theorem leaves_0 (c : Dev nD) (t : Fin cfg0.N) : (dats m 0 c).leavesExact 0 t = owns (c : Thread nD τ) (ms0_0 t) fullShare (iblk m c 0 t) := by
  unfold Dat.leavesExact; rw [liveAt0_0 t, after_0]
theorem leaves_1 (c : Dev nD) (t : Fin cfg0.N) : (dats m 0 c).leavesExact 1 t = owns (c : Thread nD τ) (ms0_1 t) fullShare (iblk m c 1 t) := by
  unfold Dat.leavesExact; rw [liveAt0_1 t, after_1]
theorem leaves_2 (c : Dev nD) (t : Fin cfg0.N) : (dats m 0 c).leavesExact 2 t = owns (c : Thread nD τ) (ms0_2 t) fullShare (iblk m c 2 t) := by
  unfold Dat.leavesExact; rw [liveAt0_2 t, after_2]
theorem leaves_3 (c : Dev nD) (t : Fin cfg0.N) : (dats m 0 c).leavesExact 3 t = owns (c : Thread nD τ) (ms0_3 t) fullShare (iblk m c 3 t) := by
  unfold Dat.leavesExact; rw [liveAt0_3 t, after_3]
theorem leaves_4 (c : Dev nD) (t : Fin cfg0.N) : (dats m 0 c).leavesExact 4 t = owns (c : Thread nD τ) (ms0_4 t) fullShare (iblk m c 4 t) := by
  unfold Dat.leavesExact; rw [liveAt0_4 t, after_4]
theorem leaves_5 (c : Dev nD) (t : Fin cfg0.N) : (dats m 0 c).leavesExact 5 t = owns (c : Thread nD τ) (ms0_5 t) fullShare (iblk m c 5 t) := by
  unfold Dat.leavesExact; rw [liveAt0_5 t, after_5]
theorem leaves_6 (c : Dev nD) (t : Fin cfg0.N) : (dats m 0 c).leavesExact 6 t = owns (c : Thread nD τ) (ms0_6 t) fullShare (iblk m c 6 t) := by
  unfold Dat.leavesExact; rw [liveAt0_6 t, after_6]
theorem leaves_7 (c : Dev nD) (t : Fin cfg0.N) : (dats m 0 c).leavesExact 7 t = owns (c : Thread nD τ) (ms0_7 t) fullShare (outAt m c t) := by
  have hN : t.val < 256 := lt_of_lt_of_eq t.isLt (show cfg0.N = 256 from N_0)
  have hc0 := hcond0_0 t
  have hc1 := hcond0_1 t
  have hc2 := hcond0_2 t
  have hc3 := hcond0_3 t
  unfold Dat.leavesExact
  by_cases h0 : t.val % 2 = 0
  · by_cases h2 : t.val / 16 % 8 ≤ 3
    · rw [liveAt0_7_A t (hc0.mpr h0) (fun h => absurd (hc1.mp h) (by omega)) (hc2.mpr h2) (fun h => absurd (hc3.mp h) (by omega)), after_7]
    · rw [liveAt0_7_C t (hc0.mpr h0) (fun h => absurd (hc1.mp h) (by omega)) (fun h => h2 (hc2.mp h)) (hc3.mpr (by omega)), after_7]
  · by_cases h2 : t.val / 16 % 8 ≤ 3
    · rw [liveAt0_7_B t (fun h => h0 (hc0.mp h)) (hc1.mpr (by omega)) (hc2.mpr h2) (fun h => absurd (hc3.mp h) (by omega)), after_7]
    · rw [liveAt0_7_D t (fun h => h0 (hc0.mp h)) (hc1.mpr (by omega)) (fun h => h2 (hc2.mp h)) (hc3.mpr (by omega)), after_7]

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

/-- The body at any point, between the pipeline's invariants. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6]
  rw [show (dats m 0 c).Φ t.succ = (dats m 0 c).Φ t.castSucc from rfl,
    show (dats m 0 c).owesAt () t.succ = (dats m 0 c).owesAt () t.castSucc from rfl]
  rw [show (dats m 0 c).Φ t.castSucc = Pipeline.ΦA spec0 c from rfl, PhiA0_eq]
  rw [leaves_0, leaves_1, leaves_2, leaves_3, leaves_4, leaves_5, leaves_6, leaves_7]
  unfold outAt
  iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (body_at c t _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [HS0]; · iexact HS0
  isplitl [HS1]; · iexact HS1
  isplitl [HS2]; · iexact HS2
  isplitl [HS3]; · iexact HS3
  iintro ⟨H0, H1, H2, H3, H4, H5, H6, H7, HS0, HS1, HS2, HS3⟩
  isplitl [HS0 HS1 HS2 HS3 Hg]
  · isplitl [HS0 HS1 HS2 HS3]
    · isplitl [HS0]
      · iexact HS0
      isplitl [HS1]
      · iexact HS1
      isplitl [HS2]
      · iexact HS2
      iexact HS3
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem body_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, body_row]
  exact triple_restated (sound_body m c t) rfl .rfl fun _ => .rfl

/-! ## The run and the frame -/

set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

/-- The frame claim: the launch terminates with the arguments as they were and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (frame_of m ρ (dats m) (A_eq m) (run_main m ρ)) ((θ_run defs _ _).mono (fun _ h => h.2) (run_main_quiescent m ρ))

/-- What point `t` writes back to the result's array. -/
theorem flushed_out (c : Dev nD) (t : Fin cfg0.N) :
    (dats m 0 c).flushed 7 t = (cfg0.win 7).cut (grid0.coords t) (outAt m c t) := by
  show (cfg0.win 7).cut (grid0.coords t) ((dats m 0 c).after 7 t) = _
  rw [after_7]

/-- The run with the result's array named and the arguments unchanged. -/
theorem run_blocks : θ_run defs (onTc (τ := τ) (main (F := F))) ⟨m, fun _ => 0, ρ⟩ fun r => ∀ c : Dev nD,
      r.2.mem ((c : Thread nD τ).loc main_v0) = (dats m 0 c).arrAt 7 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1 7,
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      ((h c).1 5).trans (((dats m 0 c).arrAt_in 5 rfl _).trans ((A_eq m c 5).trans (V_main_arg5 m c))),
      ((h c).1 6).trans (((dats m 0 c).arrAt_in 6 rfl _).trans ((A_eq m c 6).trans (V_main_arg6 m c)))⟩)
    (run_main m ρ)

end Cert.KernelIdeal.Value

end
-- ==== Proof.Online.lean ====
/- One column of a softmax taken block by block with a running maximum, over the extended reals. Scores are reals or
   −∞; a score `e` weighs `2 ^ e`, and −∞ weighs nothing. The running column keeps the maximum `μ` so far and sums
   scaled by `2 ^ (-μ)`; a quotient of two of them is free of the scale. -/
module

public import Idealize.ShloMosaic.PureOps.Ideal

@[expose] public section

noncomputable section

namespace Cert.Online

open Idealize.ShloMosaic

/-- A score: a real number or −∞. -/
def Score (e : EReal) : Prop := e = ⊥ ∨ ∃ x : ℝ, e = (x : EReal)

/-- What a score weighs. -/
def weight (e : EReal) : ℝ := if e = ⊥ then 0 else Real.rpow 2 e.toReal

theorem weight_bot : weight ⊥ = 0 := if_pos rfl

theorem weight_coe (x : ℝ) : weight (x : EReal) = Real.rpow 2 x := by
  unfold weight; rw [if_neg (EReal.coe_ne_bot x), EReal.toReal_coe]

/-- A weight taken from the maximum `μ` is the weight scaled by `2 ^ (-μ)`. -/
theorem exp2_sub {e : EReal} (h : Score e) (μ : ℝ) : Ideal.exp2 (e - (μ : EReal)) = ((Real.rpow 2 (-μ) * weight e : ℝ) : EReal) := by
  rcases h with rfl | ⟨x, rfl⟩
  · rw [weight_bot, mul_zero, EReal.bot_sub]; rfl
  · rw [weight_coe, ← EReal.coe_sub, Ideal.exp2_coe]
    congr 1
    show (2 : ℝ) ^ (x - μ) = (2 : ℝ) ^ (-μ) * (2 : ℝ) ^ x
    rw [← Real.rpow_add (by norm_num)]; congr 1; ring

theorem Score.max {a b : EReal} (ha : Score a) (hb : Score b) : Score (max a b) := by
  rcases le_total a b with h | h
  · rw [max_eq_right h]; exact hb
  · rw [max_eq_left h]; exact ha

theorem Score.fold {ι : Type} (s : Finset ι) {f : ι → EReal} (hf : ∀ k, Score (f k)) : Score (s.fold Max.max ⊥ f) := by
  classical
  induction s using Finset.induction_on with
  | empty => exact Or.inl rfl
  | insert a s ha ih => rw [Finset.fold_insert ha]; exact (hf a).max ih

theorem le_fold {ι : Type} (s : Finset ι) (f : ι → EReal) {k : ι} (hk : k ∈ s) : f k ≤ s.fold Max.max ⊥ f :=
  Finset.le_fold_max _ |>.2 (Or.inr ⟨k, hk, le_rfl⟩)

theorem Score.real {e : EReal} (h : Score e) (hb : e ≠ ⊥) : ∃ x : ℝ, e = (x : EReal) := h.resolve_left hb

/-- The greatest of some scores and an earlier one is real as soon as one of the scores is. -/
theorem new_max {n : ℕ} {m : EReal} {s : Fin n → EReal} (hm : Score m) (hs : ∀ k, Score (s k)) (k : Fin n) (hk : s k ≠ ⊥) :
    ∃ μ : ℝ, Max.max m (Finset.univ.fold Max.max ⊥ s) = (μ : EReal) := by
  refine (hm.max (Score.fold _ hs)).real fun h => hk ?_
  have h1 := (le_fold Finset.univ s (Finset.mem_univ k)).trans (le_max_right m _)
  rw [h] at h1
  exact le_bot_iff.1 h1

/-- A sum of reals is a real. -/
theorem coe_sum {ι : Type} (s : Finset ι) (f : ι → ℝ) : ∑ k ∈ s, (f k : EReal) = ((∑ k ∈ s, f k : ℝ) : EReal) := by
  classical
  induction s using Finset.induction_on with
  | empty => simp
  | insert a s ha ih => rw [Finset.sum_insert ha, Finset.sum_insert ha, ih, EReal.coe_add]

/-- The running column: nothing yet, or a real maximum and scaled sums. -/
def Run {ι : Type} (m : EReal) (a : ι → EReal) (acc : ι → ℝ) : Prop :=
  (m = ⊥ ∧ ∀ r, a r = 0 ∧ acc r = 0) ∨ ∃ μ : ℝ, m = (μ : EReal) ∧ ∀ r, a r = ((Real.rpow 2 (-μ) * acc r : ℝ) : EReal)

/-- The running column after a block, and that it has a real maximum. -/
theorem step_real {ι : Type} {n : ℕ} {m : EReal} {a : ι → EReal} {acc : ι → ℝ} (h : Run m a acc) {s : Fin n → EReal}
    (hs : ∀ k, Score (s k)) (k0 : Fin n) (hk : s k0 ≠ ⊥) {v : ι → Fin n → EReal} {V : ι → Fin n → ℝ} (hv : ∀ r k, v r k = (V r k : EReal)) :
    ∃ μ : ℝ, Max.max m (Finset.univ.fold Max.max ⊥ s) = (μ : EReal) ∧ ∀ r,
      a r * Ideal.exp2 (m - Max.max m (Finset.univ.fold Max.max ⊥ s))
        + ∑ k, v r k * Ideal.exp2 (s k - Max.max m (Finset.univ.fold Max.max ⊥ s))
      = ((Real.rpow 2 (-μ) * (acc r + ∑ k, V r k * weight (s k)) : ℝ) : EReal) := by
  have hm : Score m := h.elim (fun h => Or.inl h.1) fun ⟨μ, h, _⟩ => Or.inr ⟨μ, h⟩
  obtain ⟨μ, hμ⟩ := new_max hm hs k0 hk
  refine ⟨μ, hμ, fun r => ?_⟩
  rw [hμ, exp2_sub hm]
  have e1 : ∀ k, v r k * Ideal.exp2 (s k - (μ : EReal)) = ((V r k * (Real.rpow 2 (-μ) * weight (s k)) : ℝ) : EReal) :=
    fun k => by rw [exp2_sub (hs k), hv, ← EReal.coe_mul]
  have e2 : a r * ((Real.rpow 2 (-μ) * weight m : ℝ) : EReal) = ((Real.rpow 2 (-μ) * acc r : ℝ) : EReal) := by
    rcases h with ⟨rfl, h⟩ | ⟨ν, rfl, h⟩
    · rw [(h r).1, (h r).2, mul_zero, zero_mul]; rfl
    · rw [h r, weight_coe, ← EReal.coe_mul]
      congr 1
      have : Real.rpow 2 (-ν) * Real.rpow 2 ν = 1 := by
        show (2 : ℝ) ^ (-ν) * (2 : ℝ) ^ ν = 1
        rw [← Real.rpow_add (by norm_num), neg_add_cancel, Real.rpow_zero]
      calc _ = Real.rpow 2 (-μ) * acc r * (Real.rpow 2 (-ν) * Real.rpow 2 ν) := by ring
        _ = _ := by rw [this, mul_one]
  rw [Finset.sum_congr rfl fun k _ => e1 k, e2, coe_sum, ← EReal.coe_add]
  congr 1
  rw [mul_add, Finset.mul_sum]
  congr 1
  exact Finset.sum_congr rfl fun k _ => by ring

theorem step {ι : Type} {n : ℕ} {m : EReal} {a : ι → EReal} {acc : ι → ℝ} (h : Run m a acc) {s : Fin n → EReal}
    (hs : ∀ k, Score (s k)) (k0 : Fin n) (hk : s k0 ≠ ⊥) {v : ι → Fin n → EReal} {V : ι → Fin n → ℝ} (hv : ∀ r k, v r k = (V r k : EReal)) :
    Run (Max.max m (Finset.univ.fold Max.max ⊥ s))
      (fun r => a r * Ideal.exp2 (m - Max.max m (Finset.univ.fold Max.max ⊥ s))
        + ∑ k, v r k * Ideal.exp2 (s k - Max.max m (Finset.univ.fold Max.max ⊥ s)))
      fun r => acc r + ∑ k, V r k * weight (s k) :=
  Or.inr (step_real h hs k0 hk hv)

/-- A quotient of reals. -/
theorem div_real (x : ℝ) {y : ℝ} (h : y ≠ 0) : Ideal.div (x : EReal) (y : EReal) = ((x / y : ℝ) : EReal) := by
  rw [Ideal.div_coe h, ← EReal.coe_mul]; congr 1; ring

/-- Two scaled sums' quotient. -/
theorem div_scaled (μ x : ℝ) {y : ℝ} (h : y ≠ 0) :
    Ideal.div ((Real.rpow 2 (-μ) * x : ℝ) : EReal) ((Real.rpow 2 (-μ) * y : ℝ) : EReal) = ((x / y : ℝ) : EReal) := by
  have h2 : Real.rpow 2 (-μ) ≠ 0 := (Real.rpow_pos_of_pos (by norm_num) _).ne'
  rw [div_real _ (mul_ne_zero h2 h)]
  congr 1
  exact mul_div_mul_left _ _ h2

/-- Blocks of 512 terms, the last cut after its row `p`, are the whole sum cut after term `512 n + p`. -/
theorem sum_blocks (f : ℕ → ℝ) (n : ℕ) (hn : n < 16) (p : ℕ) (hp : p < 512) :
    ∑ m ∈ Finset.range n, ∑ k : Fin 512, f (512 * m + k) + ∑ k : Fin 512, (if k.val ≤ p then f (512 * n + k) else 0)
      = ∑ j : Fin 8192, if j.val ≤ 512 * n + p then f j else 0 := by
  have hb : ∀ (g : ℕ → ℝ) (N : ℕ), ∑ m ∈ Finset.range N, ∑ k : Fin 512, g (512 * m + k) = ∑ j ∈ Finset.range (512 * N), g j := by
    intro g N
    induction N with
    | zero => simp
    | succ N ih =>
      rw [Finset.sum_range_succ, ih, Nat.mul_succ, Finset.sum_range_add, Finset.sum_range (fun k => g (512 * N + k))]
  set g : ℕ → ℝ := fun j => if j ≤ 512 * n + p then f j else 0 with hg
  have e1 : ∑ m ∈ Finset.range n, ∑ k : Fin 512, f (512 * m + k) = ∑ m ∈ Finset.range n, ∑ k : Fin 512, g (512 * m + k) := by
    refine Finset.sum_congr rfl fun m hm => Finset.sum_congr rfl fun k _ => ?_
    have := Finset.mem_range.1 hm
    rw [hg]; exact (if_pos (by omega)).symm
  have e2 : ∑ k : Fin 512, (if k.val ≤ p then f (512 * n + k) else 0) = ∑ k : Fin 512, g (512 * n + k) := by
    refine Finset.sum_congr rfl fun k _ => ?_
    rw [hg]; simp only [Nat.add_le_add_iff_left]
  rw [e1, e2, ← Finset.sum_range_succ (fun m => ∑ k : Fin 512, g (512 * m + k)), hb, ← Finset.sum_range (fun j => g j)]
  refine Finset.sum_subset (fun j hj => Finset.mem_range.2 ?_) fun j _ hj => if_neg ?_
  · have := Finset.mem_range.1 hj; omega
  · rw [Finset.mem_range] at hj; omega

end Cert.Online

end
-- ==== Proof.Spec.lean ====
/- What the attention computes, over real queries, keys and values: every head's average of the values under the weights
   `2 ^ score`, cut at the query's own position, and the layer's value at an index. -/
module

public import proofs.«01_k».proof.Proof.Online
public import Idealize.ShloMosaic.Lib.Pointwise

@[expose] public section

noncomputable section

namespace Cert.Attn

open Idealize.ShloMosaic

/-- Queries, keys or their biases: sequence, position, lane. -/
abbrev Rows : Shape := ⟨3, ![2, 8192, 1024]⟩
/-- Values: block of positions (16 to a sequence), lane, position in the block. -/
abbrev Cols : Shape := ⟨3, ![32, 1024, 512]⟩

/-- Reals as extended reals. -/
def up {s : Shape} (X : s.Idx → ℝ) : s.Idx → EReal := fun a => (X a : EReal)

variable (Q QB K KB : Rows.Idx → ℝ) (V : Cols.Idx → ℝ)

/-- Head `h`'s score of the key at `j` for the query at `i`, in base 2. -/
def score (b : Fin 2) (h : Fin 16) (i j : Fin 8192) : ℝ :=
  ∑ d : Fin 64, Q (ix3 b i ⟨h.val * 64 + d.val, by omega⟩) * K (ix3 b j ⟨h.val * 64 + d.val, by omega⟩)
    + ∑ d : Fin 64, QB (ix3 b i ⟨h.val * 64 + d.val, by omega⟩) * KB (ix3 b j ⟨h.val * 64 + d.val, by omega⟩)

/-- Its weight: nothing after the query's position. -/
def wt (b : Fin 2) (h : Fin 16) (i j : Fin 8192) : ℝ := if j.val ≤ i.val then Real.rpow 2 (score Q QB K KB b h i j) else 0

/-- The value in lane `e` at position `j`. -/
def val (b : Fin 2) (j : Fin 8192) (e : Fin 1024) : ℝ := V (ix3 ⟨b.val * 16 + j.val / 512, by omega⟩ e ⟨j.val % 512, by omega⟩)

/-- Head `h`'s average of the values in lane `e`, for the query at `i`. -/
def avg (b : Fin 2) (h : Fin 16) (i : Fin 8192) (e : Fin 1024) : ℝ :=
  (∑ j, val V b j e * wt Q QB K KB b h i j) / ∑ j, wt Q QB K KB b h i j

/-- A differential head's two averages, the second `l` times. -/
def sub (l : ℝ) (b : Fin 2) (i : Fin 8192) (d : Fin 4) (e : Fin 128) : ℝ :=
  avg Q QB K KB V b ⟨8 + d.val * 2, by omega⟩ i ⟨512 + (d.val * 128 + e.val), by omega⟩
    - l * avg Q QB K KB V b ⟨8 + (d.val * 2 + 1), by omega⟩ i ⟨512 + (d.val * 128 + e.val), by omega⟩

/-- A row over its root mean square, times the gain and the layer's factor, at lane `e`. -/
def norm (r : Fin 128 → ℝ) (g : (⟨2, ![1, 128]⟩ : Shape).Idx → EReal) (e : Fin 128) : EReal :=
  (r e : EReal) * Ideal.rsqrt (Ideal.div (∑ x, (r x : EReal) * (r x : EReal)) (Ideal.ofBits .f32 0x43000000#32) + Ideal.ofBits .f32 0x3727C5AC#32)
    * g (ix2 0 e) * Ideal.ofBits .f32 0x3F4CCCCD#32

/-- The layer's value at sequence `b`, position `i`, lane `e`. -/
def out (l : ℝ) (g : (⟨2, ![1, 128]⟩ : Shape).Idx → EReal) (b : Fin 2) (i : Fin 8192) (e : Fin 1024) : EReal :=
  if h : e.val < 512 then (avg Q QB K KB V b ⟨e.val / 64, by omega⟩ i e : EReal)
  else norm (sub Q QB K KB V l b i ⟨(e.val - 512) / 128, by omega⟩) g ⟨(e.val - 512) % 128, by omega⟩

theorem rpow_two_pos (x : ℝ) : 0 < Real.rpow 2 x := Real.rpow_pos_of_pos (by norm_num) x

theorem wt_nonneg (b : Fin 2) (h : Fin 16) (i j : Fin 8192) : 0 ≤ wt Q QB K KB b h i j := by
  unfold wt; split
  · exact (rpow_two_pos _).le
  · exact le_rfl

/-- A query sees its own position, so its weights do not sum to nothing. -/
theorem wt_sum_pos (b : Fin 2) (h : Fin 16) (i : Fin 8192) : 0 < ∑ j, wt Q QB K KB b h i j := by
  refine Finset.sum_pos' (fun j _ => wt_nonneg Q QB K KB b h i j) ⟨i, Finset.mem_univ i, ?_⟩
  unfold wt; rw [if_pos le_rfl]; exact rpow_two_pos _

end Cert.Attn

end
-- ==== Proof.Read.lean ====
/- The kernel's payloads over the extended reals, read at one index. -/
module

public import proofs.«01_k».proof.Proof.Steps
public import proofs.«01_k».proof.Proof.Spec
public import Idealize.ShloMosaic.Lib.WordCmp

@[expose] public section

set_option maxRecDepth 16384

noncomputable section

namespace Cert.KernelIdeal.Value

open Cert.KernelIdeal Cert.KernelIdeal.Gen Idealize.ShloMosaic Idealize.ShloMosaic.TcCoe Idealize.SL.Sem

theorem negInf : Ideal.ofBits .f32 0xFF800000#32 = ⊥ := by simp [Ideal.ofBits, Ideal.ieee]

/-- A choice by a printed comparison of two small numbers. -/
theorem select_le {α : Type} (a b : ℕ) (ha : a < 2 ^ 31) (hb : b < 2 ^ 31) (x y : α) :
    Scalar.select (IntOp.cmpi .sle (BitVec.ofNat 32 a) (BitVec.ofNat 32 b)) x y = if a ≤ b then x else y := by
  rw [WordCmp.cmpi_sle_ofNat ha hb]
  by_cases h : a ≤ b <;> simp [Scalar.select, h]

theorem select_lt {α : Type} (a b : ℕ) (ha : a < 2 ^ 31) (hb : b < 2 ^ 31) (x y : α) :
    Scalar.select (IntOp.cmpi .slt (BitVec.ofNat 32 a) (BitVec.ofNat 32 b)) x y = if a < b then x else y := by
  rw [WordCmp.cmpi_slt_ofNat ha hb]
  by_cases h : a < b <;> simp [Scalar.select, h]

theorem and_511 : ∀ c : Fin 1024, IntOp.andi (BitVec.ofNat 32 c.val) 511#32 = BitVec.ofNat 32 (c.val % 512) := by decide +kernel
theorem and_127 : ∀ c : Fin 256, IntOp.andi (BitVec.ofNat 32 c.val) 127#32 = BitVec.ofNat 32 (c.val % 128) := by decide +kernel

theorem scores_apply (q2 : FVec Ideal S1024x256 .bf16) (a b : Vec Ideal S1x512x128 .bf16) (r : Fin 512) (c : Fin 1024) :
    k0_pay14 (F := Ideal) q2 a b (ix2 r c)
      = ∑ x : Fin 128, a (ix3 (0 : Fin 1) r x) * q2 (ix2 c ⟨x.val, by omega⟩) + ∑ x : Fin 128, b (ix3 (0 : Fin 1) r x) * q2 (ix2 c ⟨128 + x.val, by omega⟩) := by
  unfold k0_pay14
  pointwise

theorem max_apply (s : Vec Ideal S512x1024 .f32) (m : Vec Ideal S1x1024 .f32) (c : Fin 1024) :
    k0_pay15 (F := Ideal) s m (ix2 (0 : Fin 1) c) = max (m (ix2 (0 : Fin 1) c)) (Finset.univ.fold max ⊥ fun k => s (ix2 k c)) := by
  unfold k0_pay15
  pointwise
  rw [negInf]

theorem acc_apply (one : FVec Ideal S16x512 .bf16) (v : Vec Ideal S1x128x512 .bf16) (s : Vec Ideal S512x1024 .f32) (m : Vec Ideal S1x1024 .f32) (a : Vec Ideal S144x1024 .f32) (r : Fin 144) (c : Fin 1024) :
    k0_pay16 (F := Ideal) one v s m a (ix2 r c)
      = a (ix2 r c) * Ideal.exp2 (m (ix2 (0 : Fin 1) c) - k0_pay15 s m (ix2 (0 : Fin 1) c))
        + ∑ x : Fin 512, (if h : r.val < 128 then v (ix3 (0 : Fin 1) ⟨r.val, h⟩ x) else one (ix2 ⟨r.val - 128, by omega⟩ x))
          * Ideal.exp2 (s (ix2 x c) - k0_pay15 s m (ix2 (0 : Fin 1) c)) := by
  unfold k0_pay16
  pointwise
  rfl

theorem mask_apply (s : Vec Ideal S512x1024 .f32) (r : Fin 512) (c : Fin 1024) :
    k0_pay1 (F := Ideal) s (ix2 r c) = if r.val ≤ c.val % 512 then s (ix2 r c) else ⊥ := by
  unfold k0_pay1
  pointwise
  rw [and_511, select_le _ _ (by omega) (by omega), negInf]

/-- The queries' lanes for one half of the columns, the other half's zero: the low 128 lanes. -/
theorem q_low (q qb : Vec Ideal S1x512x128 .bf16) (c : Fin 1024) (x : Fin 128) :
    k0_pay37 (F := Ideal) q qb (ix2 c ⟨x.val, by omega⟩)
      = if x.val / 64 = c.val / 512 then q (ix3 (0 : Fin 1) ⟨c.val % 512, by omega⟩ x) else 0 := by
  unfold k0_pay37
  pointwise
  rw [and_127 ⟨x.val, by omega⟩]
  simp only [select_lt _ 64 (show x.val % 128 < 2 ^ 31 by omega) (by omega)]
  have h1 : x.val % 128 = x.val := by omega
  rw [h1]
  by_cases hc : c.val < 512 <;> by_cases hx : x.val < 64
  · rw [dif_pos hc, if_pos hx]
    exact (congrArg (fun z : Fin 512 => q (ix3 (0 : Fin 1) z x)) (Fin.ext (show c.val = c.val % 512 by omega))).trans
      (if_pos (show x.val / 64 = c.val / 512 by omega)).symm
  · rw [dif_pos hc, if_neg hx]
    exact (if_neg (show ¬ x.val / 64 = c.val / 512 by omega)).symm
  · rw [dif_neg hc, if_pos hx]
    exact (if_neg (show ¬ x.val / 64 = c.val / 512 by omega)).symm
  · rw [dif_neg hc, if_neg hx]
    exact (congrArg (fun z : Fin 512 => q (ix3 (0 : Fin 1) z x)) (Fin.ext (show c.val - 512 = c.val % 512 by omega))).trans
      (if_pos (show x.val / 64 = c.val / 512 by omega)).symm

/-- The same of the biases' lanes. -/
theorem q_high (q qb : Vec Ideal S1x512x128 .bf16) (c : Fin 1024) (x : Fin 128) :
    k0_pay37 (F := Ideal) q qb (ix2 c ⟨128 + x.val, by omega⟩)
      = if x.val / 64 = c.val / 512 then qb (ix3 (0 : Fin 1) ⟨c.val % 512, by omega⟩ x) else 0 := by
  unfold k0_pay37
  pointwise
  rw [and_127 ⟨128 + x.val, by omega⟩]
  simp only [select_lt _ 64 (show (128 + x.val) % 128 < 2 ^ 31 by omega) (by omega)]
  have h1 : (128 + x.val) % 128 = x.val := by omega
  rw [h1]
  by_cases hc : c.val < 512 <;> by_cases hx : x.val < 64
  · rw [dif_pos hc, if_pos hx]
    exact (congrArg (fun z : Fin 512 => qb (ix3 (0 : Fin 1) z x)) (Fin.ext (show c.val = c.val % 512 by omega))).trans
      (if_pos (show x.val / 64 = c.val / 512 by omega)).symm
  · rw [dif_pos hc, if_neg hx]
    exact (if_neg (show ¬ x.val / 64 = c.val / 512 by omega)).symm
  · rw [dif_neg hc, if_pos hx]
    exact (if_neg (show ¬ x.val / 64 = c.val / 512 by omega)).symm
  · rw [dif_neg hc, if_neg hx]
    exact (congrArg (fun z : Fin 512 => qb (ix3 (0 : Fin 1) z x)) (Fin.ext (show c.val - 512 = c.val % 512 by omega))).trans
      (if_pos (show x.val / 64 = c.val / 512 by omega)).symm

theorem one_apply (r : Fin 16) (c : Fin 512) : k0_pay38 (F := Ideal) (ix2 r c) = ((1 : ℝ) : EReal) := by
  show Ideal.ofBits .bf16 0x3F80#16 = _
  simp [Ideal.ofBits, Ideal.ieee, -EReal.coe_mul]; norm_num

theorem m0_apply (c : Fin 1024) : k0_pay39 (F := Ideal) (ix2 (0 : Fin 1) c) = ⊥ := by
  unfold k0_pay39; pointwise; exact negInf

theorem a0_apply (r : Fin 144) (c : Fin 1024) : k0_pay40 (F := Ideal) (ix2 r c) = 0 := by
  unfold k0_pay40; pointwise

theorem fox_apply (a : Vec Ideal S144x1024 .f32) (r : Fin 512) (c : Fin 128) :
    k0_pay12 (F := Ideal) a (ix3 (0 : Fin 1) r c)
      = if c.val < 64 then Ideal.div (a (ix2 ⟨c.val, by omega⟩ ⟨r.val, by omega⟩)) (a (ix2 (128 : Fin 144) ⟨r.val, by omega⟩))
        else Ideal.div (a (ix2 ⟨c.val, by omega⟩ ⟨512 + r.val, by omega⟩)) (a (ix2 (128 : Fin 144) ⟨512 + r.val, by omega⟩)) := by
  unfold k0_pay12
  pointwise [k0_pay10, k0_pay11]
  exact select_lt _ 64 (by omega) (by omega) _ _

/-- The two averages, the second `l` times, for the query `r` at lane `x`. -/
def two (a : Vec Ideal S144x1024 .f32) (l : EReal) (r : Fin 512) (x : Fin 128) : EReal :=
  Ideal.div (a (ix2 ⟨x.val, by omega⟩ ⟨r.val, by omega⟩)) (a (ix2 (128 : Fin 144) ⟨r.val, by omega⟩))
    - l * Ideal.div (a (ix2 ⟨x.val, by omega⟩ ⟨512 + r.val, by omega⟩)) (a (ix2 (128 : Fin 144) ⟨512 + r.val, by omega⟩))

theorem diff_apply (a : Vec Ideal S144x1024 .f32) (l : Elt Ideal .f32) (g : Vec Ideal S1x128 .f32) (r : Fin 512) (c : Fin 128) :
    k0_pay13 (F := Ideal) a l g (ix3 (0 : Fin 1) r c)
      = two a l r c * Ideal.rsqrt (Ideal.div (∑ x, two a l r x * two a l r x) (Ideal.ofBits .f32 0x43000000#32) + Ideal.ofBits .f32 0x3727C5AC#32)
          * g (ix2 (0 : Fin 1) c) * Ideal.ofBits .f32 0x3F4CCCCD#32 := by
  unfold k0_pay13
  pointwise [k0_pay10, k0_pay11]
  rfl

/-- A sum over 128 lanes that keeps one half of them is the sum over that half. -/
theorem sum_half (f : Fin 128 → EReal) (g : Fin 128 → EReal) (h : ℕ) (hh : h < 2) :
    ∑ x : Fin 128, f x * (if x.val / 64 = h then g x else 0)
      = ∑ d : Fin 64, f ⟨h * 64 + d.val, by omega⟩ * g ⟨h * 64 + d.val, by omega⟩ := by
  have e := Fin.sum_univ_add (a := 64) (b := 64) fun x : Fin (64 + 64) => f x * (if x.val / 64 = h then g x else 0)
  refine e.trans ?_
  have z : ∀ (x : Fin 128), x.val / 64 ≠ h → f x * (if x.val / 64 = h then g x else 0) = 0 := fun x hx => by rw [if_neg hx, mul_zero]
  have p : ∀ (x : Fin 128) (d : Fin 64), x.val = h * 64 + d.val → f x * (if x.val / 64 = h then g x else 0)
      = f ⟨h * 64 + d.val, by omega⟩ * g ⟨h * 64 + d.val, by omega⟩ := fun x d hx => by
    rw [if_pos (by omega)]
    have : x = ⟨h * 64 + d.val, by omega⟩ := Fin.ext hx
    rw [this]
  obtain rfl | rfl : h = 0 ∨ h = 1 := by omega
  · rw [Finset.sum_congr rfl fun (d : Fin 64) _ => p (Fin.castAdd 64 d) d (by simp),
      Finset.sum_eq_zero fun (d : Fin 64) _ => z (Fin.natAdd 64 d) (by simp only [Fin.val_natAdd]; omega), add_zero]
  · rw [Finset.sum_congr rfl fun (d : Fin 64) _ => p (Fin.natAdd 64 d) d (by simp only [Fin.val_natAdd]),
      Finset.sum_eq_zero fun (d : Fin 64) _ => z (Fin.castAdd 64 d) (by simp only [Fin.val_castAdd]; omega), zero_add]

end Cert.KernelIdeal.Value

end
-- ==== Proof.State.lean ====
/- The kernel's running state over real queries, keys and values, and what one grid step writes. -/
module

public import proofs.«01_k».proof.Proof.Read

@[expose] public section

set_option maxRecDepth 16384

noncomputable section

namespace Cert.KernelIdeal.Value

open Cert.KernelIdeal Cert.KernelIdeal.Gen Idealize.ShloMosaic Idealize.ShloMosaic.TcCoe Idealize.SL.Sem

variable {Q QB K KB : Attn.Rows.Idx → ℝ} {V : Attn.Cols.Idx → ℝ}

/-- The staged query block `n` of sequence `b`, lanes of pair `u`. -/
def IsQ (Q : Attn.Rows.Idx → ℝ) (b : Fin 2) (u : Fin 8) (n : Fin 16) (x : Vec Ideal S1x512x128 .bf16) : Prop :=
  ∀ (r : Fin 512) (d : Fin 128), x (ix3 (0 : Fin 1) r d) = (Q (ix3 b ⟨512 * n.val + r.val, by omega⟩ ⟨128 * u.val + d.val, by omega⟩) : EReal)

/-- The staged keys of sequence `b`, lanes of pair `u`. -/
def IsK (K : Attn.Rows.Idx → ℝ) (b : Fin 2) (u : Fin 8) (x : Vec Ideal S1x8192x128 .bf16) : Prop :=
  ∀ (j : Fin 8192) (d : Fin 128), x (ix3 (0 : Fin 1) j d) = (K (ix3 b j ⟨128 * u.val + d.val, by omega⟩) : EReal)

/-- The staged values of sequence `b`, lanes of pair `u`. -/
def IsV (V : Attn.Cols.Idx → ℝ) (b : Fin 2) (u : Fin 8) (x : Vec Ideal S16x128x512 .bf16) : Prop :=
  ∀ (a : Fin 16) (e : Fin 128) (k : Fin 512), x (ix3 a e k) = (V (ix3 ⟨b.val * 16 + a.val, by omega⟩ ⟨128 * u.val + e.val, by omega⟩ k) : EReal)

/-- The head of column `c` of a pair's scores. -/
def headOf (u : Fin 8) (c : Fin 1024) : Fin 16 := ⟨2 * u.val + c.val / 512, by omega⟩
/-- The query's position at column `c`. -/
def posOf (n : Fin 16) (c : Fin 1024) : Fin 8192 := ⟨512 * n.val + c.val % 512, by omega⟩
/-- The key's position at row `k` of block `m`. -/
def keyOf (m : ℕ) (hm : m < 16) (k : Fin 512) : Fin 8192 := ⟨512 * m + k.val, by omega⟩

section Block

variable {b : Fin 2} {u : Fin 8} {n : Fin 16} {x1 x2 : Vec Ideal S1x512x128 .bf16} {x3 x4 : Vec Ideal S1x8192x128 .bf16} {x5 : Vec Ideal S16x128x512 .bf16}

theorem half_real (h1 : IsQ Q b u n x1) (h3 : IsK K b u x3) (m : ℕ) (hm : m < 16) (k : Fin 512) (c : Fin 1024) :
    ∑ x : Fin 128, rowsAt x3 m (ix3 (0 : Fin 1) k x) * (if x.val / 64 = c.val / 512 then x1 (ix3 (0 : Fin 1) ⟨c.val % 512, by omega⟩ x) else 0)
      = ((∑ d : Fin 64, Q (ix3 b (posOf n c) ⟨(headOf u c).val * 64 + d.val, by omega⟩)
          * K (ix3 b (keyOf m hm k) ⟨(headOf u c).val * 64 + d.val, by omega⟩) : ℝ) : EReal) := by
  rw [sum_half (fun x => rowsAt x3 m (ix3 (0 : Fin 1) k x)) (fun x => x1 (ix3 (0 : Fin 1) ⟨c.val % 512, by omega⟩ x)) _ (by omega), ← Online.coe_sum]
  refine Finset.sum_congr rfl fun d _ => ?_
  have e1 : rowsAt x3 m (ix3 (0 : Fin 1) k ⟨c.val / 512 * 64 + d.val, by omega⟩)
      = (K (ix3 b (keyOf m hm k) ⟨(headOf u c).val * 64 + d.val, by omega⟩) : EReal) := by
    have ek : (⟨(512 * m + k.val) % 8192, Nat.mod_lt _ (by decide)⟩ : Fin 8192) = keyOf m hm k :=
      Fin.ext (show (512 * m + k.val) % 8192 = 512 * m + k.val by omega)
    have e0 : rowsAt x3 m (ix3 (0 : Fin 1) k ⟨c.val / 512 * 64 + d.val, by omega⟩)
        = x3 (ix3 (0 : Fin 1) ⟨(512 * m + k.val) % 8192, Nat.mod_lt _ (by decide)⟩ ⟨c.val / 512 * 64 + d.val, by omega⟩) := rfl
    rw [e0, ek, h3]
    exact congrArg (fun z : Fin 1024 => ((K (ix3 b (keyOf m hm k) z) : ℝ) : EReal))
      (Fin.ext (show 128 * u.val + (c.val / 512 * 64 + d.val) = (2 * u.val + c.val / 512) * 64 + d.val by omega))
  have e2 : x1 (ix3 (0 : Fin 1) ⟨c.val % 512, by omega⟩ ⟨c.val / 512 * 64 + d.val, by omega⟩)
      = (Q (ix3 b (posOf n c) ⟨(headOf u c).val * 64 + d.val, by omega⟩) : EReal) := by
    rw [h1]
    exact congrArg (fun z : Fin 1024 => ((Q (ix3 b (posOf n c) z) : ℝ) : EReal))
      (Fin.ext (show 128 * u.val + (c.val / 512 * 64 + d.val) = (2 * u.val + c.val / 512) * 64 + d.val by omega))
  simp only [e1, e2]
  rw [← EReal.coe_mul, mul_comm]

/-- The scores of a block of keys. -/
theorem scores_real (h1 : IsQ Q b u n x1) (h2 : IsQ QB b u n x2) (h3 : IsK K b u x3) (h4 : IsK KB b u x4) (m : ℕ) (hm : m < 16) (k : Fin 512) (c : Fin 1024) :
    scoresAt (k0_pay37 x1 x2) x3 x4 m (ix2 k c) = (Attn.score Q QB K KB b (headOf u c) (posOf n c) (keyOf m hm k) : EReal) := by
  unfold scoresAt
  rw [scores_apply]
  simp only [q_low, q_high]
  rw [half_real h1 h3 m hm, half_real h2 h4 m hm, ← EReal.coe_add]
  rfl

/-- Row `r` of a block of values with the rows of ones below it. -/
def rowOf (V : Attn.Cols.Idx → ℝ) (b : Fin 2) (u : Fin 8) (m : ℕ) (r : Fin 144) (k : Fin 512) : ℝ :=
  if h : r.val < 128 then V (ix3 ⟨b.val * 16 + m % 16, by omega⟩ ⟨128 * u.val + r.val, by omega⟩ k) else 1

theorem row_real (h5 : IsV V b u x5) (m : ℕ) (r : Fin 144) (k : Fin 512) :
    (if h : r.val < 128 then valsAt x5 m (ix3 (0 : Fin 1) ⟨r.val, h⟩ k) else k0_pay38 (F := Ideal) (ix2 ⟨r.val - 128, by omega⟩ k))
      = (rowOf V b u m r k : EReal) := by
  unfold rowOf
  by_cases h : r.val < 128
  · rw [dif_pos h, dif_pos h]; exact h5 _ _ _
  · rw [dif_neg h, dif_neg h]; exact one_apply _ _

/-- One step of the state, at a column. -/
theorem step_apply (v : Vec Ideal S1x128x512 .bf16) (s : Vec Ideal S512x1024 .f32) (st : St Ideal) (r : Fin 144) (c : Fin 1024) :
    (step k0_pay38 v s st).1 (ix2 r c) = st.1 (ix2 r c) * Ideal.exp2 (st.2 (ix2 (0 : Fin 1) c) - max (st.2 (ix2 (0 : Fin 1) c)) (Finset.univ.fold max ⊥ fun k => s (ix2 k c)))
      + ∑ k : Fin 512, (if h : r.val < 128 then v (ix3 (0 : Fin 1) ⟨r.val, h⟩ k) else k0_pay38 (F := Ideal) (ix2 ⟨r.val - 128, by omega⟩ k))
        * Ideal.exp2 (s (ix2 k c) - max (st.2 (ix2 (0 : Fin 1) c)) (Finset.univ.fold max ⊥ fun k => s (ix2 k c))) := by
  show k0_pay16 (F := Ideal) k0_pay38 v s st.2 st.1 (ix2 r c) = _
  rw [acc_apply, max_apply]

/-- The state after `N` whole blocks, at a column: a running maximum and scaled sums. -/
theorem state_real (h1 : IsQ Q b u n x1) (h2 : IsQ QB b u n x2) (h3 : IsK K b u x3) (h4 : IsK KB b u x4) (h5 : IsV V b u x5) (c : Fin 1024) (N : ℕ) (hN : N ≤ 16) :
    Online.Run ((stateAt k0_pay38 (k0_pay37 x1 x2) x3 x4 x5 (k0_pay40 (F := Ideal), k0_pay39 (F := Ideal)) N).2 (ix2 (0 : Fin 1) c))
      (fun r : Fin 144 => (stateAt k0_pay38 (k0_pay37 x1 x2) x3 x4 x5 (k0_pay40 (F := Ideal), k0_pay39 (F := Ideal)) N).1 (ix2 r c))
      fun r => ∑ m ∈ Finset.range N, ∑ k : Fin 512, rowOf V b u m r k * Online.weight (scoresAt (F := Ideal) (k0_pay37 x1 x2) x3 x4 m (ix2 k c)) := by
  induction N with
  | zero => exact Or.inl ⟨m0_apply c, fun r => ⟨a0_apply r c, by simp⟩⟩
  | succ N ih =>
    have hs : ∀ k : Fin 512, scoresAt (F := Ideal) (k0_pay37 x1 x2) x3 x4 N (ix2 k c) = _ := fun k => scores_real h1 h2 h3 h4 N (by omega) k c
    have key := Online.step (ih (by omega)) (s := fun k => scoresAt (F := Ideal) (k0_pay37 x1 x2) x3 x4 N (ix2 k c)) (fun k => Or.inr ⟨_, hs k⟩) 0
      (by show scoresAt (F := Ideal) (k0_pay37 x1 x2) x3 x4 N (ix2 0 c) ≠ ⊥; rw [hs]; exact EReal.coe_ne_bot _) (fun r k => row_real h5 N r k)
    have e1 : (stateAt (F := Ideal) k0_pay38 (k0_pay37 x1 x2) x3 x4 x5 (k0_pay40 (F := Ideal), k0_pay39 (F := Ideal)) (N + 1)).2 (ix2 (0 : Fin 1) c) = _ := max_apply _ _ c
    have e2 : (fun r : Fin 144 => (stateAt (F := Ideal) k0_pay38 (k0_pay37 x1 x2) x3 x4 x5 (k0_pay40 (F := Ideal), k0_pay39 (F := Ideal)) (N + 1)).1 (ix2 r c)) = _ := funext fun r => step_apply _ _ _ r c
    rw [e1, e2]
    simp only [Finset.sum_range_succ]
    exact key

/-- Term `j` of a row's sum. -/
def term (Q QB K KB : Attn.Rows.Idx → ℝ) (b : Fin 2) (h : Fin 16) (i : Fin 8192) (w : Fin 8192 → ℝ) (j : ℕ) : ℝ :=
  if hj : j < 8192 then w ⟨j, hj⟩ * Real.rpow 2 (Attn.score Q QB K KB b h i ⟨j, hj⟩) else 0

/-- What row `r` multiplies the weight at position `j` by. -/
def rowAt (V : Attn.Cols.Idx → ℝ) (b : Fin 2) (u : Fin 8) (r : Fin 144) (j : Fin 8192) : ℝ := rowOf V b u (j.val / 512) r ⟨j.val % 512, by omega⟩

theorem term_key (h : Fin 16) (i : Fin 8192) (m : ℕ) (hm : m < 16) (k : Fin 512) (r : Fin 144) :
    rowOf V b u m r k * Real.rpow 2 (Attn.score Q QB K KB b h i (keyOf m hm k)) = term Q QB K KB b h i (rowAt V b u r) (512 * m + k.val) := by
  unfold term
  rw [dif_pos (show 512 * m + k.val < 8192 by omega)]
  unfold rowAt
  have e1 : (512 * m + k.val) / 512 = m := by omega
  have e2 : (⟨(512 * m + k.val) % 512, by omega⟩ : Fin 512) = k := Fin.ext (by simp only; omega)
  simp only [e1, e2]
  rfl

/-- The last state at a column: one scale, and each row's whole causal sum. -/
theorem last_real (h1 : IsQ Q b u n x1) (h2 : IsQ QB b u n x2) (h3 : IsK K b u x3) (h4 : IsK KB b u x4) (h5 : IsV V b u x5) (c : Fin 1024) :
    ∃ μ : ℝ, ∀ r : Fin 144, (lastAt (F := Ideal) x1 x2 x3 x4 x5 n.val).1 (ix2 r c)
      = ((Real.rpow 2 (-μ) * ∑ j, rowAt V b u r j * Attn.wt Q QB K KB b (headOf u c) (posOf n c) j : ℝ) : EReal) := by
  have hs : ∀ k : Fin 512, k0_pay1 (F := Ideal) (scoresAt (F := Ideal) (k0_pay37 x1 x2) x3 x4 n.val) (ix2 k c)
      = if k.val ≤ c.val % 512 then ((Attn.score Q QB K KB b (headOf u c) (posOf n c) (keyOf n.val n.isLt k) : ℝ) : EReal) else ⊥ := fun k => by
    rw [mask_apply, scores_real h1 h2 h3 h4 n.val n.isLt k c]
  obtain ⟨μ, -, h⟩ := Online.step_real (state_real h1 h2 h3 h4 h5 c n.val (by omega)) (s := fun k => k0_pay1 (F := Ideal) (scoresAt (F := Ideal) (k0_pay37 x1 x2) x3 x4 n.val) (ix2 k c))
    (fun k => by
      show Online.Score (k0_pay1 (F := Ideal) _ (ix2 k c))
      rw [hs]; split
      · exact Or.inr ⟨_, rfl⟩
      · exact Or.inl rfl) 0
    (by
      show k0_pay1 (F := Ideal) _ (ix2 0 c) ≠ ⊥
      rw [hs, if_pos (show (0 : Fin 512).val ≤ c.val % 512 from Nat.zero_le _)]; exact EReal.coe_ne_bot _) (fun r k => row_real h5 n.val r k)
  refine ⟨μ, fun r => ?_⟩
  unfold lastAt
  rw [step_apply]
  refine (h r).trans ?_
  congr 2
  have e1 : ∀ m ∈ Finset.range n.val, ∑ k : Fin 512, rowOf V b u m r k * Online.weight (scoresAt (F := Ideal) (k0_pay37 x1 x2) x3 x4 m (ix2 k c))
      = ∑ k : Fin 512, term Q QB K KB b (headOf u c) (posOf n c) (rowAt V b u r) (512 * m + k.val) := fun m hm =>
    Finset.sum_congr rfl fun k _ => by
      have := Finset.mem_range.1 hm
      rw [scores_real h1 h2 h3 h4 m (by omega) k c, Online.weight_coe, term_key]
  have e2 : ∀ k : Fin 512, rowOf V b u n.val r k * Online.weight (k0_pay1 (F := Ideal) (scoresAt (F := Ideal) (k0_pay37 x1 x2) x3 x4 n.val) (ix2 k c))
      = if k.val ≤ c.val % 512 then term Q QB K KB b (headOf u c) (posOf n c) (rowAt V b u r) (512 * n.val + k.val) else 0 := fun k => by
    rw [hs]
    split
    · rw [Online.weight_coe, term_key]
    · rw [Online.weight_bot, mul_zero]
  rw [Finset.sum_congr rfl e1, Finset.sum_congr rfl fun k _ => e2 k, Online.sum_blocks _ n.val n.isLt _ (by omega)]
  refine Finset.sum_congr rfl fun j _ => ?_
  unfold Attn.wt term
  rw [dif_pos j.isLt]
  show (if j.val ≤ 512 * n.val + c.val % 512 then _ else 0) = _ * (if j.val ≤ 512 * n.val + c.val % 512 then _ else 0)
  split
  · rfl
  · rw [mul_zero]

/-- A column's quotient is the head's average. -/
theorem quot_real (h1 : IsQ Q b u n x1) (h2 : IsQ QB b u n x2) (h3 : IsK K b u x3) (h4 : IsK KB b u x4) (h5 : IsV V b u x5) (c : Fin 1024) (e : Fin 128) :
    Ideal.div ((lastAt (F := Ideal) x1 x2 x3 x4 x5 n.val).1 (ix2 ⟨e.val, by omega⟩ c)) ((lastAt (F := Ideal) x1 x2 x3 x4 x5 n.val).1 (ix2 (128 : Fin 144) c))
      = (Attn.avg Q QB K KB V b (headOf u c) (posOf n c) ⟨128 * u.val + e.val, by omega⟩ : EReal) := by
  obtain ⟨μ, h⟩ := last_real h1 h2 h3 h4 h5 c
  have e128 : ∑ j, rowAt V b u (128 : Fin 144) j * Attn.wt Q QB K KB b (headOf u c) (posOf n c) j = ∑ j, Attn.wt Q QB K KB b (headOf u c) (posOf n c) j :=
    Finset.sum_congr rfl fun j _ => by
      have : rowAt V b u (128 : Fin 144) j = 1 := by
        unfold rowAt rowOf
        exact dif_neg (by decide)
      rw [this, one_mul]
  have er : ∑ j, rowAt V b u ⟨e.val, by omega⟩ j * Attn.wt Q QB K KB b (headOf u c) (posOf n c) j
      = ∑ j, Attn.val V b j ⟨128 * u.val + e.val, by omega⟩ * Attn.wt Q QB K KB b (headOf u c) (posOf n c) j :=
    Finset.sum_congr rfl fun j _ => by
      congr 1
      unfold rowAt rowOf Attn.val
      rw [dif_pos e.isLt]
      have em : j.val / 512 % 16 = j.val / 512 := by omega
      simp only [em]
  rw [h, h, e128, er, Online.div_scaled _ _ (Attn.wt_sum_pos Q QB K KB b _ _).ne']
  rfl

/-- What a step of a pair of forgetting heads writes. -/
theorem fox_real (h1 : IsQ Q b u n x1) (h2 : IsQ QB b u n x2) (h3 : IsK K b u x3) (h4 : IsK KB b u x4) (h5 : IsV V b u x5) (hu : u.val ≤ 3)
    (L : ℝ) (g : Vec Ideal S1x128 .f32) (r : Fin 512) (e : Fin 128) :
    foxOut (F := Ideal) x1 x2 x3 x4 x5 n.val (ix3 (0 : Fin 1) r e)
      = Attn.out Q QB K KB V L g b ⟨512 * n.val + r.val, by omega⟩ ⟨128 * u.val + e.val, by omega⟩ := by
  unfold foxOut Attn.out
  rw [fox_apply, quot_real h1 h2 h3 h4 h5, quot_real h1 h2 h3 h4 h5, dif_pos (show 128 * u.val + e.val < 512 by omega)]
  have ep1 : posOf n ⟨r.val, by omega⟩ = ⟨512 * n.val + r.val, by omega⟩ := Fin.ext (show 512 * n.val + r.val % 512 = _ by simp only; omega)
  have ep2 : posOf n ⟨512 + r.val, by omega⟩ = ⟨512 * n.val + r.val, by omega⟩ := Fin.ext (show 512 * n.val + (512 + r.val) % 512 = _ by simp only; omega)
  rw [ep1, ep2]
  split
  · have eh : headOf u ⟨r.val, by omega⟩ = ⟨(128 * u.val + e.val) / 64, by omega⟩ := Fin.ext (show 2 * u.val + r.val / 512 = (128 * u.val + e.val) / 64 by omega)
    rw [eh]
  · have eh : headOf u ⟨512 + r.val, by omega⟩ = ⟨(128 * u.val + e.val) / 64, by omega⟩ := Fin.ext (show 2 * u.val + (512 + r.val) / 512 = (128 * u.val + e.val) / 64 by omega)
    rw [eh]

/-- What a step of a pair of differential heads writes. -/
theorem diff_real (h1 : IsQ Q b u n x1) (h2 : IsQ QB b u n x2) (h3 : IsK K b u x3) (h4 : IsK KB b u x4) (h5 : IsV V b u x5) (hu : ¬ u.val ≤ 3)
    (x0 : Vec Ideal S1 .f32) (L : ℝ) (hl : x0 (ix1 (0 : Fin 1)) = (L : EReal)) (g : Vec Ideal S1x128 .f32) (r : Fin 512) (e : Fin 128) :
    diffOut (F := Ideal) x0 x1 x2 x3 x4 x5 g n.val (ix3 (0 : Fin 1) r e)
      = Attn.out Q QB K KB V L g b ⟨512 * n.val + r.val, by omega⟩ ⟨128 * u.val + e.val, by omega⟩ := by
  have et : ∀ x : Fin 128, two (lastAt (F := Ideal) x1 x2 x3 x4 x5 n.val).1 (x0 (ix1 (0 : Fin 1))) r x
      = (Attn.sub Q QB K KB V L b ⟨512 * n.val + r.val, by omega⟩ ⟨u.val - 4, by omega⟩ x : EReal) := fun x => by
    unfold two Attn.sub
    rw [quot_real h1 h2 h3 h4 h5, quot_real h1 h2 h3 h4 h5, hl]
    have ep1 : posOf n ⟨r.val, by omega⟩ = ⟨512 * n.val + r.val, by omega⟩ := Fin.ext (show 512 * n.val + r.val % 512 = _ by simp only; omega)
    have ep2 : posOf n ⟨512 + r.val, by omega⟩ = ⟨512 * n.val + r.val, by omega⟩ := Fin.ext (show 512 * n.val + (512 + r.val) % 512 = _ by simp only; omega)
    have eh1 : headOf u ⟨r.val, by omega⟩ = ⟨8 + (u.val - 4) * 2, by omega⟩ := Fin.ext (show 2 * u.val + r.val / 512 = 8 + (u.val - 4) * 2 by omega)
    have eh2 : headOf u ⟨512 + r.val, by omega⟩ = ⟨8 + ((u.val - 4) * 2 + 1), by omega⟩ := Fin.ext (show 2 * u.val + (512 + r.val) / 512 = 8 + ((u.val - 4) * 2 + 1) by omega)
    have ec : (⟨128 * u.val + x.val, by omega⟩ : Fin 1024) = ⟨512 + ((u.val - 4) * 128 + x.val), by omega⟩ := Fin.ext (by simp only; omega)
    rw [ep1, ep2, eh1, eh2, ec, ← EReal.coe_mul, ← EReal.coe_sub]
  unfold diffOut Attn.out
  rw [diff_apply, dif_neg (show ¬ 128 * u.val + e.val < 512 by omega)]
  simp only [et]
  have ed : (⟨(128 * u.val + e.val - 512) / 128, by omega⟩ : Fin 4) = ⟨u.val - 4, by omega⟩ := Fin.ext (by simp only; omega)
  have ee : (⟨(128 * u.val + e.val - 512) % 128, by omega⟩ : Fin 128) = e := Fin.ext (by simp only; omega)
  rw [ed, ee]
  rfl

end Block

end Cert.KernelIdeal.Value

end
-- ==== Proof.Blocks.lean ====
/- The kernel's result array over real arguments: every grid point's block is the attention there, and the blocks cover the array. -/
module

public import proofs.«01_k».proof.Proof.Frame
public import proofs.«01_k».proof.Proof.State
public import Idealize.ShloMosaic.Lib.Pipeline.ValueKit

@[expose] public section

set_option maxRecDepth 16384

noncomputable section

namespace Cert.KernelIdeal.Value

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ)

/-- Every window's block at every grid point: sequence `t / 128`, pair of heads `t / 16 % 8`, query block `t % 16`. -/
theorem idx : ∀ t : Fin cfg0.N,
    win0_0.index t = ![0] ∧ win0_1.index t = ![t.val / 128, t.val % 16, t.val / 16 % 8] ∧ win0_2.index t = ![t.val / 128, t.val % 16, t.val / 16 % 8]
    ∧ win0_3.index t = ![t.val / 128, 0, t.val / 16 % 8] ∧ win0_4.index t = ![t.val / 128, 0, t.val / 16 % 8]
    ∧ win0_5.index t = ![t.val / 128, t.val / 16 % 8, 0] ∧ win0_6.index t = ![0, 0] ∧ win0_7.index t = ![t.val / 128, t.val % 16, t.val / 16 % 8]
    ∧ t.val < 256 :=
  (by decide +kernel : ∀ t : Fin grid0.N, _)

/-- The sequence, -/
def bOf (t : Fin cfg0.N) : Fin 2 := ⟨t.val / 128, by have := (idx t).2.2.2.2.2.2.2.2; omega⟩
/-- the pair of heads, -/
def uOf (t : Fin cfg0.N) : Fin 8 := ⟨t.val / 16 % 8, by omega⟩
/-- and the query block of a grid point. -/
def nOf (t : Fin cfg0.N) : Fin 16 := ⟨t.val % 16, by omega⟩

theorem blk0 (c : Dev nD) (t : Fin cfg0.N) : iblk m c 0 t (ix1 (0 : Fin 1)) = m ((c : Thread nD τ).loc main_arg0) (ix1 (0 : Fin 1)) := by
  blk_ext [iblk, V, idx t]

theorem blk1 (c : Dev nD) (t : Fin cfg0.N) (r : Fin 512) (d : Fin 128) : iblk m c 1 t (ix3 (0 : Fin 1) r d)
    = m ((c : Thread nD τ).loc main_arg1) (ix3 (bOf t) ⟨512 * (nOf t).val + r.val, by omega⟩ ⟨128 * (uOf t).val + d.val, by omega⟩) := by
  unfold bOf nOf uOf
  blk_ext [iblk, V, idx t]

theorem blk2 (c : Dev nD) (t : Fin cfg0.N) (r : Fin 512) (d : Fin 128) : iblk m c 2 t (ix3 (0 : Fin 1) r d)
    = m ((c : Thread nD τ).loc main_arg2) (ix3 (bOf t) ⟨512 * (nOf t).val + r.val, by omega⟩ ⟨128 * (uOf t).val + d.val, by omega⟩) := by
  unfold bOf nOf uOf
  blk_ext [iblk, V, idx t]

theorem blk3 (c : Dev nD) (t : Fin cfg0.N) (j : Fin 8192) (d : Fin 128) : iblk m c 3 t (ix3 (0 : Fin 1) j d)
    = m ((c : Thread nD τ).loc main_arg3) (ix3 (bOf t) j ⟨128 * (uOf t).val + d.val, by omega⟩) := by
  unfold bOf uOf
  blk_ext [iblk, V, idx t]

theorem blk4 (c : Dev nD) (t : Fin cfg0.N) (j : Fin 8192) (d : Fin 128) : iblk m c 4 t (ix3 (0 : Fin 1) j d)
    = m ((c : Thread nD τ).loc main_arg4) (ix3 (bOf t) j ⟨128 * (uOf t).val + d.val, by omega⟩) := by
  unfold bOf uOf
  blk_ext [iblk, V, idx t]

theorem blk5 (c : Dev nD) (t : Fin cfg0.N) (a : Fin 16) (e : Fin 128) (k : Fin 512) : iblk m c 5 t (ix3 a e k)
    = m ((c : Thread nD τ).loc main_arg5) (ix3 ⟨(bOf t).val * 16 + a.val, by omega⟩ ⟨128 * (uOf t).val + e.val, by omega⟩ k) := by
  unfold bOf uOf
  blk_ext [iblk, V, idx t]

theorem blk6 (c : Dev nD) (t : Fin cfg0.N) : iblk m c 6 t = m ((c : Thread nD τ).loc main_arg6) := by
  blk_ext! [iblk, V, idx t]

section Real

variable {Q QB K KB : Attn.Rows.Idx → ℝ} {V : Attn.Cols.Idx → ℝ} {L : ℝ}

/-- Every argument but the gain is real on core `c`. -/
structure IsReal (c : Dev nD) (Q QB K KB : Attn.Rows.Idx → ℝ) (V : Attn.Cols.Idx → ℝ) (L : ℝ) : Prop where
  lam : m ((c : Thread nD τ).loc main_arg0) (ix1 (0 : Fin 1)) = (L : EReal)
  q : m ((c : Thread nD τ).loc main_arg1) = Attn.up Q
  qb : m ((c : Thread nD τ).loc main_arg2) = Attn.up QB
  k : m ((c : Thread nD τ).loc main_arg3) = Attn.up K
  kb : m ((c : Thread nD τ).loc main_arg4) = Attn.up KB
  v : m ((c : Thread nD τ).loc main_arg5) = Attn.up V

/-- What grid point `t` writes, at an index of its block. -/
theorem out_at (c : Dev nD) (h : IsReal m c Q QB K KB V L) (t : Fin cfg0.N) (r : Fin 512) (e : Fin 128) :
    outAt m c t (ix3 (0 : Fin 1) r e) = Attn.out Q QB K KB V L (m ((c : Thread nD τ).loc main_arg6)) (bOf t)
      ⟨512 * (nOf t).val + r.val, by omega⟩ ⟨128 * (uOf t).val + e.val, by omega⟩ := by
  have h1 : IsQ Q (bOf t) (uOf t) (nOf t) (iblk m c 1 t) := fun r d => (blk1 m c t r d).trans (congrFun h.q _)
  have h2 : IsQ QB (bOf t) (uOf t) (nOf t) (iblk m c 2 t) := fun r d => (blk2 m c t r d).trans (congrFun h.qb _)
  have h3 : IsK K (bOf t) (uOf t) (iblk m c 3 t) := fun r d => (blk3 m c t r d).trans (congrFun h.k _)
  have h4 : IsK KB (bOf t) (uOf t) (iblk m c 4 t) := fun r d => (blk4 m c t r d).trans (congrFun h.kb _)
  have h5 : IsV V (bOf t) (uOf t) (iblk m c 5 t) := fun a r d => (blk5 m c t a r d).trans (congrFun h.v _)
  unfold outAt outOf
  by_cases hu : t.val / 16 % 8 ≤ 3
  · rw [if_pos hu, ← blk6 m c t]
    exact fox_real h1 h2 h3 h4 h5 hu L _ r e
  · rw [if_neg hu]
    refine (diff_real h1 h2 h3 h4 h5 hu _ L ((blk0 m c t).trans h.lam) _ r e).trans ?_
    rw [blk6 m c t]

/-- The attention over the whole array. -/
def whole (Q QB K KB : Attn.Rows.Idx → ℝ) (V : Attn.Cols.Idx → ℝ) (L : ℝ) (g : Vec Ideal S1x128 .f32) : Vec Ideal S2x8192x1024 .bf16 :=
  fun i => Attn.out Q QB K KB V L g (i 0) (i 1) (i 2)

/-- The result array after the run. -/
theorem final (c : Dev nD) (h : IsReal m c Q QB K KB V L) :
    (dats m 0 c).arrAt 7 cfg0.N = whole Q QB K KB V L (m ((c : Thread nD τ).loc main_arg6)) := by
  refine (dats m 0 c).arrAt_eq_of_covers 7 _ (by decide +kernel) fun t _ y => ?_
  blk_simp
  rw [after_7]
  have hy : y = ix3 (0 : Fin 1) (y 1) (y 2) := by
    funext a
    match a with
    | ⟨0, _⟩ => exact Subsingleton.elim (α := Fin 1) _ _
    | ⟨1, _⟩ => rfl
    | ⟨2, _⟩ => rfl
  refine (congrArg (outAt m c t) hy).trans ((out_at m c h t (y 1) (y 2)).trans ?_)
  have e0 : (((cfg0.win 7).blk t).view.emb y) 0 = bOf t := by
    unfold bOf
    refine Fin.ext ?_
    blk_simp [idx t]
  have e1 : (((cfg0.win 7).blk t).view.emb y) 1 = (⟨512 * (nOf t).val + (y 1).val, by have : (y 1).val < 512 := (y 1).isLt; omega⟩ : Fin 8192) := by
    unfold nOf
    refine Fin.ext ?_
    blk_simp [idx t]
    show t.val % 16 * 512 + (y 1).val = 512 * (t.val % 16) + (y 1).val
    rw [mul_comm]
  have e2 : (((cfg0.win 7).blk t).view.emb y) 2 = (⟨128 * (uOf t).val + (y 2).val, by have : (y 2).val < 128 := (y 2).isLt; omega⟩ : Fin 1024) := by
    unfold uOf
    refine Fin.ext ?_
    blk_simp [idx t]
    show t.val / 16 % 8 * 128 + (y 2).val = 128 * (t.val / 16 % 8) + (y 2).val
    rw [mul_comm]
  show _ = Attn.out Q QB K KB V L _ ((((cfg0.win 7).blk t).view.emb y) 0) ((((cfg0.win 7).blk t).view.emb y) 1) ((((cfg0.win 7).blk t).view.emb y) 2)
  rw [e0, e1, e2]

end Real

end Cert.KernelIdeal.Value

end
-- ==== Proof.Ref.lean ====
/- The reference's value, cut at its stages and read at one index over the extended reals. -/
module

public import proofs.«01_k».proof.Proof.Gen.ReferenceIdeal.Run
public import proofs.«01_k».proof.Proof.Spec
public import Idealize.ShloMosaic.Lib.WordCmp
public import Idealize.ShloMosaic.Lib.Pointwise

@[expose] public section

set_option maxRecDepth 16384

noncomputable section

namespace Cert.ReferenceIdeal.Value

open Cert.ReferenceIdeal Cert.ReferenceIdeal.Gen Idealize.ShloMosaic Idealize.ShloMosaic.TcCoe Idealize.SL.Sem Idealize.ShloMosaic.StableHlo

variable {F : FTy → Type} [FloatOps F]

/-- Queries or keys, one row of 64 lanes per head. -/
def heads (x : FVec F S2x8192x1024 .bf16) : FVec F S2x8192x16x64 .f32 :=
  shapeCast _ (extf .f32 x bitsLt_bf16_f32) shapeCasts_S2x8192x1024_S2x8192x16x64

/-- The masked logits. -/
def logits (q qb k kb : FVec F S2x8192x1024 .bf16) : FVec F S2x16x8192x8192 .f32 :=
  select (broadcastInDim S2x16x8192x8192 ![2, 3] bcast_S8192x8192_S2x16x8192x8192_2_3 (cmpi .sle (broadcastInDim S8192x8192 ![0, 1] bcast_S1x8192_S8192x8192_0_1 (broadcastInDim S1x8192 ![1] bcast_S8192_S1x8192_1 (iotaInDim S8192 32 0))) (broadcastInDim S8192x8192 ![0, 1] bcast_S8192x1_S8192x8192_0_1 (broadcastInDim S8192x1 ![0] bcast_S8192_S8192x1_0 (iotaInDim S8192 32 0))))) (mulf (addf (Host.dotGeneral dot_S2x8192x16x64_S2x8192x16x64_S2x16x8192x8192_3_3_1_1_02_02 none (heads q) (heads k)) (Host.dotGeneral dot_S2x8192x16x64_S2x8192x16x64_S2x16x8192x8192_3_3_1_1_02_02 none (heads qb) (heads kb))) (broadcastInDim S2x16x8192x8192 ![] bcast_S_S2x16x8192x8192 (Host.log (constant S_ .f32 0x40000000#32)))) (broadcastInDim S2x16x8192x8192 ![] bcast_S_S2x16x8192x8192 (id (constant S_ .f32 0xFF800000#32)))

/-- Each row's greatest logit. -/
def tops (s : FVec F S2x16x8192x8192 .f32) : FVec F S2x16x8192 .f32 :=
  maximumf (broadcastInDim S2x16x8192 ![] bcast_S_S2x16x8192 (constant S_ .f32 0xFF800000#32)) (Host.reduce FloatOps.maximumf s (constant S_ .f32 0xFF800000#32) reducesTo_S2x16x8192x8192_S2x16x8192_d3 h_S_)

/-- The exponentials of the logits, each row's greatest taken off. -/
def exps (s : FVec F S2x16x8192x8192 .f32) : FVec F S2x16x8192x8192 .f32 :=
  Host.exp (subf s (broadcastInDim S2x16x8192x8192 ![0, 1, 2, 3] bcast_S2x16x8192x1_S2x16x8192x8192_0_1_2_3 (broadcastInDim S2x16x8192x1 ![0, 1, 2] bcast_S2x16x8192_S2x16x8192x1_0_1_2 (tops s))))

/-- The softmax of the logits. -/
def probs (s : FVec F S2x16x8192x8192 .f32) : FVec F S2x16x8192x8192 .f32 :=
  Host.divf (exps s) (broadcastInDim S2x16x8192x8192 ![0, 1, 2, 3] bcast_S2x16x8192x1_S2x16x8192x8192_0_1_2_3 (broadcastInDim S2x16x8192x1 ![0, 1, 2] bcast_S2x16x8192_S2x16x8192x1_0_1_2 (Host.reduceAdd (exps s) (constant S_ .f32 0x00000000#32) reducesTo_S2x16x8192x8192_S2x16x8192_d3 h_S_)))

/-- The values, one row of lanes per position. -/
def vals (x : FVec F S32x1024x512 .bf16) : FVec F S2x8192x1024 .f32 :=
  shapeCast _ (transpose S2x16x512x1024 [0, 1, 3, 2] (shapeCast _ (extf .f32 x bitsLt_bf16_f32) shapeCasts_S32x1024x512_S2x16x1024x512) transposes_S2x16x1024x512_S2x16x512x1024_0_1_3_2) shapeCasts_S2x16x512x1024_S2x8192x1024

/-- The forgetting heads' averages. -/
def fox (v : FVec F S2x8192x1024 .f32) (p : FVec F S2x16x8192x8192 .f32) : FVec F S2x8192x512 .f32 :=
  shapeCast _ (transpose S2x8192x8x64 [0, 3, 1, 2] (Host.dotGeneral dot_S2x8192x8x64_S2x8x8192x8192_S2x8x64x8192_1_3_3_2_02_01 none (shapeCast _ (extractStridedSlice S2x8192x512 ![0, 0, 0] v slices_S2x8192x1024_S2x8192x512_0_0_0) shapeCasts_S2x8192x512_S2x8192x8x64) (extractStridedSlice S2x8x8192x8192 ![0, 0, 0, 0] p slices_S2x16x8192x8192_S2x8x8192x8192_0_0_0_0)) transposes_S2x8x64x8192_S2x8192x8x64_0_3_1_2) shapeCasts_S2x8192x8x64_S2x8192x512

/-- A differential head's map: the first softmax less `lam` times the second. -/
def maps (l : FVec F S1 .f32) (p : FVec F S2x16x8192x8192 .f32) : FVec F S2x4x8192x8192 .f32 :=
  subf (shapeCast _ (extractStridedSlice S2x4x1x8192x8192 ![0, 0, 0, 0, 0] (shapeCast _ (extractStridedSlice S2x8x8192x8192 ![0, 8, 0, 0] p slices_S2x16x8192x8192_S2x8x8192x8192_0_8_0_0) shapeCasts_S2x8x8192x8192_S2x4x2x8192x8192) slices_S2x4x2x8192x8192_S2x4x1x8192x8192_0_0_0_0_0) shapeCasts_S2x4x1x8192x8192_S2x4x8192x8192) (mulf (broadcastInDim S2x4x8192x8192 ![] bcast_S_S2x4x8192x8192 (shapeCast _ l shapeCasts_S1_S_)) (shapeCast _ (extractStridedSlice S2x4x1x8192x8192 ![0, 0, 1, 0, 0] (shapeCast _ (extractStridedSlice S2x8x8192x8192 ![0, 8, 0, 0] p slices_S2x16x8192x8192_S2x8x8192x8192_0_8_0_0) shapeCasts_S2x8x8192x8192_S2x4x2x8192x8192) slices_S2x4x2x8192x8192_S2x4x1x8192x8192_0_0_1_0_0) shapeCasts_S2x4x1x8192x8192_S2x4x8192x8192))

/-- The differential heads' averages. -/
def diff (v : FVec F S2x8192x1024 .f32) (a : FVec F S2x4x8192x8192 .f32) : FVec F S2x8192x4x128 .f32 :=
  transpose S2x8192x4x128 [0, 3, 1, 2] (Host.dotGeneral dot_S2x8192x4x128_S2x4x8192x8192_S2x4x128x8192_1_3_3_2_02_01 none (shapeCast _ (extractStridedSlice S2x8192x512 ![0, 0, 512] v slices_S2x8192x1024_S2x8192x512_0_0_512) shapeCasts_S2x8192x512_S2x8192x4x128) a) transposes_S2x4x128x8192_S2x8192x4x128_0_3_1_2

/-- A differential head's average over its root mean square, times the gain and the layer's factor. -/
def normed (g : FVec F S1x128 .f32) (d : FVec F S2x8192x4x128 .f32) : FVec F S2x8192x512 .f32 :=
  shapeCast _ (mulf (mulf (mulf d (broadcastInDim S2x8192x4x128 ![0, 1, 2, 3] bcast_S2x8192x4x1_S2x8192x4x128_0_1_2_3 (Host.rsqrt (addf (Host.divf (broadcastInDim S2x8192x4x1 ![0, 1, 2] bcast_S2x8192x4_S2x8192x4x1_0_1_2 (Host.reduceAdd (mulf d d) (constant S_ .f32 0x00000000#32) reducesTo_S2x8192x4x128_S2x8192x4_d3 h_S_)) (broadcastInDim S2x8192x4x1 ![] bcast_S_S2x8192x4x1 (constant S_ .f32 0x43000000#32))) (broadcastInDim S2x8192x4x1 ![] bcast_S_S2x8192x4x1 (constant S_ .f32 0x3727C5AC#32)))))) (broadcastInDim S2x8192x4x128 ![0, 1, 2, 3] bcast_S1x1x1x128_S2x8192x4x128_0_1_2_3 (broadcastInDim S1x1x1x128 ![3] bcast_S128_S1x1x1x128_3 (shapeCast _ g shapeCasts_S1x128_S128)))) (broadcastInDim S2x8192x4x128 ![] bcast_S_S2x8192x4x128 (constant S_ .f32 0x3F4CCCCD#32))) shapeCasts_S2x8192x4x128_S2x8192x512

/-- The reference's whole value. -/
def whole (l : FVec F S1 .f32) (q qb k kb : FVec F S2x8192x1024 .bf16) (vt : FVec F S32x1024x512 .bf16) (g : FVec F S1x128 .f32) : FVec F S2x8192x1024 .bf16 :=
  truncf .bf16 (concatenate S2x8192x1024 2 [⟨S2x8192x512, fox (vals vt) (probs (logits q qb k kb))⟩, ⟨S2x8192x512, normed g (diff (vals vt) (maps l (probs (logits q qb k kb))))⟩] concatenates_S2x8192x512_S2x8192x512_S2x8192x1024_d2) bitsLt_bf16_f32

theorem res_eq (m : (ℓ : Loc nD τ sig) → Buf (Elt F) ℓ) (c : Dev nD) :
    res_out0 m c = whole (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5)) (m ((c.tc : Thread nD τ).loc main_arg6)) := by
  unfold res_out0 res_main_v74
  rfl

/-! ## At an index -/

theorem negInf : Ideal.ofBits .f32 0xFF800000#32 = ⊥ := by simp [Ideal.ofBits, Ideal.ieee]

theorem log_two : Ideal.log (Ideal.ofBits .f32 0x40000000#32) = ((Real.log 2 : ℝ) : EReal) := by
  have h : Ideal.ofBits .f32 0x40000000#32 = ((2 : ℝ) : EReal) := by simp [Ideal.ofBits, Ideal.ieee, -EReal.coe_mul]; norm_num
  rw [h]
  show (if (2 : ℝ) ≤ 0 then (⊥ : EReal) else (Real.log 2 : ℝ)) = _
  rw [if_neg (by norm_num)]

/-- A choice by a printed comparison of two small numbers. -/
theorem select_le {α : Type} (a b : ℕ) (ha : a < 2 ^ 31) (hb : b < 2 ^ 31) (x y : α) :
    Scalar.select (IntOp.cmpi .sle (BitVec.ofNat 32 a) (BitVec.ofNat 32 b)) x y = if a ≤ b then x else y := by
  rw [WordCmp.cmpi_sle_ofNat ha hb]
  by_cases h : a ≤ b <;> simp [Scalar.select, h]

theorem logits_apply (q qb k kb : FVec Ideal S2x8192x1024 .bf16) (b : Fin 2) (h : Fin 16) (i j : Fin 8192) :
    logits q qb k kb (ix4 b h i j) = if j.val ≤ i.val then
      (∑ x : Fin 64, q (ix3 b i ⟨h.val * 64 + x.val, by omega⟩) * k (ix3 b j ⟨h.val * 64 + x.val, by omega⟩)
        + ∑ x : Fin 64, qb (ix3 b i ⟨h.val * 64 + x.val, by omega⟩) * kb (ix3 b j ⟨h.val * 64 + x.val, by omega⟩)) * ((Real.log 2 : ℝ) : EReal)
      else ⊥ := by
  unfold logits
  pointwise [heads]
  rw [select_le _ _ (by omega) (by omega), log_two]
  exact congrArg (fun z => if j.val ≤ i.val then _ else z) negInf

/-- The greatest along the last axis. -/
theorem reduce_last {n0 n1 n2 n3 : ℕ} {u : Shape} (x : (⟨4, ![n0, n1, n2, n3]⟩ : Shape).Idx → EReal) (init : u.Idx → EReal)
    (h : (⟨4, ![n0, n1, n2, n3]⟩ : Shape).ReducesTo [3] ⟨3, ![n0, n1, n2]⟩) (hu : 0 < u.numel) (hi : init (Shape.Idx.first hu) = ⊥)
    (w : (⟨3, ![n0, n1, n2]⟩ : Shape).Idx → EReal) (hw : ∀ j, w j = ⊥) (a : Fin n0) (b : Fin n1) (c : Fin n2) :
    maximumf (F := Ideal) (φ := .f32) w (Host.reduce (FloatOps.maximumf (F := Ideal) (φ := .f32)) x init h hu) (ix3 a b c)
      = max ⊥ (Finset.univ.fold max ⊥ fun k => x (ix4 a b c k)) := by
  have e : maximumf (F := Ideal) (φ := .f32) w (Host.reduce (FloatOps.maximumf (F := Ideal) (φ := .f32)) x init h hu) (ix3 a b c)
      = max (w (ix3 a b c)) (Host.reduce (FloatOps.maximumf (F := Ideal) (φ := .f32)) x init h hu (ix3 a b c)) := rfl
  rw [e, Host.reduce_eq_fold, h.fold_fiber_r4_a3, hw, hi]
  rfl

theorem tops_apply (s : FVec Ideal S2x16x8192x8192 .f32) (b : Fin 2) (h : Fin 16) (i : Fin 8192) :
    tops s (ix3 b h i) = max ⊥ (Finset.univ.fold max ⊥ fun j => s (ix4 b h i j)) := by
  unfold tops
  exact reduce_last s _ reducesTo_S2x16x8192x8192_S2x16x8192_d3 h_S_ negInf _ (fun _ => negInf) b h i

theorem exps_apply (s : FVec Ideal S2x16x8192x8192 .f32) (b : Fin 2) (h : Fin 16) (i j : Fin 8192) :
    exps s (ix4 b h i j) = Ideal.exp (s (ix4 b h i j) - tops s (ix3 b h i)) := by
  unfold exps
  pointwise

theorem probs_apply (s : FVec Ideal S2x16x8192x8192 .f32) (b : Fin 2) (h : Fin 16) (i j : Fin 8192) :
    probs s (ix4 b h i j) = Ideal.div (exps s (ix4 b h i j)) (∑ x, exps s (ix4 b h i x)) := by
  unfold probs
  pointwise

theorem vals_apply (x : FVec Ideal S32x1024x512 .bf16) (b : Fin 2) (j : Fin 8192) (e : Fin 1024) :
    vals x (ix3 b j e) = x (ix3 ⟨b.val * 16 + j.val / 512, by omega⟩ e ⟨j.val % 512, by omega⟩) := by
  unfold vals
  pointwise

theorem fox_apply (v : FVec Ideal S2x8192x1024 .f32) (p : FVec Ideal S2x16x8192x8192 .f32) (b : Fin 2) (i : Fin 8192) (e : Fin 512) :
    fox v p (ix3 b i e) = ∑ x, v (ix3 b x ⟨e.val, by omega⟩) * p (ix4 b ⟨e.val / 64, by omega⟩ i x) := by
  unfold fox
  pointwise

theorem maps_apply (l : FVec Ideal S1 .f32) (p : FVec Ideal S2x16x8192x8192 .f32) (b : Fin 2) (d : Fin 4) (i j : Fin 8192) :
    maps l p (ix4 b d i j) = p (ix4 b ⟨8 + d.val * 2, by omega⟩ i j) - l (ix1 (0 : Fin 1)) * p (ix4 b ⟨8 + (d.val * 2 + 1), by omega⟩ i j) := by
  unfold maps
  pointwise

theorem diff_apply (v : FVec Ideal S2x8192x1024 .f32) (a : FVec Ideal S2x4x8192x8192 .f32) (b : Fin 2) (i : Fin 8192) (d : Fin 4) (e : Fin 128) :
    diff v a (ix4 b i d e) = ∑ x, v (ix3 b x ⟨512 + (d.val * 128 + e.val), by omega⟩) * a (ix4 b d i x) := by
  unfold diff
  pointwise

theorem normed_apply (g : FVec Ideal S1x128 .f32) (d : FVec Ideal S2x8192x4x128 .f32) (b : Fin 2) (i : Fin 8192) (e : Fin 512) :
    normed g d (ix3 b i e) = d (ix4 b i ⟨e.val / 128, by omega⟩ ⟨e.val % 128, by omega⟩)
        * Ideal.rsqrt (Ideal.div (∑ x, d (ix4 b i ⟨e.val / 128, by omega⟩ x) * d (ix4 b i ⟨e.val / 128, by omega⟩ x)) (Ideal.ofBits .f32 0x43000000#32)
            + Ideal.ofBits .f32 0x3727C5AC#32)
        * g (ix2 (0 : Fin 1) ⟨e.val % 128, by omega⟩) * Ideal.ofBits .f32 0x3F4CCCCD#32 := by
  unfold normed
  pointwise

theorem whole_apply (l : FVec Ideal S1 .f32) (q qb k kb : FVec Ideal S2x8192x1024 .bf16) (vt : FVec Ideal S32x1024x512 .bf16) (g : FVec Ideal S1x128 .f32)
    (b : Fin 2) (i : Fin 8192) (e : Fin 1024) : whole l q qb k kb vt g (ix3 b i e)
      = if h : e.val < 512 then fox (vals vt) (probs (logits q qb k kb)) (ix3 b i ⟨e.val, h⟩)
        else normed g (diff (vals vt) (maps l (probs (logits q qb k kb)))) (ix3 b i ⟨e.val - 512, by omega⟩) := by
  unfold whole
  pointwise

end Cert.ReferenceIdeal.Value

end
-- ==== Proof.RefReal.lean ====
/- The reference's value on real arguments is the attention. -/
module

public import proofs.«01_k».proof.Proof.Ref

@[expose] public section

set_option maxRecDepth 16384

noncomputable section

namespace Cert.ReferenceIdeal.Value

open Cert.ReferenceIdeal Cert.ReferenceIdeal.Gen Idealize.ShloMosaic Idealize.ShloMosaic.TcCoe Idealize.SL.Sem Cert.Attn

/-! ## On real arguments -/

variable {Q QB K KB : Attn.Rows.Idx → ℝ} {V : Attn.Cols.Idx → ℝ}

/-- The logits of real arguments. -/
theorem logits_real (b : Fin 2) (h : Fin 16) (i j : Fin 8192) :
    logits (F := Ideal) (up Q) (up QB) (up K) (up KB) (ix4 b h i j)
      = if j.val ≤ i.val then ((Attn.score Q QB K KB b h i j * Real.log 2 : ℝ) : EReal) else ⊥ := by
  rw [logits_apply]
  unfold up
  simp only [← EReal.coe_mul, Online.coe_sum, ← EReal.coe_add]
  rfl

/-- An exponential less the row's greatest logit is the weight, scaled. -/
theorem exp_sub (b : Fin 2) (h : Fin 16) (i j : Fin 8192) (μ : ℝ) :
    Ideal.exp ((if j.val ≤ i.val then ((Attn.score Q QB K KB b h i j * Real.log 2 : ℝ) : EReal) else ⊥) - (μ : EReal))
      = ((Real.exp (-μ) * Attn.wt Q QB K KB b h i j : ℝ) : EReal) := by
  unfold Attn.wt
  split
  · rw [← EReal.coe_sub, Ideal.exp_coe]
    congr 1
    rw [show Real.rpow 2 (Attn.score Q QB K KB b h i j) = (2 : ℝ) ^ (Attn.score Q QB K KB b h i j) from rfl]
    rw [Real.rpow_def_of_pos (by norm_num), ← Real.exp_add]
    congr 1; ring
  · rw [EReal.bot_sub, mul_zero]; rfl

/-- The softmax of real arguments' logits is the weights, normalised. -/
theorem probs_real (b : Fin 2) (h : Fin 16) (i j : Fin 8192) :
    probs (F := Ideal) (logits (up Q) (up QB) (up K) (up KB)) (ix4 b h i j)
      = ((Attn.wt Q QB K KB b h i j / ∑ x, Attn.wt Q QB K KB b h i x : ℝ) : EReal) := by
  have hs : ∀ x : Fin 8192, Online.Score (logits (F := Ideal) (up Q) (up QB) (up K) (up KB) (ix4 b h i x)) := by
    intro x; rw [logits_real]; split
    · exact Or.inr ⟨_, rfl⟩
    · exact Or.inl rfl
  obtain ⟨μ, hμ⟩ := Online.new_max (m := ⊥) (Or.inl rfl) hs i (by rw [logits_real, if_pos le_rfl]; exact EReal.coe_ne_bot _)
  have e : ∀ x : Fin 8192, exps (F := Ideal) (logits (up Q) (up QB) (up K) (up KB)) (ix4 b h i x)
      = ((Real.exp (-μ) * Attn.wt Q QB K KB b h i x : ℝ) : EReal) := by
    intro x
    rw [exps_apply, tops_apply, hμ, logits_real, exp_sub]
  rw [probs_apply, e, Finset.sum_congr rfl fun x _ => e x, Online.coe_sum, ← Finset.mul_sum,
    Online.div_real _ (mul_pos (Real.exp_pos _) (Attn.wt_sum_pos Q QB K KB b h i)).ne']
  congr 1
  exact mul_div_mul_left _ _ (Real.exp_pos _).ne'

/-- The values. -/
theorem vals_real (b : Fin 2) (j : Fin 8192) (e : Fin 1024) : vals (F := Ideal) (up V) (ix3 b j e) = (Attn.val V b j e : EReal) :=
  vals_apply _ b j e

theorem fox_real (b : Fin 2) (i : Fin 8192) (e : Fin 512) :
    fox (F := Ideal) (vals (up V)) (probs (logits (up Q) (up QB) (up K) (up KB))) (ix3 b i e)
      = (Attn.avg Q QB K KB V b ⟨e.val / 64, by omega⟩ i ⟨e.val, by omega⟩ : EReal) := by
  rw [fox_apply]
  simp only [vals_real, probs_real, ← EReal.coe_mul, Online.coe_sum]
  unfold Attn.avg
  congr 1
  rw [Finset.sum_div]
  exact Finset.sum_congr rfl fun x _ => by rw [mul_div_assoc]

theorem diff_real (l : FVec Ideal S1 .f32) (L : ℝ) (hl : l (ix1 (0 : Fin 1)) = (L : EReal)) (b : Fin 2) (i : Fin 8192) (d : Fin 4) (e : Fin 128) :
    diff (F := Ideal) (vals (up V)) (maps l (probs (logits (up Q) (up QB) (up K) (up KB)))) (ix4 b i d e)
      = (Attn.sub Q QB K KB V L b i d e : EReal) := by
  rw [diff_apply]
  simp only [maps_apply, hl, vals_real, probs_real, ← EReal.coe_mul, ← EReal.coe_sub, Online.coe_sum]
  unfold Attn.sub Attn.avg
  congr 1
  rw [Finset.sum_div, Finset.sum_div, Finset.mul_sum, ← Finset.sum_sub_distrib]
  exact Finset.sum_congr rfl fun x _ => by ring

/-- The reference's value on real arguments. -/
theorem whole_real (l : FVec Ideal S1 .f32) (L : ℝ) (hl : l (ix1 (0 : Fin 1)) = (L : EReal)) (g : FVec Ideal S1x128 .f32) (b : Fin 2) (i : Fin 8192) (e : Fin 1024) :
    whole (F := Ideal) l (up Q) (up QB) (up K) (up KB) (up V) g (ix3 b i e)
      = Attn.out Q QB K KB V L g b i e := by
  rw [whole_apply]
  unfold Attn.out
  split
  · exact fox_real b i _
  · rw [normed_apply]
    simp only [diff_real l L hl]
    rfl

end Cert.ReferenceIdeal.Value

end
-- ==== Proof.Finite.lean ====
/- The precondition read: every argument but the gain is an array of reals. -/
module

public import proofs.«01_k».proof.Defs
public import proofs.«01_k».proof.Proof.Gen.Pre_finite
public import Idealize.ShloMosaic.Lib.ReduceAll
public import Idealize.ShloMosaic.Lib.Pointwise

@[expose] public section

set_option maxRecDepth 16384

noncomputable section

namespace Cert.Pre_finite.Value

open Cert.Pre_finite Cert.Pre_finite.Gen Idealize.ShloMosaic

/-- An extended real whose absolute value is below infinity is real. -/
theorem real_of_abs (x : EReal) (h : BitVec.ofBool (decide (max x (-x) < ⊤)) = 1#1) : x = ((x.toReal : ℝ) : EReal) := by
  have h' : max x (-x) < ⊤ := by
    by_contra hn
    rw [decide_eq_false hn] at h
    exact absurd h (by decide)
  refine (EReal.coe_toReal ?_ ?_).symm
  · rintro rfl; exact absurd h' (by simp)
  · rintro rfl; exact absurd h' (by simp)

theorem posInf : Ideal.ofBits .f32 0x7F800000#32 = ⊤ := by
  simp [Ideal.ofBits, Ideal.ieee]

/-- A comparison against infinity, true at an index: the argument is real there. -/
theorem real_at {s : Shape} (x : FVec Ideal s .f32) (h : S_.BroadcastsInDim s (![] : Fin 0 → Fin s.rank)) (i : s.Idx)
    (e : cmpf .olt (Host.absf x) (broadcastInDim s ![] h (constant (F := Ideal) S_ .f32 0x7F800000#32)) i = 1#1) : x i = ((EReal.toReal (x i) : ℝ) : EReal) := by
  refine real_of_abs (x i) ?_
  rw [← posInf]
  exact e

/-- `and` of two truth values is true only where both are. -/
theorem and_one {x y : IVec S_ 1} (h : andi x y = fun _ => 1#1) : x = (fun _ => 1#1) ∧ y = fun _ => 1#1 := by
  have key : ∀ a b : BitVec 1, a &&& b = 1#1 → a = 1#1 ∧ b = 1#1 := by decide
  exact ⟨funext fun i => (key _ _ (congrFun h i)).1, funext fun i => (key _ _ (congrFun h i)).2⟩

theorem all_real {s : Shape} {axes : List (Fin s.rank)} (x : FVec Ideal s .f32) (hb : S_.BroadcastsInDim s (![] : Fin 0 → Fin s.rank)) (hr : s.ReducesTo axes S_)
    (e : Host.reduce IntOp.andi (cmpf .olt (Host.absf x) (broadcastInDim s ![] hb (constant (F := Ideal) S_ .f32 0x7F800000#32))) (constantI S_ 1 1#1) hr h_S_ = fun _ => 1#1) :
    ∀ i, x i = ((EReal.toReal (x i) : ℝ) : EReal) := fun i =>
  haveI : Subsingleton S_.Idx := ⟨fun a b => funext fun k => k.elim0⟩
  real_at x hb i (Host.reduce_andi_all _ _ _ _ (fun k => k.elim0) (congrFun e _) i)

/-- The precondition, argument by argument. -/
theorem real (a0 : FVec Ideal S1 .f32) (a1 a2 a3 a4 : FVec Ideal S2x8192x1024 .bf16) (a5 : FVec Ideal S32x1024x512 .bf16) (a6 : FVec Ideal S1x128 .f32)
    (h : fn (F := Ideal) a0 a1 a2 a3 a4 a5 a6 = fun _ => 1#1) :
    (∀ i, a0 i = ((EReal.toReal (a0 i) : ℝ) : EReal)) ∧ (∀ i, a1 i = ((EReal.toReal (a1 i) : ℝ) : EReal)) ∧ (∀ i, a2 i = ((EReal.toReal (a2 i) : ℝ) : EReal))
      ∧ (∀ i, a3 i = ((EReal.toReal (a3 i) : ℝ) : EReal)) ∧ (∀ i, a4 i = ((EReal.toReal (a4 i) : ℝ) : EReal)) ∧ ∀ i, a5 i = ((EReal.toReal (a5 i) : ℝ) : EReal) := by
  unfold fn fn_part1 at h
  obtain ⟨h, h5⟩ := and_one h
  obtain ⟨h, h4⟩ := and_one h
  obtain ⟨h, h3⟩ := and_one h
  obtain ⟨h, h2⟩ := and_one h
  obtain ⟨h0, h1⟩ := and_one h
  exact ⟨all_real _ _ _ h0, all_real (extf .f32 a1 bitsLt_bf16_f32) _ _ h1, all_real (extf .f32 a2 bitsLt_bf16_f32) _ _ h2, all_real (extf .f32 a3 bitsLt_bf16_f32) _ _ h3,
    all_real (extf .f32 a4 bitsLt_bf16_f32) _ _ h4, all_real (extf .f32 a5 bitsLt_bf16_f32) _ _ h5⟩

end Cert.Pre_finite.Value

end
-- ==== Proof.Project.Spec.lean ====
/- The normalized row of a token, its products and the logarithm of the sigmoid over the extended reals. -/
module

public import Idealize.ShloMosaic.Lib.Pointwise

@[expose] public section

noncomputable section

namespace Cert.Project

open Idealize.ShloMosaic

/-- The width of a row and the number added to the mean of its squares. -/
abbrev count : EReal := Ideal.ofBits .f32 0x44800000#32
abbrev eps : EReal := Ideal.ofBits .f32 0x3727C5AC#32

/-- A row over the root of the mean of its squares, times the gain. -/
def normed (x g : Fin 1024 → EReal) (k : Fin 1024) : EReal :=
  x k * Ideal.rsqrt (Ideal.div (∑ d : Fin 1024, x d * x d) count + eps) * g k

/-- The logarithm of the sigmoid, as the kernel spells it. -/
def logSig (z : EReal) : EReal := min z 0 - Ideal.log1p (Ideal.exp (0 - max z (-z)))

theorem log1p_coe (r : ℝ) (h : ¬1 + r ≤ 0) : Ideal.log1p ((r : ℝ) : EReal) ≠ ⊥ := by
  show Ideal.log (1 + ((r : ℝ) : EReal)) ≠ ⊥
  have e : (1 : EReal) + ((r : ℝ) : EReal) = ((1 + r : ℝ) : EReal) := by rw [EReal.coe_add, EReal.coe_one]
  rw [e]
  show (if 1 + r ≤ 0 then (⊥ : EReal) else (Real.log (1 + r) : EReal)) ≠ ⊥
  rw [if_neg h]
  exact EReal.coe_ne_bot _

/-- The logarithm's argument is at least one. -/
theorem log1p_ne_bot (x : EReal) : Ideal.log1p (Ideal.exp x) ≠ ⊥ := by
  induction x with
  | bot => exact log1p_coe 0 (by norm_num)
  | top =>
    show Ideal.log (1 + ⊤) ≠ ⊥
    rw [EReal.add_top_of_ne_bot (by decide)]
    exact top_ne_bot
  | coe r => exact log1p_coe (Real.exp r) (by have := Real.exp_pos r; linarith)

/-- The logarithm of the sigmoid, as the negative of a softplus. -/
theorem neg_softplus (z : EReal) : -(max (-z) 0 + Ideal.log1p (Ideal.exp (-(max (-z - 0) (-(-z - 0)))))) = logSig z := by
  unfold logSig
  have e0 : -z - 0 = -z := sub_zero _
  have e1 : (0 : EReal) - max z (-z) = -(max z (-z)) := zero_sub _
  have e2 : max (-z) z = max z (-z) := max_comm _ _
  rw [e0, neg_neg, e1, e2]
  have hb : max (-z) 0 ≠ ⊥ := fun h => by
    have : (0 : EReal) ≤ ⊥ := h ▸ le_max_right (-z) 0
    simp at this
  rw [EReal.neg_add (.inl hb) (.inr (log1p_ne_bot _))]
  have e3 : -max (-z) 0 = min z 0 := by
    rcases le_total z 0 with h | h
    · rw [min_eq_left h, max_eq_left (by simpa using h), neg_neg]
    · rw [min_eq_right h, max_eq_right (by simpa using h), neg_zero]
  rw [e3]

end Cert.Project

end
-- ==== Proof.Project.Payload.lean ====
/- The projection kernel's payloads of the five results over the extended reals, read at one index. -/
module

public import proofs.«01_k».proof.Proof.Gen.Kernel3Ideal.Skeleton
public import proofs.«01_k».proof.Proof.Project.Spec
public import Idealize.ShloMosaic.Lib.Pointwise
public import Idealize.ShloMosaic.Lib.Pipeline.ValueKit

@[expose] public section

set_option maxRecDepth 16384

noncomputable section

namespace Cert.Kernel3Ideal.Project

open Cert.Kernel3Ideal Cert.Kernel3Ideal.Gen Idealize.ShloMosaic Idealize.ShloMosaic.TcCoe

theorem normed_apply (x : Vec Ideal S512x1024 .f32) (g : Vec Ideal S1x1024 .f32) (r : Fin 512) (k : Fin 1024) :
    k0_pay4 (F := Ideal) x g (ix2 r k) = Project.normed (fun d => x (ix2 r d)) (fun d => g (ix2 (0 : Fin 1) d)) k := by
  unfold k0_pay4
  pointwise
  rfl

theorem rounded_apply (x : Vec Ideal S512x1024 .f32) (g : Vec Ideal S1x1024 .f32) (r : Fin 512) (k : Fin 1024) :
    k0_pay5 (F := Ideal) x g (ix2 r k) = Project.normed (fun d => x (ix2 r d)) (fun d => g (ix2 (0 : Fin 1) d)) k :=
  normed_apply x g r k

theorem value_apply (h : FVec Ideal S512x1024 .bf16) (w : Vec Ideal S1024x512 .bf16) (r f : Fin 512) :
    k0_pay10 (F := Ideal) h w (ix2 r f) = ∑ k : Fin 1024, h (ix2 r k) * w (ix2 k f) := by
  unfold k0_pay10
  pointwise

theorem foxKey_apply (h : FVec Ideal S512x1024 .bf16) (w : Vec Ideal S512x1024 .bf16) (f r : Fin 512) :
    k0_pay11 (F := Ideal) h w (ix3 (0 : Fin 1) f r) = ∑ k : Fin 1024, w (ix2 f k) * h (ix2 r k) := by
  unfold k0_pay11
  pointwise

theorem diffKey_apply (h : FVec Ideal S512x1024 .bf16) (w : Vec Ideal S512x1024 .bf16) (f r : Fin 512) :
    k0_pay12 (F := Ideal) h w (ix3 (0 : Fin 1) f r) = ∑ k : Fin 1024, w (ix2 f k) * h (ix2 r k) := by
  unfold k0_pay12
  pointwise

theorem foxValue_apply (h : FVec Ideal S512x1024 .bf16) (w : Vec Ideal S512x1024 .bf16) (f r : Fin 512) :
    k0_pay14 (F := Ideal) h w (ix3 (0 : Fin 1) f r) = ∑ k : Fin 1024, w (ix2 f k) * h (ix2 r k) := by
  unfold k0_pay14
  pointwise [k0_pay13]

theorem gate_apply (h : FVec Ideal S512x1024 .f32) (w : Vec Ideal S8x1024 .f32) (b : Vec Ideal S8x1 .f32) (f : Fin 8) (r : Fin 512) :
    k0_pay24 (F := Ideal) (k0_pay23 h w) b (ix3 (0 : Fin 1) f r) = Project.logSig (∑ k : Fin 1024, w (ix2 f k) * h (ix2 r k) + b (ix2 f (0 : Fin 1))) := by
  unfold k0_pay24
  pointwise [k0_pay23]
  rfl

end Cert.Kernel3Ideal.Project

end
-- ==== Proof.Project.Outputs.lean ====
/- What one grid point of the projection kernel leaves in the blocks of keys, values and gates, as its payloads of the staged blocks. -/
module

public import proofs.«01_k».proof.Proof.Gen.Kernel3Ideal.Frame
public import proofs.«01_k».proof.Proof.Project.Payload
public import Idealize.ShloMosaic.Lib.VecWindow

@[expose] public section

set_option maxRecDepth 16384
set_option Elab.async false

noncomputable section

namespace Cert.Kernel3Ideal.Project

open Cert.Kernel3Ideal Cert.Kernel3Ideal.Gen
open Idealize.ShloMosaic Idealize.ShloMosaic.TcCoe

/-- A whole load of a buffer staged with `x`, -/
theorem load_full {sp : Space} {s : Shape} {e : EltTy} {a : Memref sig .tc sp s e} (h : a.IsWhole) (x : s.Idx → Elt Ideal e) {off : Fin s.rank → ℕ}
    (inb : ∀ i, off i + s.size i ≤ s.size i) : a.view.readAt (Elt Ideal) (Rect.unit off s.size inb).toLoadRect (h.unread x) = x :=
  (View.readAt_full a.view _ inb).trans (h.read_unread x)

/-- and a load of a part of it. -/
theorem load_part {sp : Space} {s : Shape} {e : EltTy} {a : Memref sig .tc sp s e} (h : a.IsWhole) (x : s.Idx → Elt Ideal e) {off size : Fin s.rank → ℕ}
    (inb : ∀ i, off i + size i ≤ s.size i) : a.view.readAt (Elt Ideal) (Rect.unit off size inb).toLoadRect (h.unread x) = VecWindow.window x off size inb :=
  (View.readAt_unit a.view _ inb rfl inb).trans (congrArg (fun z => VecWindow.window z off size inb) (h.read_unread x))

theorem pair {α β γ : Type} (p : α → β → γ) {a a' : α} {b b' : β} (h1 : a = a') (h2 : b = b') : p a b = p a' b' := by
  subst h1 h2; rfl

variable (m : (ℓ : Loc nD τ sig) → Buf (Elt Ideal) ℓ)

/-- The normalized rows of a point, rounded for the products, -/
abbrev rounded (c : Dev nD) (t : Fin cfg0.N) : FVec Ideal S512x1024 .bf16 := k0_pay5 (F := Ideal) (iblk m c 0 t) (iblk m c 1 t)
/-- and as they are. -/
abbrev unrounded (c : Dev nD) (t : Fin cfg0.N) : FVec Ideal S512x1024 .f32 := k0_pay4 (F := Ideal) (iblk m c 0 t) (iblk m c 1 t)

theorem roundedA (c : Dev nD) (t : Fin cfg0.N) : kernelRun0_A.sl.r_1 c (ms0_0 t) (hs0_0 t) (ms0_1 t) (hs0_1 t) (iblk m c 0 t) (iblk m c 1 t) = rounded m c t := by
  unfold kernelRun0_A.sl.r_1
  exact pair (k0_pay5 (F := Ideal)) (load_full _ _ _) (load_full _ _ _)

theorem roundedB (c : Dev nD) (t : Fin cfg0.N) : kernelRun0_B.sl.r_1 c (ms0_0 t) (hs0_0 t) (ms0_1 t) (hs0_1 t) (iblk m c 0 t) (iblk m c 1 t) = rounded m c t := by
  unfold kernelRun0_B.sl.r_1
  exact pair (k0_pay5 (F := Ideal)) (load_full _ _ _) (load_full _ _ _)

theorem gateA (c : Dev nD) (t : Fin cfg0.N) : kernelRun0_A.sl.r_4 c (ms0_0 t) (hs0_0 t) (ms0_1 t) (hs0_1 t) (ms0_5 t) (hs0_5 t) (iblk m c 0 t) (iblk m c 1 t) (iblk m c 5 t)
    = k0_pay23 (F := Ideal) (unrounded m c t) (iblk m c 5 t) := by
  unfold kernelRun0_A.sl.r_4
  exact pair (k0_pay23 (F := Ideal)) (pair (k0_pay4 (F := Ideal)) (load_full _ _ _) (load_full _ _ _)) (load_full _ _ _)

theorem gateB (c : Dev nD) (t : Fin cfg0.N) : kernelRun0_B.sl.r_4 c (ms0_0 t) (hs0_0 t) (ms0_1 t) (hs0_1 t) (ms0_5 t) (hs0_5 t) (iblk m c 0 t) (iblk m c 1 t) (iblk m c 5 t)
    = k0_pay23 (F := Ideal) (unrounded m c t) (iblk m c 5 t) := by
  unfold kernelRun0_B.sl.r_4
  exact pair (k0_pay23 (F := Ideal)) (pair (k0_pay4 (F := Ideal)) (load_full _ _ _) (load_full _ _ _)) (load_full _ _ _)

/-- The forgetting heads' keys, -/
theorem foxKey_eq (c : Dev nD) (t : Fin cfg0.N) : (outsAt0 m c t.val t.isLt).2.2.2.2.2.1
    = k0_pay11 (F := Ideal) (rounded m c t) (VecWindow.window (s := S2048x1024) (iblk m c 3 t) ![0, 0] S512x1024.size inb_S2048x1024_S512x1024_0_0) := by
  by_cases h0 : t.val % 16 = 0
  · refine (congrArg (fun p => p.2.2.2.2.2.1) (outsAt0_A m c t h0)).trans ?_
    dsimp only
    unfold out0_A_17 kernelRun0_A
    dsimp only
    exact (View.read_writes_full VO0_17 _ _ _ _).trans (pair (k0_pay11 (F := Ideal)) (roundedA m c t) (load_part _ _ _))
  · refine (congrArg (fun p => p.2.2.2.2.2.1) (outsAt0_B m c t h0)).trans ?_
    dsimp only
    unfold out0_B_17 kernelRun0_B
    dsimp only
    exact (View.read_writes_full VO0_17 _ _ _ _).trans (pair (k0_pay11 (F := Ideal)) (roundedB m c t) (load_part _ _ _))

/-- their values, -/
theorem foxValue_eq (c : Dev nD) (t : Fin cfg0.N) : (outsAt0 m c t.val t.isLt).2.2.2.2.2.2.1
    = k0_pay14 (F := Ideal) (rounded m c t) (VecWindow.window (s := S2048x1024) (iblk m c 3 t) ![1024, 0] S512x1024.size inb_S2048x1024_S512x1024_1024_0) := by
  by_cases h0 : t.val % 16 = 0
  · refine (congrArg (fun p => p.2.2.2.2.2.2.1) (outsAt0_A m c t h0)).trans ?_
    dsimp only
    unfold out0_A_18 kernelRun0_A
    dsimp only
    exact (View.read_writes_full VO0_18 _ _ _ _).trans (pair (k0_pay14 (F := Ideal)) (roundedA m c t) (load_part _ _ _))
  · refine (congrArg (fun p => p.2.2.2.2.2.2.1) (outsAt0_B m c t h0)).trans ?_
    dsimp only
    unfold out0_B_18 kernelRun0_B
    dsimp only
    exact (View.read_writes_full VO0_18 _ _ _ _).trans (pair (k0_pay14 (F := Ideal)) (roundedB m c t) (load_part _ _ _))

/-- the differential heads' keys, -/
theorem diffKey_eq (c : Dev nD) (t : Fin cfg0.N) : (outsAt0 m c t.val t.isLt).2.2.2.2.2.2.2.1
    = k0_pay12 (F := Ideal) (rounded m c t) (VecWindow.window (s := S2048x1024) (iblk m c 3 t) ![512, 0] S512x1024.size inb_S2048x1024_S512x1024_512_0) := by
  by_cases h0 : t.val % 16 = 0
  · refine (congrArg (fun p => p.2.2.2.2.2.2.2.1) (outsAt0_A m c t h0)).trans ?_
    dsimp only
    unfold out0_A_19 kernelRun0_A
    dsimp only
    exact (View.read_writes_full VO0_19 _ _ _ _).trans (pair (k0_pay12 (F := Ideal)) (roundedA m c t) (load_part _ _ _))
  · refine (congrArg (fun p => p.2.2.2.2.2.2.2.1) (outsAt0_B m c t h0)).trans ?_
    dsimp only
    unfold out0_B_19 kernelRun0_B
    dsimp only
    exact (View.read_writes_full VO0_19 _ _ _ _).trans (pair (k0_pay12 (F := Ideal)) (roundedB m c t) (load_part _ _ _))

/-- their values, -/
theorem diffValue_eq (c : Dev nD) (t : Fin cfg0.N) : (outsAt0 m c t.val t.isLt).2.2.2.2.2.2.2.2.1
    = k0_pay10 (F := Ideal) (rounded m c t) (VecWindow.window (s := S1024x4608) (iblk m c 2 t) ![0, 2048] S1024x512.size inb_S1024x4608_S1024x512_0_2048) := by
  by_cases h0 : t.val % 16 = 0
  · refine (congrArg (fun p => p.2.2.2.2.2.2.2.2.1) (outsAt0_A m c t h0)).trans ?_
    dsimp only
    unfold out0_A_20 kernelRun0_A
    dsimp only
    exact (View.read_writes_full VO0_20 _ _ _ _).trans (pair (k0_pay10 (F := Ideal)) (roundedA m c t) (load_part _ _ _))
  · refine (congrArg (fun p => p.2.2.2.2.2.2.2.2.1) (outsAt0_B m c t h0)).trans ?_
    dsimp only
    unfold out0_B_20 kernelRun0_B
    dsimp only
    exact (View.read_writes_full VO0_20 _ _ _ _).trans (pair (k0_pay10 (F := Ideal)) (roundedB m c t) (load_part _ _ _))

/-- and the logarithms of the gates. -/
theorem gate_eq (c : Dev nD) (t : Fin cfg0.N) : (outsAt0 m c t.val t.isLt).2.2.2.2.2.2.2.2.2.1
    = k0_pay24 (F := Ideal) (k0_pay23 (F := Ideal) (unrounded m c t) (iblk m c 5 t)) (iblk m c 7 t) := by
  by_cases h0 : t.val % 16 = 0
  · refine (congrArg (fun p => p.2.2.2.2.2.2.2.2.2.1) (outsAt0_A m c t h0)).trans ?_
    dsimp only
    unfold out0_A_21 kernelRun0_A
    dsimp only
    exact (View.read_writes_full VO0_21 _ _ _ _).trans (pair (k0_pay24 (F := Ideal)) (gateA m c t) (load_full _ _ _))
  · refine (congrArg (fun p => p.2.2.2.2.2.2.2.2.2.1) (outsAt0_B m c t h0)).trans ?_
    dsimp only
    unfold out0_B_21 kernelRun0_B
    dsimp only
    exact (View.read_writes_full VO0_21 _ _ _ _).trans (pair (k0_pay24 (F := Ideal)) (gateB m c t) (load_full _ _ _))

end Cert.Kernel3Ideal.Project

end
-- ==== Proof.Project.Ref.lean ====
/- The projections' reference, cut at its stages and read at one index over the extended reals. -/
module

public import proofs.«01_k».proof.Proof.Gen.Reference3Ideal.Run
public import proofs.«01_k».proof.Proof.Project.Spec
public import Idealize.ShloMosaic.Lib.Pointwise

@[expose] public section

set_option maxRecDepth 16384

noncomputable section

namespace Cert.Reference3Ideal.Value

open Cert.Reference3Ideal Cert.Reference3Ideal.Gen Idealize.ShloMosaic Idealize.ShloMosaic.TcCoe Idealize.SL.Sem Idealize.ShloMosaic.StableHlo

variable {F : FTy → Type} [FloatOps F]

/-- The normalized rows. -/
def rows (x : FVec F S16384x1024 .f32) (g : FVec F S1x1024 .f32) : FVec F S16384x1024 .f32 :=
  mulf (mulf x (broadcastInDim S16384x1024 ![0, 1] bcast_S16384x1_S16384x1024_0_1 (Host.rsqrt (addf (Host.divf (broadcastInDim S16384x1 ![0] bcast_S16384_S16384x1_0 (Host.reduceAdd (mulf x x) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x3727C5AC#32)))))) (broadcastInDim S16384x1024 ![0, 1] bcast_S1x1024_S16384x1024_0_1 (broadcastInDim S1x1024 ![1] bcast_S1024_S1x1024_1 (shapeCast _ g shapeCasts_S1x1024_S1024)))

/-- The keys of both kinds and the values of the forgetting heads, positions last. -/
def across (h : FVec F S16384x1024 .f32) (w : FVec F S2048x1024 .bf16) : FVec F S2x2048x8192 .f32 :=
  transpose S2x2048x8192 [0, 2, 1] (Host.dotGeneral dot_S2x8192x1024_S2048x1024_S2x8192x2048_2_1_01_0_n_n none (shapeCast _ h shapeCasts_S16384x1024_S2x8192x1024) (extf .f32 w bitsLt_bf16_f32)) transposes_S2x8192x2048_S2x2048x8192_0_2_1

/-- The three parts of them. -/
def foxKeys (h : FVec F S16384x1024 .f32) (w : FVec F S2048x1024 .bf16) : FVec F S2x512x8192 .f32 := extractStridedSlice S2x512x8192 ![0, 0, 0] (across h w) slices_S2x2048x8192_S2x512x8192_0_0_0
def diffKeys (h : FVec F S16384x1024 .f32) (w : FVec F S2048x1024 .bf16) : FVec F S2x512x8192 .f32 := extractStridedSlice S2x512x8192 ![0, 512, 0] (across h w) slices_S2x2048x8192_S2x512x8192_0_512_0
def foxValues (h : FVec F S16384x1024 .f32) (w : FVec F S2048x1024 .bf16) : FVec F S2x512x8192 .f32 := extractStridedSlice S2x512x8192 ![0, 1024, 0] (across h w) slices_S2x2048x8192_S2x512x8192_0_1024_0

/-- The values of the differential heads. -/
def diffValues (h : FVec F S16384x1024 .f32) (w : FVec F S1024x4608 .bf16) : FVec F S16384x512 .f32 :=
  Host.dotGeneral dot_S16384x1024_S1024x512_S16384x512_1_0_0_1_n_n none h (extf .f32 (extractStridedSlice S1024x512 ![0, 2048] w slices_S1024x4608_S1024x512_0_2048) bitsLt_bf16_f32)

/-- The forget gates' arguments, negated, -/
def args (h : FVec F S16384x1024 .f32) (w : FVec F S8x1024 .f32) (b : FVec F S8x1 .f32) : FVec F S2x8x8192 .f32 :=
  Host.negf (addf (transpose S2x8x8192 [0, 2, 1] (Host.dotGeneral dot_S2x8192x1024_S8x1024_S2x8192x8_2_1_01_0_n_n none (shapeCast _ h shapeCasts_S16384x1024_S2x8192x1024) w) transposes_S2x8192x8_S2x8x8192_0_2_1) (broadcastInDim S2x8x8192 ![0, 1, 2] bcast_S1x8x1_S2x8x8192_0_1_2 (broadcastInDim S1x8x1 ![1, 2] bcast_S8x1_S1x8x1_1_2 b)))

/-- and their logarithms. -/
def logs (a : FVec F S2x8x8192 .f32) : FVec F S2x8x8192 .f32 :=
  Host.negf (select (cmpf .une (subf a (broadcastInDim S2x8x8192 ![] bcast_S_S2x8x8192 (constant S_ .f32 0x00000000#32))) (subf a (broadcastInDim S2x8x8192 ![] bcast_S_S2x8x8192 (constant S_ .f32 0x00000000#32))))
    (addf a (broadcastInDim S2x8x8192 ![] bcast_S_S2x8x8192 (constant S_ .f32 0x00000000#32)))
    (addf (maximumf a (broadcastInDim S2x8x8192 ![] bcast_S_S2x8x8192 (constant S_ .f32 0x00000000#32))) (Host.log1p (Host.exp (Host.negf (Host.absf (subf a (broadcastInDim S2x8x8192 ![] bcast_S_S2x8x8192 (constant S_ .f32 0x00000000#32)))))))))

theorem res4_eq (m : (ℓ : Loc nD τ sig) → Buf (Elt F) ℓ) (c : Dev nD) :
    res_out4 m c = logs (args (rows (m ((c.tc : Thread nD τ).loc main_arg0)) (m ((c.tc : Thread nD τ).loc main_arg1))) (m ((c.tc : Thread nD τ).loc main_arg5)) (m ((c.tc : Thread nD τ).loc main_arg7))) := by
  unfold res_out4 res_main_v29
  rfl

/-! ## At an index -/

theorem rows_apply (x : FVec Ideal S16384x1024 .f32) (g : FVec Ideal S1x1024 .f32) (r : Fin 16384) (k : Fin 1024) :
    rows x g (ix2 r k) = Project.normed (fun d => x (ix2 r d)) (fun d => g (ix2 (0 : Fin 1) d)) k := by
  unfold rows
  pointwise
  rfl

theorem foxKeys_apply (h : FVec Ideal S16384x1024 .f32) (w : FVec Ideal S2048x1024 .bf16) (b : Fin 2) (f : Fin 512) (i : Fin 8192) :
    foxKeys h w (ix3 b f i) = ∑ k : Fin 1024, h (ix2 ⟨b.val * 8192 + i.val, by omega⟩ k) * w (ix2 ⟨f.val, by omega⟩ k) := by
  unfold foxKeys
  pointwise [across]

theorem diffKeys_apply (h : FVec Ideal S16384x1024 .f32) (w : FVec Ideal S2048x1024 .bf16) (b : Fin 2) (f : Fin 512) (i : Fin 8192) :
    diffKeys h w (ix3 b f i) = ∑ k : Fin 1024, h (ix2 ⟨b.val * 8192 + i.val, by omega⟩ k) * w (ix2 ⟨512 + f.val, by omega⟩ k) := by
  unfold diffKeys
  pointwise [across]

theorem foxValues_apply (h : FVec Ideal S16384x1024 .f32) (w : FVec Ideal S2048x1024 .bf16) (b : Fin 2) (f : Fin 512) (i : Fin 8192) :
    foxValues h w (ix3 b f i) = ∑ k : Fin 1024, h (ix2 ⟨b.val * 8192 + i.val, by omega⟩ k) * w (ix2 ⟨1024 + f.val, by omega⟩ k) := by
  unfold foxValues
  pointwise [across]

theorem diffValues_apply (h : FVec Ideal S16384x1024 .f32) (w : FVec Ideal S1024x4608 .bf16) (r : Fin 16384) (f : Fin 512) :
    diffValues h w (ix2 r f) = ∑ k : Fin 1024, h (ix2 r k) * w (ix2 k ⟨2048 + f.val, by omega⟩) := by
  unfold diffValues
  pointwise

theorem args_apply (h : FVec Ideal S16384x1024 .f32) (w : FVec Ideal S8x1024 .f32) (b : FVec Ideal S8x1 .f32) (n : Fin 2) (f : Fin 8) (i : Fin 8192) :
    args h w b (ix3 n f i) = -(∑ k : Fin 1024, h (ix2 ⟨n.val * 8192 + i.val, by omega⟩ k) * w (ix2 f k) + b (ix2 f (0 : Fin 1))) := by
  unfold args
  pointwise

theorem logs_apply (a : FVec Ideal S2x8x8192 .f32) (n : Fin 2) (f : Fin 8) (i : Fin 8192) (z : EReal) (hz : a (ix3 n f i) = -z) :
    logs a (ix3 n f i) = Project.logSig z := by
  unfold logs
  pointwise
  rw [hz]
  refine (congrArg (fun q : EReal => -q) ?_).trans (Project.neg_softplus z)
  rw [if_neg (fun h => h rfl), sub_zero]
  rfl

end Cert.Reference3Ideal.Value

end
-- ==== Proof.Project.Blocks.lean ====
/- Where the projection kernel's blocks lie: point `t` has the rows `512 * t + r`, which are the positions `512 * (t % 16) + r` of sequence `t / 16`; weights and biases are staged whole. -/
module

public import proofs.«01_k».proof.Proof.Gen.Kernel3Ideal.Frame.Runs
public import proofs.«01_k».proof.Proof.Project.Payload
public import proofs.«01_k».proof.Proof.Project.Ref
public import Idealize.ShloMosaic.Lib.Pipeline.ValueKit
public import Idealize.ShloMosaic.Lib.VecWindow

@[expose] public section

set_option maxRecDepth 16384

noncomputable section

namespace Cert.Kernel3Ideal.Project

open Cert.Kernel3Ideal Cert.Kernel3Ideal.Gen
open Idealize.ShloMosaic Idealize.ShloMosaic.TcCoe

variable (m : (ℓ : Loc nD τ sig) → Buf (Elt Ideal) ℓ)

/-- The blocks staged at every point, -/
theorem idx_in : ∀ t : Fin cfg0.N,
    win0_0.index t = ![t.val, 0] ∧ win0_1.index t = ![0, 0] ∧ win0_2.index t = ![0, 0] ∧ win0_3.index t = ![0, 0] ∧ win0_5.index t = ![0, 0] ∧ win0_7.index t = ![0, 0] ∧ t.val < 32 :=
  (by decide +kernel : ∀ t : Fin grid0.N, _)

/-- and those written. -/
theorem idx_out : ∀ t : Fin cfg0.N,
    win0_17.index t = ![t.val / 16, 0, t.val % 16] ∧ win0_18.index t = ![t.val / 16, 0, t.val % 16] ∧ win0_19.index t = ![t.val / 16, 0, t.val % 16]
    ∧ win0_20.index t = ![t.val, 0] ∧ win0_21.index t = ![t.val / 16, 0, t.val % 16] :=
  (by decide +kernel : ∀ t : Fin grid0.N, _)

theorem lt32 (t : Fin cfg0.N) : t.val < 32 := (idx_in t).2.2.2.2.2.2

/-- The sequence of a point, -/
def bOf (t : Fin cfg0.N) : Fin 2 := ⟨t.val / 16, by have := lt32 t; omega⟩
/-- the position of one of its rows, -/
def posOf (t : Fin cfg0.N) (r : Fin 512) : Fin 8192 := ⟨512 * (t.val % 16) + r.val, by omega⟩
/-- and the row. -/
def rowOf (t : Fin cfg0.N) (r : Fin 512) : Fin 16384 := ⟨512 * t.val + r.val, by have := lt32 t; omega⟩

theorem row_eq (t : Fin cfg0.N) (r : Fin 512) (h : (bOf t).val * 8192 + (posOf t r).val < 16384) : (⟨(bOf t).val * 8192 + (posOf t r).val, h⟩ : Fin 16384) = rowOf t r :=
  Fin.ext (by show t.val / 16 * 8192 + (512 * (t.val % 16) + r.val) = 512 * t.val + r.val; omega)

theorem blk0 (c : Dev nD) (t : Fin cfg0.N) (r : Fin 512) (k : Fin 1024) : iblk m c 0 t (ix2 r k) = m ((c : Thread nD τ).loc main_arg0) (ix2 (rowOf t r) k) := by
  unfold rowOf
  blk_ext [iblk, V, idx_in t]

theorem blk1 (c : Dev nD) (t : Fin cfg0.N) (k : Fin 1024) : iblk m c 1 t (ix2 (0 : Fin 1) k) = m ((c : Thread nD τ).loc main_arg1) (ix2 (0 : Fin 1) k) := by
  blk_ext [iblk, V, idx_in t]

theorem blk2 (c : Dev nD) (t : Fin cfg0.N) (k : Fin 1024) (f : Fin 4608) : iblk m c 2 t (ix2 k f) = m ((c : Thread nD τ).loc main_arg2) (ix2 k f) := by
  blk_ext [iblk, V, idx_in t]

theorem blk3 (c : Dev nD) (t : Fin cfg0.N) (f : Fin 2048) (k : Fin 1024) : iblk m c 3 t (ix2 f k) = m ((c : Thread nD τ).loc main_arg3) (ix2 f k) := by
  blk_ext [iblk, V, idx_in t]

theorem blk5 (c : Dev nD) (t : Fin cfg0.N) (f : Fin 8) (k : Fin 1024) : iblk m c 5 t (ix2 f k) = m ((c : Thread nD τ).loc main_arg5) (ix2 f k) := by
  blk_ext [iblk, V, idx_in t]

theorem blk7 (c : Dev nD) (t : Fin cfg0.N) (f : Fin 8) : iblk m c 7 t (ix2 f (0 : Fin 1)) = m ((c : Thread nD τ).loc main_arg7) (ix2 f (0 : Fin 1)) := by
  blk_ext [iblk, V, idx_in t]

/-- Rows `o` and on of the weights of keys and values, -/
theorem part3 (c : Dev nD) (t : Fin cfg0.N) (o : ℕ) (inb : ∀ a, (![o, 0] : Fin 2 → ℕ) a + S512x1024.size a ≤ S2048x1024.size a) (f : Fin 512) (k : Fin 1024) (q : Fin 2048) (hq : q.val = o + f.val) :
    VecWindow.window (s := S2048x1024) (iblk m c 3 t) ![o, 0] S512x1024.size inb (ix2 f k) = m ((c : Thread nD τ).loc main_arg3) (ix2 q k) := by
  have e : (Rect.unit (s := S2048x1024) ![o, 0] S512x1024.size inb).emb (ix2 f k) = ix2 q k := by
    funext a
    match a with
    | ⟨0, _⟩ => exact Fin.ext (by show o + 1 * f.val = q.val; omega)
    | ⟨1, _⟩ => exact Fin.ext (by show 0 + 1 * k.val = k.val; omega)
  exact (congrArg (iblk m c 3 t) e).trans (blk3 m c t q k)

/-- and columns `o` and on of the other weights. -/
theorem part2 (c : Dev nD) (t : Fin cfg0.N) (o : ℕ) (inb : ∀ a, (![0, o] : Fin 2 → ℕ) a + S1024x512.size a ≤ S1024x4608.size a) (k : Fin 1024) (f : Fin 512) (q : Fin 4608) (hq : q.val = o + f.val) :
    VecWindow.window (s := S1024x4608) (iblk m c 2 t) ![0, o] S1024x512.size inb (ix2 k f) = m ((c : Thread nD τ).loc main_arg2) (ix2 k q) := by
  have e : (Rect.unit (s := S1024x4608) ![0, o] S1024x512.size inb).emb (ix2 k f) = ix2 k q := by
    funext a
    match a with
    | ⟨0, _⟩ => exact Fin.ext (by show 0 + 1 * k.val = k.val; omega)
    | ⟨1, _⟩ => exact Fin.ext (by show o + 1 * f.val = q.val; omega)
  exact (congrArg (iblk m c 2 t) e).trans (blk2 m c t k q)

/-- The normalized rows of the arguments in memory. -/
abbrev rowsM (c : Dev nD) : FVec Ideal S16384x1024 .f32 :=
  Cert.Reference3Ideal.Value.rows (F := Ideal) (m ((c : Thread nD τ).loc main_arg0)) (m ((c : Thread nD τ).loc main_arg1))

theorem rows_at (c : Dev nD) (t : Fin cfg0.N) (r : Fin 512) (k : Fin 1024) :
    rowsM m c (ix2 (rowOf t r) k) = Project.normed (fun d => iblk m c 0 t (ix2 r d)) (fun d => iblk m c 1 t (ix2 (0 : Fin 1) d)) k := by
  have e0 : (fun d => m ((c : Thread nD τ).loc main_arg0) (ix2 (rowOf t r) d)) = fun d => iblk m c 0 t (ix2 r d) := funext fun d => (blk0 m c t r d).symm
  have e1 : (fun d => m ((c : Thread nD τ).loc main_arg1) (ix2 (0 : Fin 1) d)) = fun d => iblk m c 1 t (ix2 (0 : Fin 1) d) := funext fun d => (blk1 m c t d).symm
  exact (Cert.Reference3Ideal.Value.rows_apply _ _ _ k).trans ((congrArg (fun x => Project.normed x _ k) e0).trans (congrArg (fun g => Project.normed _ g k) e1))

/-- The kernel's normalized rows are those, rounded for the products -/
theorem rounded_at (c : Dev nD) (t : Fin cfg0.N) (r : Fin 512) (k : Fin 1024) :
    k0_pay5 (F := Ideal) (iblk m c 0 t) (iblk m c 1 t) (ix2 r k) = rowsM m c (ix2 (rowOf t r) k) :=
  (rounded_apply _ _ r k).trans (rows_at m c t r k).symm

/-- or as they are. -/
theorem unrounded_at (c : Dev nD) (t : Fin cfg0.N) (r : Fin 512) (k : Fin 1024) :
    k0_pay4 (F := Ideal) (iblk m c 0 t) (iblk m c 1 t) (ix2 r k) = rowsM m c (ix2 (rowOf t r) k) :=
  (normed_apply _ _ r k).trans (rows_at m c t r k).symm

end Cert.Kernel3Ideal.Project

end
-- ==== Proof.Project.Final.lean ====
/- The projection kernel's arrays of keys, values and gates: every grid point's block is the reference's there, and the blocks cover the arrays. -/
module

public import proofs.«01_k».proof.Proof.Project.Outputs
public import proofs.«01_k».proof.Proof.Project.Blocks

@[expose] public section

set_option maxRecDepth 16384

noncomputable section

namespace Cert.Kernel3Ideal.Project

open Cert.Kernel3Ideal Cert.Kernel3Ideal.Gen
open Idealize.ShloMosaic Idealize.ShloMosaic.TcCoe

variable (m : (ℓ : Loc nD τ sig) → Buf (Elt Ideal) ℓ)

/-- The arrays the reference computes of the arguments in memory: the forgetting heads' keys, -/
abbrev foxKeysM (c : Dev nD) : FVec Ideal S2x512x8192 .f32 := Cert.Reference3Ideal.Value.foxKeys (F := Ideal) (rowsM m c) (m ((c : Thread nD τ).loc main_arg3))
/-- their values, -/
abbrev foxValuesM (c : Dev nD) : FVec Ideal S2x512x8192 .f32 := Cert.Reference3Ideal.Value.foxValues (F := Ideal) (rowsM m c) (m ((c : Thread nD τ).loc main_arg3))
/-- the differential heads' keys, -/
abbrev diffKeysM (c : Dev nD) : FVec Ideal S2x512x8192 .f32 := Cert.Reference3Ideal.Value.diffKeys (F := Ideal) (rowsM m c) (m ((c : Thread nD τ).loc main_arg3))
/-- their values, -/
abbrev diffValuesM (c : Dev nD) : FVec Ideal S16384x512 .f32 := Cert.Reference3Ideal.Value.diffValues (F := Ideal) (rowsM m c) (m ((c : Thread nD τ).loc main_arg2))
/-- and the logarithms of the gates. -/
abbrev gatesM (c : Dev nD) : FVec Ideal S2x8x8192 .f32 :=
  Cert.Reference3Ideal.Value.logs (F := Ideal) (Cert.Reference3Ideal.Value.args (F := Ideal) (rowsM m c) (m ((c : Thread nD τ).loc main_arg5)) (m ((c : Thread nD τ).loc main_arg7)))

/-- A row of a point, by its sequence and position. -/
theorem rounded_row (c : Dev nD) (t : Fin cfg0.N) (r : Fin 512) (k : Fin 1024) (q : Fin 16384) (hq : q.val = (bOf t).val * 8192 + (posOf t r).val) :
    rounded m c t (ix2 r k) = rowsM m c (ix2 q k) :=
  have e : rowOf t r = q := Fin.ext ((congrArg Fin.val (row_eq t r (hq ▸ q.isLt))).symm.trans hq.symm)
  (rounded_at m c t r k).trans (congrArg (fun q => rowsM m c (ix2 q k)) e)

theorem unrounded_row (c : Dev nD) (t : Fin cfg0.N) (r : Fin 512) (k : Fin 1024) (q : Fin 16384) (hq : q.val = (bOf t).val * 8192 + (posOf t r).val) :
    unrounded m c t (ix2 r k) = rowsM m c (ix2 q k) :=
  have e : rowOf t r = q := Fin.ext ((congrArg Fin.val (row_eq t r (hq ▸ q.isLt))).symm.trans hq.symm)
  (unrounded_at m c t r k).trans (congrArg (fun q => rowsM m c (ix2 q k)) e)

/-! ## What a point writes, at an index of its block -/

theorem foxKey_at (c : Dev nD) (t : Fin cfg0.N) (f r : Fin 512) : (outsAt0 m c t.val t.isLt).2.2.2.2.2.1 (ix3 (0 : Fin 1) f r) = foxKeysM m c (ix3 (bOf t) f (posOf t r)) :=
  (congrFun (foxKey_eq m c t) _).trans ((foxKey_apply _ _ f r).trans ((Finset.sum_congr rfl fun k _ =>
    (mul_comm _ _).trans (pair (· * ·) (rounded_row m c t r k _ rfl) (part3 m c t 0 _ f k _ (Nat.zero_add _).symm))).trans
    (Cert.Reference3Ideal.Value.foxKeys_apply _ _ (bOf t) f (posOf t r)).symm))

theorem foxValue_at (c : Dev nD) (t : Fin cfg0.N) (f r : Fin 512) : (outsAt0 m c t.val t.isLt).2.2.2.2.2.2.1 (ix3 (0 : Fin 1) f r) = foxValuesM m c (ix3 (bOf t) f (posOf t r)) :=
  (congrFun (foxValue_eq m c t) _).trans ((foxValue_apply _ _ f r).trans ((Finset.sum_congr rfl fun k _ =>
    (mul_comm _ _).trans (pair (· * ·) (rounded_row m c t r k _ rfl) (part3 m c t 1024 _ f k _ rfl))).trans
    (Cert.Reference3Ideal.Value.foxValues_apply _ _ (bOf t) f (posOf t r)).symm))

theorem diffKey_at (c : Dev nD) (t : Fin cfg0.N) (f r : Fin 512) : (outsAt0 m c t.val t.isLt).2.2.2.2.2.2.2.1 (ix3 (0 : Fin 1) f r) = diffKeysM m c (ix3 (bOf t) f (posOf t r)) :=
  (congrFun (diffKey_eq m c t) _).trans ((diffKey_apply _ _ f r).trans ((Finset.sum_congr rfl fun k _ =>
    (mul_comm _ _).trans (pair (· * ·) (rounded_row m c t r k _ rfl) (part3 m c t 512 _ f k _ rfl))).trans
    (Cert.Reference3Ideal.Value.diffKeys_apply _ _ (bOf t) f (posOf t r)).symm))

theorem diffValue_at (c : Dev nD) (t : Fin cfg0.N) (r f : Fin 512) : (outsAt0 m c t.val t.isLt).2.2.2.2.2.2.2.2.1 (ix2 r f) = diffValuesM m c (ix2 (rowOf t r) f) :=
  (congrFun (diffValue_eq m c t) _).trans ((value_apply _ _ r f).trans ((Finset.sum_congr rfl fun k _ =>
    pair (· * ·) (rounded_at m c t r k) (part2 m c t 2048 _ k f _ rfl)).trans
    (Cert.Reference3Ideal.Value.diffValues_apply _ _ (rowOf t r) f).symm))

theorem gate_at (c : Dev nD) (t : Fin cfg0.N) (f : Fin 8) (r : Fin 512) : (outsAt0 m c t.val t.isLt).2.2.2.2.2.2.2.2.2.1 (ix3 (0 : Fin 1) f r) = gatesM m c (ix3 (bOf t) f (posOf t r)) :=
  (congrFun (gate_eq m c t) _).trans ((gate_apply _ _ _ f r).trans ((congrArg Project.logSig
    (pair (· + ·) (Finset.sum_congr rfl fun k _ => (mul_comm _ _).trans (pair (· * ·) (unrounded_row m c t r k _ rfl) (blk5 m c t f k))) (blk7 m c t f))).trans
    (Cert.Reference3Ideal.Value.logs_apply _ (bOf t) f (posOf t r) _ (Cert.Reference3Ideal.Value.args_apply _ _ _ (bOf t) f (posOf t r))).symm))

/-! ## The arrays -/

theorem index3 {n0 n1 n2 : ℕ} (z : (⟨3, ![n0, n1, n2]⟩ : Shape).Idx) (a : Fin n0) (b : Fin n1) (d : Fin n2) (h0 : (z 0).val = a.val) (h1 : (z 1).val = b.val) (h2 : (z 2).val = d.val) : z = ix3 a b d := by
  funext i
  match i with
  | ⟨0, _⟩ => exact Fin.ext h0
  | ⟨1, _⟩ => exact Fin.ext h1
  | ⟨2, _⟩ => exact Fin.ext h2

theorem index2 {n0 n1 : ℕ} (z : (⟨2, ![n0, n1]⟩ : Shape).Idx) (a : Fin n0) (b : Fin n1) (h0 : (z 0).val = a.val) (h1 : (z 1).val = b.val) : z = ix2 a b := by
  funext i
  match i with
  | ⟨0, _⟩ => exact Fin.ext h0
  | ⟨1, _⟩ => exact Fin.ext h1

theorem foxKeys_final (c : Dev nD) : (dats m 0 c).arrAt 17 cfg0.N = foxKeysM m c := by
  refine (dats m 0 c).arrAt_eq_of_covers 17 _ (by decide +kernel) fun t _ y => ?_
  blk_simp
  rw [after0_17]
  have hy : y = ix3 (0 : Fin 1) (y 1) (y 2) := index3 y _ _ _ (by have : (y 0).val < 1 := (y 0).isLt; show (y 0).val = 0; omega) rfl rfl
  refine (congrArg (outsAt0 m c t.val t.isLt).2.2.2.2.2.1 hy).trans ((foxKey_at m c t (y 1) (y 2)).trans (congrArg (foxKeysM m c) (index3 _ _ _ _ ?_ ?_ ?_).symm))
  · unfold bOf
    blk_simp [idx_out t]
  · blk_simp [idx_out t]
  · unfold posOf
    blk_simp [idx_out t]
    show t.val % 16 * 512 + (y 2).val = 512 * (t.val % 16) + (y 2).val
    rw [mul_comm]

theorem foxValues_final (c : Dev nD) : (dats m 0 c).arrAt 18 cfg0.N = foxValuesM m c := by
  refine (dats m 0 c).arrAt_eq_of_covers 18 _ (by decide +kernel) fun t _ y => ?_
  blk_simp
  rw [after0_18]
  have hy : y = ix3 (0 : Fin 1) (y 1) (y 2) := index3 y _ _ _ (by have : (y 0).val < 1 := (y 0).isLt; show (y 0).val = 0; omega) rfl rfl
  refine (congrArg (outsAt0 m c t.val t.isLt).2.2.2.2.2.2.1 hy).trans ((foxValue_at m c t (y 1) (y 2)).trans (congrArg (foxValuesM m c) (index3 _ _ _ _ ?_ ?_ ?_).symm))
  · unfold bOf
    blk_simp [idx_out t]
  · blk_simp [idx_out t]
  · unfold posOf
    blk_simp [idx_out t]
    show t.val % 16 * 512 + (y 2).val = 512 * (t.val % 16) + (y 2).val
    rw [mul_comm]

theorem diffKeys_final (c : Dev nD) : (dats m 0 c).arrAt 19 cfg0.N = diffKeysM m c := by
  refine (dats m 0 c).arrAt_eq_of_covers 19 _ (by decide +kernel) fun t _ y => ?_
  blk_simp
  rw [after0_19]
  have hy : y = ix3 (0 : Fin 1) (y 1) (y 2) := index3 y _ _ _ (by have : (y 0).val < 1 := (y 0).isLt; show (y 0).val = 0; omega) rfl rfl
  refine (congrArg (outsAt0 m c t.val t.isLt).2.2.2.2.2.2.2.1 hy).trans ((diffKey_at m c t (y 1) (y 2)).trans (congrArg (diffKeysM m c) (index3 _ _ _ _ ?_ ?_ ?_).symm))
  · unfold bOf
    blk_simp [idx_out t]
  · blk_simp [idx_out t]
  · unfold posOf
    blk_simp [idx_out t]
    show t.val % 16 * 512 + (y 2).val = 512 * (t.val % 16) + (y 2).val
    rw [mul_comm]

theorem gates_final (c : Dev nD) : (dats m 0 c).arrAt 21 cfg0.N = gatesM m c := by
  refine (dats m 0 c).arrAt_eq_of_covers 21 _ (by decide +kernel) fun t _ y => ?_
  blk_simp
  rw [after0_21]
  have hy : y = ix3 (0 : Fin 1) (y 1) (y 2) := index3 y _ _ _ (by have : (y 0).val < 1 := (y 0).isLt; show (y 0).val = 0; omega) rfl rfl
  refine (congrArg (outsAt0 m c t.val t.isLt).2.2.2.2.2.2.2.2.2.1 hy).trans ((gate_at m c t (y 1) (y 2)).trans (congrArg (gatesM m c) (index3 _ _ _ _ ?_ ?_ ?_).symm))
  · unfold bOf
    blk_simp [idx_out t]
  · blk_simp [idx_out t]
  · unfold posOf
    blk_simp [idx_out t]
    show t.val % 16 * 512 + (y 2).val = 512 * (t.val % 16) + (y 2).val
    rw [mul_comm]

theorem diffValues_final (c : Dev nD) : (dats m 0 c).arrAt 20 cfg0.N = diffValuesM m c := by
  refine (dats m 0 c).arrAt_eq_of_covers 20 _ (by decide +kernel) fun t _ y => ?_
  blk_simp
  rw [after0_20]
  have hy : y = ix2 (y 0) (y 1) := index2 y _ _ rfl rfl
  refine (congrArg (outsAt0 m c t.val t.isLt).2.2.2.2.2.2.2.2.1 hy).trans ((diffValue_at m c t (y 0) (y 1)).trans (congrArg (diffValuesM m c) (index2 _ _ _ ?_ ?_).symm))
  · unfold rowOf
    blk_simp [idx_out t]
    show t.val * 512 + (y 0).val = 512 * t.val + (y 0).val
    rw [mul_comm]
  · blk_simp [idx_out t]

end Cert.Kernel3Ideal.Project

end
-- ==== Proof.Project.Value.lean ====
/- The projection kernel's run leaves the reference's keys, values and gates, and its arguments unchanged. -/
module

public import proofs.«01_k».proof.Proof.Project.Final
public import proofs.«01_k».proof.Proof.Gen.Reference3Ideal.Run

@[expose] public section

set_option maxRecDepth 16384

noncomputable section

namespace Cert.Kernel3Ideal.Project

open Cert.Kernel3Ideal Cert.Kernel3Ideal.Gen
open Idealize.ShloMosaic Idealize.ShloMosaic.TcCoe Idealize.SL.Sem

variable (m : (ℓ : Loc nD τ sig) → Buf (Elt Ideal) ℓ) (ρ : Dev nD → PrngReg)

theorem run_blocks : θ_run (defs (F := Ideal)) (onTc (τ := τ) (main (F := Ideal))) ⟨m, fun _ => 0, ρ⟩ (fun r => ∀ c : Dev nD,
      r.2.mem ((c.tc : Thread nD τ).loc main_v0_5) = foxKeysM m c
      ∧ r.2.mem ((c.tc : Thread nD τ).loc main_v0_6) = foxValuesM m c
      ∧ r.2.mem ((c.tc : Thread nD τ).loc main_v0_7) = diffKeysM m c
      ∧ r.2.mem ((c.tc : Thread nD τ).loc main_v0_8) = diffValuesM m c
      ∧ r.2.mem ((c.tc : Thread nD τ).loc main_v0_9) = gatesM m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun _ h c => ⟨((h.1 c).1 17).trans (foxKeys_final m c), ((h.1 c).1 18).trans (foxValues_final m c), ((h.1 c).1 19).trans (diffKeys_final m c), ((h.1 c).1 20).trans (diffValues_final m c), ((h.1 c).1 21).trans (gates_final m c), h.2 c⟩)
    (θ_run_and (run_main m ρ) (unchanged m ρ))

end Cert.Kernel3Ideal.Project

end
-- ==== Proof.lean ====
/- The certificate: the attention kernel, the experts kernel and the projection kernel run and leave their arguments alone,
   at machine floats and over the extended reals. On finite arguments the attention kernel's result over the extended reals
   is its reference's; on routing in range so is the experts kernel's; and on any arguments so are the projection kernel's
   arrays of keys, values and forget gates. -/
module

public import proofs.«01_k».proof.Defs
public import proofs.«01_k».proof.Proof.Gen.Kernel
public import proofs.«01_k».proof.Proof.Bits.Frame
public import proofs.«01_k».proof.Proof.Gen.Kernel2
public import proofs.«01_k».proof.Proof.Gen.Kernel3
public import proofs.«01_k».proof.Proof.Gen.Kernel3Ideal
public import proofs.«01_k».proof.Proof.Gen.Kernel3Ideal.Frame
public import proofs.«01_k».proof.Proof.Gen.Kernel3.Frame
public import proofs.«01_k».proof.Proof.Gen.Reference3Ideal
public import proofs.«01_k».proof.Proof.Gen.Reference3Ideal.Run
public import proofs.«01_k».proof.Proof.Gen.Kernel2Ideal
public import proofs.«01_k».proof.Proof.Gen.Reference2Ideal
public import proofs.«01_k».proof.Proof.Gen.Reference2Ideal.Run
public import proofs.«01_k».proof.Proof.Gen.Pre_routed
public import proofs.«01_k».proof.Proof.Experts.Value
public import proofs.«01_k».proof.Proof.Experts.Bits.Pinned
public import proofs.«01_k».proof.Proof.Gen.KernelIdeal
public import proofs.«01_k».proof.Proof.Gen.ReferenceIdeal
public import proofs.«01_k».proof.Proof.Gen.ReferenceIdeal.Run
public import proofs.«01_k».proof.Proof.Gen.Pre_finite
public import proofs.«01_k».proof.Proof.Blocks
public import proofs.«01_k».proof.Proof.RefReal
public import proofs.«01_k».proof.Proof.Finite
public import Idealize.ShloMosaic.Adequacy
public import proofs.«01_k».proof.Proof.Project.Value
public import Idealize.ShloMosaic.Init

@[expose] public section

noncomputable section

namespace Cert.Proof

open Idealize.ShloMosaic Idealize.SL.Sem

/-- The reference's run, the arguments unchanged and every counter at zero: it has no semaphore. -/
theorem reference_frame (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0) :=
  (θ_run Cert.ReferenceIdeal.defs _ _).mono (fun r h => ⟨fun c => (h c).2, Idealize.ShloMosaic.sem_eq_zero_of_no_sems (by decide) r.2⟩)
    (Cert.ReferenceIdeal.Value.run (F := Ideal) m g)

/-- The reference's result on a core whose arguments but the gain are real. -/
theorem reference_value (l : FVec Ideal Cert.ReferenceIdeal.S1 .f32) (g : FVec Ideal Cert.ReferenceIdeal.S1x128 .f32)
    (Q QB K KB : Attn.Rows.Idx → ℝ) (V : Attn.Cols.Idx → ℝ) (L : ℝ) (hl : l (ix1 (0 : Fin 1)) = (L : EReal)) :
    Cert.ReferenceIdeal.Value.whole (F := Ideal) l (Attn.up Q) (Attn.up QB) (Attn.up K) (Attn.up KB) (Attn.up V) g
      = Cert.KernelIdeal.Value.whole Q QB K KB V L g := by
  funext i
  have hi : i = ix3 (i 0) (i 1) (i 2) := by
    funext a
    match a with
    | ⟨0, _⟩ => rfl
    | ⟨1, _⟩ => rfl
    | ⟨2, _⟩ => rfl
  exact (congrArg (Cert.ReferenceIdeal.Value.whole (F := Ideal) l (Attn.up Q) (Attn.up QB) (Attn.up K) (Attn.up KB) (Attn.up V) g) hi).trans
    (Cert.ReferenceIdeal.Value.whole_real l L hl g (i 0) (i 1) (i 2))

theorem frame_kernel : Cert.quiescent_Kernel (hKernel := Cert.Kernel.Gen.facts) := fun m g _ => Cert.Kernel.Value.frame m g

theorem value : Cert.algebraic_KernelIdeal_ReferenceIdeal_pre_finite (hKernelIdeal := Cert.KernelIdeal.Gen.facts)
    (hReferenceIdeal := Cert.ReferenceIdeal.Gen.facts) (hPre_finite := Cert.Pre_finite.Gen.facts) := by
  intro m g m' g' hpre hargs
  refine ⟨fun c => (Cert.KernelIdeal.Value.dats m 0 c).arrAt 7 Cert.KernelIdeal.cfg0.N, Cert.KernelIdeal.Value.run_blocks m g, ?_⟩
  refine (θ_run Cert.ReferenceIdeal.defs _ _).mono (fun r h c => ⟨(h c).1.trans ?_, (h c).2⟩) (Cert.ReferenceIdeal.Value.run (F := Ideal) m' g')
  obtain ⟨e0, e1, e2, e3, e4, e5, e6⟩ := hargs c
  obtain ⟨f0, f1, f2, f3, f4, f5⟩ := Cert.Pre_finite.Value.real _ _ _ _ _ _ _ (hpre c)
  have hr : Cert.KernelIdeal.Value.IsReal m c (fun a => EReal.toReal (m ((c.tc : Thread Cert.KernelIdeal.nD Cert.KernelIdeal.τ).loc Cert.KernelIdeal.main_arg1) a))
      (fun a => EReal.toReal (m ((c.tc : Thread Cert.KernelIdeal.nD Cert.KernelIdeal.τ).loc Cert.KernelIdeal.main_arg2) a))
      (fun a => EReal.toReal (m ((c.tc : Thread Cert.KernelIdeal.nD Cert.KernelIdeal.τ).loc Cert.KernelIdeal.main_arg3) a))
      (fun a => EReal.toReal (m ((c.tc : Thread Cert.KernelIdeal.nD Cert.KernelIdeal.τ).loc Cert.KernelIdeal.main_arg4) a))
      (fun a => EReal.toReal (m ((c.tc : Thread Cert.KernelIdeal.nD Cert.KernelIdeal.τ).loc Cert.KernelIdeal.main_arg5) a))
      (EReal.toReal (m ((c.tc : Thread Cert.KernelIdeal.nD Cert.KernelIdeal.τ).loc Cert.KernelIdeal.main_arg0) (ix1 (0 : Fin 1)))) :=
    ⟨f0 _, funext f1, funext f2, funext f3, funext f4, funext f5⟩
  refine (Cert.ReferenceIdeal.Value.res_eq m' c).trans ?_
  rw [e0, e1, e2, e3, e4, e5, e6, hr.q, hr.qb, hr.k, hr.kb, hr.v]
  exact (reference_value _ _ _ _ _ _ _ _ hr.lam).trans (Cert.KernelIdeal.Value.final m c hr).symm

/-- The experts' reference's run, the arguments unchanged and every counter at zero: it has no semaphore. -/
theorem experts_reference_frame (m : (ℓ : Loc Cert.Reference2Ideal.nD Cert.Reference2Ideal.τ Cert.Reference2Ideal.sig) → Buf (Elt Ideal) ℓ)
    (g : Dev Cert.Reference2Ideal.nD → PrngReg) :
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0) :=
  (θ_run Cert.Reference2Ideal.defs _ _).mono (fun r h => ⟨fun c => (h c).2, Idealize.ShloMosaic.sem_eq_zero_of_no_sems (by decide) r.2⟩)
    (Cert.Reference2Ideal.Value.run (F := Ideal) m g)

theorem experts_value : Cert.algebraic_Kernel2Ideal_Reference2Ideal (hKernel2Ideal := Cert.Kernel2Ideal.Gen.facts)
    (hReference2Ideal := Cert.Reference2Ideal.Gen.facts) (hPre_routed := Cert.Pre_routed.Gen.facts) := by
  intro m g m' g' hpre hargs
  have hp := Cert.Kernel2Ideal.Routed.pinned m hpre
  refine ⟨fun c => Cert.Kernel2Ideal.Routed.wholeM (Cert.Kernel2Ideal.Routed.tablesOf m hpre) m c, Cert.Kernel2Ideal.Routed.run_blocks _ m g hp, ?_⟩
  refine (θ_run Cert.Reference2Ideal.defs _ _).mono (fun r h c => ⟨(h c).1.trans ?_, (h c).2⟩) (Cert.Reference2Ideal.Value.run (F := Ideal) m' g')
  obtain ⟨e0, e1, e2, e3, e4, e5, e6⟩ := hargs c
  refine (Cert.Reference2Ideal.Value.res_eq m' c).trans ?_
  rw [e0, e1, e2, e3, e4, e5, e6, hp.1 c]
  exact Cert.Kernel2Ideal.Routed.reference_whole (Cert.Kernel2Ideal.Routed.tablesOf m hpre) _ (congrFun (hp.2 c) _) _ _ _ _ _

/-- The projection's reference's run, the arguments unchanged and every counter at zero: it has no semaphore. -/
theorem project_reference_frame (m : (ℓ : Loc Cert.Reference3Ideal.nD Cert.Reference3Ideal.τ Cert.Reference3Ideal.sig) → Buf (Elt Ideal) ℓ)
    (g : Dev Cert.Reference3Ideal.nD → PrngReg) :
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11))
      ∧ r.2.sem = fun _ => 0) :=
  (θ_run Cert.Reference3Ideal.defs _ _).mono (fun r h => ⟨fun c => (h c).2.2.2.2.2, Idealize.ShloMosaic.sem_eq_zero_of_no_sems (by decide) r.2⟩)
    (Cert.Reference3Ideal.Value.run (F := Ideal) m g)

theorem project_value : Cert.algebraic_Kernel3Ideal_Reference3Ideal (hKernel3Ideal := Cert.Kernel3Ideal.Gen.facts)
    (hReference3Ideal := Cert.Reference3Ideal.Gen.facts) := by
  intro m g m' g' _ hargs
  refine ⟨fun c => Cert.Kernel3Ideal.Project.foxKeysM m c, fun c => Cert.Kernel3Ideal.Project.foxValuesM m c, fun c => Cert.Kernel3Ideal.Project.diffKeysM m c, fun c => Cert.Kernel3Ideal.Project.diffValuesM m c, fun c => Cert.Kernel3Ideal.Project.gatesM m c, Cert.Kernel3Ideal.Project.run_blocks m g, ?_⟩
  refine (θ_run Cert.Reference3Ideal.defs _ _).mono (fun r h c => ?_) (Cert.Reference3Ideal.Value.run (F := Ideal) m' g')
  obtain ⟨e0, e1, e2, e3, e4, e5, e6, e7, e8, e9, e10, e11⟩ := hargs c
  have d0 : Cert.Reference3Ideal.Value.foxKeys (F := Ideal) (Cert.Reference3Ideal.Value.rows (F := Ideal) (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1))) (m' ((c.tc : Thread Cert.Reference3Ideal.nD Cert.Reference3Ideal.τ).loc Cert.Reference3Ideal.main_arg3)) = Cert.Kernel3Ideal.Project.foxKeysM m c := by
    rw [e0, e1, e3]
  have d1 : Cert.Reference3Ideal.Value.foxValues (F := Ideal) (Cert.Reference3Ideal.Value.rows (F := Ideal) (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1))) (m' ((c.tc : Thread Cert.Reference3Ideal.nD Cert.Reference3Ideal.τ).loc Cert.Reference3Ideal.main_arg3)) = Cert.Kernel3Ideal.Project.foxValuesM m c := by
    rw [e0, e1, e3]
  have d2 : Cert.Reference3Ideal.Value.diffKeys (F := Ideal) (Cert.Reference3Ideal.Value.rows (F := Ideal) (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1))) (m' ((c.tc : Thread Cert.Reference3Ideal.nD Cert.Reference3Ideal.τ).loc Cert.Reference3Ideal.main_arg3)) = Cert.Kernel3Ideal.Project.diffKeysM m c := by
    rw [e0, e1, e3]
  have d3 : Cert.Reference3Ideal.Value.diffValues (F := Ideal) (Cert.Reference3Ideal.Value.rows (F := Ideal) (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1))) (m' ((c.tc : Thread Cert.Reference3Ideal.nD Cert.Reference3Ideal.τ).loc Cert.Reference3Ideal.main_arg2)) = Cert.Kernel3Ideal.Project.diffValuesM m c := by
    rw [e0, e1, e2]
  have d4 : Cert.Reference3Ideal.Value.logs (F := Ideal) (Cert.Reference3Ideal.Value.args (F := Ideal) (Cert.Reference3Ideal.Value.rows (F := Ideal) (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1))) (m' ((c.tc : Thread Cert.Reference3Ideal.nD Cert.Reference3Ideal.τ).loc Cert.Reference3Ideal.main_arg5)) (m' ((c.tc : Thread Cert.Reference3Ideal.nD Cert.Reference3Ideal.τ).loc Cert.Reference3Ideal.main_arg7))) = Cert.Kernel3Ideal.Project.gatesM m c := by
    rw [e0, e1, e5, e7]
  exact ⟨(h c).1.trans d0, (h c).2.1.trans d1, (h c).2.2.1.trans d2, (h c).2.2.2.1.trans d3, (h c).2.2.2.2.1.trans ((Cert.Reference3Ideal.Value.res4_eq m' c).trans d4), (h c).2.2.2.2.2⟩

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts, Cert.Pre_finite.Gen.facts, Cert.Pre_routed.Gen.facts,
  frame_kernel, fun m g _ => Cert.KernelIdeal.Value.frame m g, fun m g _ => Cert.KernelIdeal.Value.frame m g,
  fun m g _ => reference_frame m g, fun m g _ => reference_frame m g,
  fun m g h => Cert.Kernel2.Routed.frame _ m g (Cert.Kernel2.Routed.pinned m h), fun m g h => Cert.Kernel2Ideal.Routed.frame _ m g (Cert.Kernel2Ideal.Routed.pinned m h),
  fun m g _ => experts_reference_frame m g, fun m g _ => experts_reference_frame m g,
  fun m g _ => Cert.Kernel3.Gen.frame m g, fun m g _ => Cert.Kernel3Ideal.Gen.frame m g, fun m g _ => project_reference_frame m g,
  trivial, value, trivial, experts_value, trivial, project_value⟩

end Cert.Proof

end
